-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_taps [hPre_finite_taps : Cert.Pre_finite_taps.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_taps.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_taps [hPre_finite_taps : Cert.Pre_finite_taps.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_taps.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_turn [hPre_finite_turn : Cert.Pre_finite_turn.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_turn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_turn [hPre_finite_turn : Cert.Pre_finite_turn.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_turn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_taps [hKernel3Ideal : Cert.Kernel3Ideal.Facts] [hPre_finite_taps : Cert.Pre_finite_taps.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_taps m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_taps [hReference3Ideal : Cert.Reference3Ideal.Facts] [hPre_finite_taps : Cert.Pre_finite_taps.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_taps m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_finite_turn [hKernel4Ideal : Cert.Kernel4Ideal.Facts] [hPre_finite_turn : Cert.Pre_finite_turn.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_turn m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_finite_turn [hReference4Ideal : Cert.Reference4Ideal.Facts] [hPre_finite_turn : Cert.Pre_finite_turn.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_turn m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v90) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal_pre_finite_taps [hKernel3Ideal : Cert.Kernel3Ideal.Facts] [hReference3Ideal : Cert.Reference3Ideal.Facts] [hPre_finite_taps : Cert.Pre_finite_taps.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_taps m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite_turn [hKernel4Ideal : Cert.Kernel4Ideal.Facts] [hReference4Ideal : Cert.Reference4Ideal.Facts] [hPre_finite_turn : Cert.Pre_finite_turn.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_turn m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v61_0)) (v1 : (c : Dev Cert.Kernel4Ideal.nD) → Buf (Elt Ideal) ((c.tc : Thread Cert.Kernel4Ideal.nD Cert.Kernel4Ideal.τ).loc Cert.Kernel4Ideal.main_v61_1)) (v2 : (c : Dev Cert.Kernel4Ideal.nD) → Buf (Elt Ideal) ((c.tc : Thread Cert.Kernel4Ideal.nD Cert.Kernel4Ideal.τ).loc Cert.Kernel4Ideal.main_v61_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v61_0) = v0 c
          ∧ r.2.mem ((c.tc : Thread Cert.Kernel4Ideal.nD Cert.Kernel4Ideal.τ).loc Cert.Kernel4Ideal.main_v61_1) = v1 c
          ∧ r.2.mem ((c.tc : Thread Cert.Kernel4Ideal.nD Cert.Kernel4Ideal.τ).loc Cert.Kernel4Ideal.main_v61_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v129) = v0 c
          ∧ r.2.mem ((c.tc : Thread Cert.Reference4Ideal.nD Cert.Reference4Ideal.τ).loc Cert.Reference4Ideal.main_v132) = v1 c
          ∧ r.2.mem ((c.tc : Thread Cert.Reference4Ideal.nD Cert.Reference4Ideal.τ).loc Cert.Reference4Ideal.main_v134) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite_taps : Cert.Pre_finite_taps.Facts) (hPre_finite_turn : Cert.Pre_finite_turn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_taps (hKernel3Ideal := hKernel3Ideal) (hPre_finite_taps := hPre_finite_taps)
    ∧ quiescent_Reference3Ideal (hReference3Ideal := hReference3Ideal)
    ∧ quiescent_Reference3Ideal_pre_finite_taps (hReference3Ideal := hReference3Ideal) (hPre_finite_taps := hPre_finite_taps)
    ∧ quiescent_Kernel4 (hKernel4 := hKernel4)
    ∧ quiescent_Kernel4Ideal (hKernel4Ideal := hKernel4Ideal)
    ∧ quiescent_Kernel4Ideal_pre_finite_turn (hKernel4Ideal := hKernel4Ideal) (hPre_finite_turn := hPre_finite_turn)
    ∧ quiescent_Reference4Ideal (hReference4Ideal := hReference4Ideal)
    ∧ quiescent_Reference4Ideal_pre_finite_turn (hReference4Ideal := hReference4Ideal) (hPre_finite_turn := hPre_finite_turn)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_taps (hKernel3Ideal := hKernel3Ideal) (hReference3Ideal := hReference3Ideal) (hPre_finite_taps := hPre_finite_taps)
    ∧ preserves_Kernel4_Kernel4Ideal
    ∧ algebraic_Kernel4Ideal_Reference4Ideal_pre_finite_turn (hKernel4Ideal := hKernel4Ideal) (hReference4Ideal := hReference4Ideal) (hPre_finite_turn := hPre_finite_turn)
-- ==== Pre_finite.lean ====
abbrev S8x16x128x2048 : Shape := ⟨4, ![8, 16, 128, 2048]⟩
abbrev S8x16x2048x128 : Shape := ⟨4, ![8, 16, 2048, 128]⟩
abbrev S8x16x64x2048 : Shape := ⟨4, ![8, 16, 64, 2048]⟩
abbrev S8x16x256x128 : Shape := ⟨4, ![8, 16, 256, 128]⟩
abbrev S8x16x64x256 : Shape := ⟨4, ![8, 16, 64, 256]⟩
abbrev S_ : Shape := ⟨0, ![]⟩

class Facts : Prop where
  bitsLt_bf16_f32 : FTy.bits .bf16 < FTy.bits .f32
  bcast_S_S8x16x128x2048 : S_.BroadcastsInDim S8x16x128x2048 (![] : Fin 0 → Fin S8x16x128x2048.rank)
  reducesTo_S8x16x128x2048_S_d0_1_2_3 : S8x16x128x2048.ReducesTo [0, 1, 2, 3] S_
  h_S_ : 0 < S_.numel
  bcast_S_S8x16x2048x128 : S_.BroadcastsInDim S8x16x2048x128 (![] : Fin 0 → Fin S8x16x2048x128.rank)
  reducesTo_S8x16x2048x128_S_d0_1_2_3 : S8x16x2048x128.ReducesTo [0, 1, 2, 3] S_
  bcast_S_S8x16x256x128 : S_.BroadcastsInDim S8x16x256x128 (![] : Fin 0 → Fin S8x16x256x128.rank)
  reducesTo_S8x16x256x128_S_d0_1_2_3 : S8x16x256x128.ReducesTo [0, 1, 2, 3] S_

variable [Facts]

def fn {F : FTy → Type} [FloatOps F] (main_arg0 : FVec F S8x16x128x2048 .bf16) (main_arg1 : FVec F S8x16x2048x128 .bf16) (main_arg2 : FVec F S8x16x64x2048 .bf16) (main_arg3 : FVec F S8x16x256x128 .bf16) (main_arg4 : FVec F S8x16x64x256 .bf16) : IVec S_ 1 :=
  let main_v0 : FVec F S8x16x128x2048 .f32 := (extf .f32 · bitsLt_bf16_f32) main_arg0
  let main_v1 : FVec F S8x16x128x2048 .f32 := Host.absf main_v0
  let main_cst : FVec F S_ .f32 := constant S_ .f32 0x7F800000#32
  let main_v2 : FVec F S8x16x128x2048 .f32 := broadcastInDim S8x16x128x2048 ![] bcast_S_S8x16x128x2048 main_cst
  let main_v3 : IVec S8x16x128x2048 1 := cmpf .olt main_v1 main_v2
  let main_c : IVec S_ 1 := constantI S_ 1 1#1
  let main_v4 : IVec S_ 1 := (fun x v => Host.reduce IntOp.andi x v reducesTo_S8x16x128x2048_S_d0_1_2_3 h_S_) main_v3 main_c
  let main_v5 : FVec F S8x16x2048x128 .f32 := (extf .f32 · bitsLt_bf16_f32) main_arg1
  let main_v6 : FVec F S8x16x2048x128 .f32 := Host.absf main_v5
  let main_cst_0 : FVec F S_ .f32 := constant S_ .f32 0x7F800000#32
  let main_v7 : FVec F S8x16x2048x128 .f32 := broadcastInDim S8x16x2048x128 ![] bcast_S_S8x16x2048x128 main_cst_0
  let main_v8 : IVec S8x16x2048x128 1 := cmpf .olt main_v6 main_v7
  let main_c_1 : IVec S_ 1 := constantI S_ 1 1#1
  let main_v9 : IVec S_ 1 := (fun x v => Host.reduce IntOp.andi x v reducesTo_S8x16x2048x128_S_d0_1_2_3 h_S_) main_v8 main_c_1
  let main_v10 : IVec S_ 1 := andi main_v4 main_v9
  let main_v11 : FVec F S8x16x256x128 .f32 := (extf .f32 · bitsLt_bf16_f32) main_arg3
  let main_v12 : FVec F S8x16x256x128 .f32 := Host.absf main_v11
  let main_cst_2 : FVec F S_ .f32 := constant S_ .f32 0x7F800000#32
  let main_v13 : FVec F S8x16x256x128 .f32 := broadcastInDim S8x16x256x128 ![] bcast_S_S8x16x256x128 main_cst_2
  let main_v14 : IVec S8x16x256x128 1 := cmpf .olt main_v12 main_v13
  let main_c_3 : IVec S_ 1 := constantI S_ 1 1#1
  let main_v15 : IVec S_ 1 := (fun x v => Host.reduce IntOp.andi x v reducesTo_S8x16x256x128_S_d0_1_2_3 h_S_) main_v14 main_c_3
  let main_v16 : IVec S_ 1 := andi main_v10 main_v15
  main_v16
-- ==== Pre_finite_taps.lean ====
abbrev S8x2048x1024 : Shape := ⟨3, ![8, 2048, 1024]⟩
abbrev S8x2x1024 : Shape := ⟨3, ![8, 2, 1024]⟩
abbrev S1024 : Shape := ⟨1, ![1024]⟩
abbrev S1024x3072 : Shape := ⟨2, ![1024, 3072]⟩
abbrev S3072 : Shape := ⟨1, ![3072]⟩
abbrev S3x3072 : Shape := ⟨2, ![3, 3072]⟩
abbrev S_ : Shape := ⟨0, ![]⟩

class Facts : Prop where
  bcast_S_S3072 : S_.BroadcastsInDim S3072 (![] : Fin 0 → Fin S3072.rank)
  reducesTo_S3072_S_d0 : S3072.ReducesTo [0] S_
  h_S_ : 0 < S_.numel
  bcast_S_S3x3072 : S_.BroadcastsInDim S3x3072 (![] : Fin 0 → Fin S3x3072.rank)
  reducesTo_S3x3072_S_d0_1 : S3x3072.ReducesTo [0, 1] S_

variable [Facts]

def fn {F : FTy → Type} [FloatOps F] (main_arg0 : FVec F S8x2048x1024 .f32) (main_arg1 : FVec F S8x2x1024 .f32) (main_arg2 : FVec F S1024 .f32) (main_arg3 : FVec F S1024x3072 .f32) (main_arg4 : FVec F S3072 .f32) (main_arg5 : FVec F S3x3072 .f32) (main_arg6 : FVec F S3072 .f32) : IVec S_ 1 :=
  let main_v0 : FVec F S3072 .f32 := Host.absf main_arg4
  let main_cst : FVec F S_ .f32 := constant S_ .f32 0x7F800000#32
  let main_v1 : FVec F S3072 .f32 := broadcastInDim S3072 ![] bcast_S_S3072 main_cst
  let main_v2 : IVec S3072 1 := cmpf .olt main_v0 main_v1
  let main_c : IVec S_ 1 := constantI S_ 1 1#1
  let main_v3 : IVec S_ 1 := (fun x v => Host.reduce IntOp.andi x v reducesTo_S3072_S_d0 h_S_) main_v2 main_c
  let main_v4 : FVec F S3x3072 .f32 := Host.absf main_arg5
  let main_cst_0 : FVec F S_ .f32 := constant S_ .f32 0x7F800000#32
  let main_v5 : FVec F S3x3072 .f32 := broadcastInDim S3x3072 ![] bcast_S_S3x3072 main_cst_0
  let main_v6 : IVec S3x3072 1 := cmpf .olt main_v4 main_v5
  let main_c_1 : IVec S_ 1 := constantI S_ 1 1#1
  let main_v7 : IVec S_ 1 := (fun x v => Host.reduce IntOp.andi x v reducesTo_S3x3072_S_d0_1 h_S_) main_v6 main_c_1
  let main_v8 : IVec S_ 1 := andi main_v3 main_v7
  main_v8
-- ==== Pre_finite_turn.lean ====
abbrev S8x2048x1024 : Shape := ⟨3, ![8, 2048, 1024]⟩
abbrev S8x2x1024 : Shape := ⟨3, ![8, 2, 1024]⟩
abbrev S1024 : Shape := ⟨1, ![1024]⟩
abbrev S1024x512 : Shape := ⟨2, ![1024, 512]⟩
abbrev S512 : Shape := ⟨1, ![512]⟩
abbrev S512x1536 : Shape := ⟨2, ![512, 1536]⟩
abbrev S1024x288 : Shape := ⟨2, ![1024, 288]⟩
abbrev S256 : Shape := ⟨1, ![256]⟩
abbrev S256x1024 : Shape := ⟨2, ![256, 1024]⟩
abbrev S_ : Shape := ⟨0, ![]⟩
abbrev S1024x32 : Shape := ⟨2, ![1024, 32]⟩

class Facts : Prop where
  bcast_S_S8x2x1024 : S_.BroadcastsInDim S8x2x1024 (![] : Fin 0 → Fin S8x2x1024.rank)
  reducesTo_S8x2x1024_S_d0_1_2 : S8x2x1024.ReducesTo [0, 1, 2] S_
  h_S_ : 0 < S_.numel
  bcast_S_S1024 : S_.BroadcastsInDim S1024 (![] : Fin 0 → Fin S1024.rank)
  reducesTo_S1024_S_d0 : S1024.ReducesTo [0] S_
  slices_S1024x288_S1024x32_0_256 : S1024x288.Slices ![0, 256] S1024x32
  bcast_S_S1024x32 : S_.BroadcastsInDim S1024x32 (![] : Fin 0 → Fin S1024x32.rank)
  reducesTo_S1024x32_S_d0_1 : S1024x32.ReducesTo [0, 1] S_

variable [Facts]

def fn {F : FTy → Type} [FloatOps F] (main_arg0 : FVec F S8x2048x1024 .f32) (main_arg1 : FVec F S8x2x1024 .f32) (main_arg2 : FVec F S1024 .f32) (main_arg3 : FVec F S1024x512 .f32) (main_arg4 : FVec F S512 .f32) (main_arg5 : FVec F S512x1536 .f32) (main_arg6 : FVec F S1024x288 .f32) (main_arg7 : FVec F S256 .f32) (main_arg8 : FVec F S256x1024 .f32) (main_arg9 : FVec F S256x1024 .f32) : IVec S_ 1 :=
  let main_v0 : FVec F S8x2x1024 .f32 := Host.absf main_arg1
  let main_cst : FVec F S_ .f32 := constant S_ .f32 0x7F800000#32
  let main_v1 : FVec F S8x2x1024 .f32 := broadcastInDim S8x2x1024 ![] bcast_S_S8x2x1024 main_cst
  let main_v2 : IVec S8x2x1024 1 := cmpf .olt main_v0 main_v1
  let main_c : IVec S_ 1 := constantI S_ 1 1#1
  let main_v3 : IVec S_ 1 := (fun x v => Host.reduce IntOp.andi x v reducesTo_S8x2x1024_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x32 .f32 := (extractStridedSlice S1024x32 ![0, 256] · slices_S1024x288_S1024x32_0_256) main_arg6
  let main_v10 : FVec F S1024x32 .f32 := Host.absf main_v9
  let main_cst_2 : FVec F S_ .f32 := constant S_ .f32 0x7F800000#32
  let main_v11 : FVec F S1024x32 .f32 := broadcastInDim S1024x32 ![] bcast_S_S1024x32 main_cst_2
  let main_v12 : IVec S1024x32 1 := cmpf .olt main_v10 main_v11
  let main_c_3 : IVec S_ 1 := constantI S_ 1 1#1
  let main_v13 : IVec S_ 1 := (fun x v => Host.reduce IntOp.andi x v reducesTo_S1024x32_S_d0_1 h_S_) main_v12 main_c_3
  let main_v14 : IVec S_ 1 := andi main_v8 main_v13
  main_v14
-- ==== Kernel.lean ====
abbrev S8x16x128x2048 : Shape := ⟨4, ![8, 16, 128, 2048]⟩
abbrev S8x16x2048x128 : Shape := ⟨4, ![8, 16, 2048, 128]⟩
abbrev S8x16x64x2048 : Shape := ⟨4, ![8, 16, 64, 2048]⟩
abbrev S8x16x256x128 : Shape := ⟨4, ![8, 16, 256, 128]⟩
abbrev S8x16x64x256 : Shape := ⟨4, ![8, 16, 64, 256]⟩
abbrev S8x2048x1024 : Shape := ⟨3, ![8, 2048, 1024]⟩
abbrev S1x16x128x512 : Shape := ⟨4, ![1, 16, 128, 512]⟩
abbrev S1x16x2048x128 : Shape := ⟨4, ![1, 16, 2048, 128]⟩
abbrev S1x16x64x2048 : Shape := ⟨4, ![1, 16, 64, 2048]⟩
abbrev S1x16x256x128 : Shape := ⟨4, ![1, 16, 256, 128]⟩
abbrev S1x16x64x256 : Shape := ⟨4, ![1, 16, 64, 256]⟩
abbrev S1x512x1024 : Shape := ⟨3, ![1, 512, 1024]⟩
abbrev S2304x512 : Shape := ⟨2, ![2304, 512]⟩
abbrev S1024x512 : Shape := ⟨2, ![1024, 512]⟩
abbrev S1x1x128x512 : Shape := ⟨4, ![1, 1, 128, 512]⟩
abbrev S128x512 : Shape := ⟨2, ![128, 512]⟩
abbrev S8x512 : Shape := ⟨2, ![8, 512]⟩
abbrev S1x1x256x128 : Shape := ⟨4, ![1, 1, 256, 128]⟩
abbrev S256x128 : Shape := ⟨2, ![256, 128]⟩
abbrev S256x512 : Shape := ⟨2, ![256, 512]⟩
abbrev S32x8x512 : Shape := ⟨3, ![32, 8, 512]⟩
abbrev S512 : Shape := ⟨1, ![512]⟩
abbrev S1x512 : Shape := ⟨2, ![1, 512]⟩
abbrev S64x512 : Shape := ⟨2, ![64, 512]⟩
abbrev S1x1x64x256 : Shape := ⟨4, ![1, 1, 64, 256]⟩
abbrev S64x256 : Shape := ⟨2, ![64, 256]⟩
abbrev S512x1024 : Shape := ⟨2, ![512, 1024]⟩

abbrev nBuf : Space → Nat
  | .hbm => 6
  | .vmem => 15
  | .smem => 0
  | _ => 0

abbrev bufTy : (tb : Table) → Fin (tcTables nBuf tb) → BufTy
  | .hbm, ⟨0, _⟩ => ⟨S8x16x128x2048, .bf16⟩
  | .hbm, ⟨1, _⟩ => ⟨S8x16x2048x128, .bf16⟩
  | .hbm, ⟨2, _⟩ => ⟨S8x16x64x2048, .bf16⟩
  | .hbm, ⟨3, _⟩ => ⟨S8x16x256x128, .bf16⟩
  | .hbm, ⟨4, _⟩ => ⟨S8x16x64x256, .bf16⟩
  | .hbm, ⟨5, _⟩ => ⟨S8x2048x1024, .bf16⟩
  | .local _ .vmem, ⟨0, _⟩ => ⟨S1x16x128x512, .bf16⟩
  | .local _ .vmem, ⟨1, _⟩ => ⟨S1x16x128x512, .bf16⟩
  | .local _ .vmem, ⟨2, _⟩ => ⟨S1x16x2048x128, .bf16⟩
  | .local _ .vmem, ⟨3, _⟩ => ⟨S1x16x2048x128, .bf16⟩
  | .local _ .vmem, ⟨4, _⟩ => ⟨S1x16x64x2048, .bf16⟩
  | .local _ .vmem, ⟨5, _⟩ => ⟨S1x16x64x2048, .bf16⟩
  | .local _ .vmem, ⟨6, _⟩ => ⟨S1x16x256x128, .bf16⟩
  | .local _ .vmem, ⟨7, _⟩ => ⟨S1x16x256x128, .bf16⟩
  | .local _ .vmem, ⟨8, _⟩ => ⟨S1x16x64x256, .bf16⟩
  | .local _ .vmem, ⟨9, _⟩ => ⟨S1x16x64x256, .bf16⟩
  | .local _ .vmem, ⟨10, _⟩ => ⟨S1x512x1024, .bf16⟩
  | .local _ .vmem, ⟨11, _⟩ => ⟨S1x512x1024, .bf16⟩
  | .local _ .vmem, ⟨12, _⟩ => ⟨S2304x512, .f32⟩
  | .local _ .vmem, ⟨13, _⟩ => ⟨S2304x512, .f32⟩
  | .local _ .vmem, ⟨14, _⟩ => ⟨S1024x512, .f32⟩
  | _, _ => ⟨S8x16x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c7_i32 : BitVec 32 := 7#32
  let v86 : BitVec 32 := Scalar.addi c0_i32 c7_i32
  let c1_i32 : BitVec 32 := 1#32
  ⟨c0_i32, v86, c1_i32⟩
def k0_off1 (k0_t1 : Fin k0_t1_loop.trips) (c1_i32_302 : BitVec 32) : Fin 4 → Nat :=
  let c0_303 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let v419 : BitVec 32 := Scalar.addi v418 c1_i32_302
  let v420 : Index := Scalar.indexCast v419
  let c0_304 : Index := 0#32
  let c0_305 : Index := 0#32
  ![0, v420.toNat, 0, 0]
def k0_off2 (k0_t1 : Fin k0_t1_loop.trips) (c1_i32_302 : BitVec 32) : Fin 4 → Nat :=
  let c0_309 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let v419 : BitVec 32 := Scalar.addi v418 c1_i32_302
  let v426 : Index := Scalar.indexCast v419
  let c0_310 : Index := 0#32
  let c0_311 : Index := 0#32
  ![0, v426.toNat, 0, 0]
def k0_off3 (k0_t1 : Fin k0_t1_loop.trips) : Fin 4 → Nat :=
  let c0_319 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let v443 : Index := Scalar.indexCast v418
  let c0_320 : Index := 0#32
  let c0_321 : Index := 0#32
  ![0, v443.toNat, 0, 0]
def k0_off4 (k0_t1 : Fin k0_t1_loop.trips) (c1_i32_302 : BitVec 32) : Fin 4 → Nat :=
  let c0_323 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let v419 : BitVec 32 := Scalar.addi v418 c1_i32_302
  let v449 : Index := Scalar.indexCast v419
  let c0_324 : Index := 0#32
  let c0_325 : Index := 0#32
  ![0, v449.toNat, 0, 0]
def k0_off5 (k0_t1 : Fin k0_t1_loop.trips) : Fin 4 → Nat :=
  let c0_333 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let v466 : Index := Scalar.indexCast v418
  let c0_334 : Index := 0#32
  let c0_335 : Index := 0#32
  ![0, v466.toNat, 0, 0]
def k0_off6 (k0_t1 : Fin k0_t1_loop.trips) (c1_i32_302 : BitVec 32) : Fin 4 → Nat :=
  let c0_337 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let v419 : BitVec 32 := Scalar.addi v418 c1_i32_302
  let v472 : Index := Scalar.indexCast v419
  let c256_338 : Index := 256#32
  let c0_339 : Index := 0#32
  ![0, v472.toNat, 256, 0]
def k0_off7 (k0_t1 : Fin k0_t1_loop.trips) : Fin 4 → Nat :=
  let c0_347 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let v489 : Index := Scalar.indexCast v418
  let c0_348 : Index := 0#32
  let c256_349 : Index := 256#32
  ![0, v489.toNat, 0, 256]
def k0_off8 (k0_t1 : Fin k0_t1_loop.trips) (c1_i32_302 : BitVec 32) : Fin 4 → Nat :=
  let c0_351 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let v419 : BitVec 32 := Scalar.addi v418 c1_i32_302
  let v495 : Index := Scalar.indexCast v419
  let c512_352 : Index := 512#32
  let c0_353 : Index := 0#32
  ![0, v495.toNat, 512, 0]
def k0_off9 (k0_t1 : Fin k0_t1_loop.trips) : Fin 4 → Nat :=
  let c0_361 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let v512 : Index := Scalar.indexCast v418
  let c0_362 : Index := 0#32
  let c512_363 : Index := 512#32
  ![0, v512.toNat, 0, 512]
def k0_off10 (k0_t1 : Fin k0_t1_loop.trips) (c1_i32_302 : BitVec 32) : Fin 4 → Nat :=
  let c0_365 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let v419 : BitVec 32 := Scalar.addi v418 c1_i32_302
  let v518 : Index := Scalar.indexCast v419
  let c768_366 : Index := 768#32
  let c0_367 : Index := 0#32
  ![0, v518.toNat, 768, 0]
def k0_off11 (k0_t1 : Fin k0_t1_loop.trips) : Fin 4 → Nat :=
  let c0_375 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let v535 : Index := Scalar.indexCast v418
  let c0_376 : Index := 0#32
  let c768_377 : Index := 768#32
  ![0, v535.toNat, 0, 768]
def k0_off12 (k0_t1 : Fin k0_t1_loop.trips) (c1_i32_302 : BitVec 32) : Fin 4 → Nat :=
  let c0_379 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let v419 : BitVec 32 := Scalar.addi v418 c1_i32_302
  let v541 : Index := Scalar.indexCast v419
  let c1024_380 : Index := 1024#32
  let c0_381 : Index := 0#32
  ![0, v541.toNat, 1024, 0]
def k0_off13 (k0_t1 : Fin k0_t1_loop.trips) : Fin 4 → Nat :=
  let c0_389 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let v558 : Index := Scalar.indexCast v418
  let c0_390 : Index := 0#32
  let c1024_391 : Index := 1024#32
  ![0, v558.toNat, 0, 1024]
def k0_off14 (k0_t1 : Fin k0_t1_loop.trips) (c1_i32_302 : BitVec 32) : Fin 4 → Nat :=
  let c0_393 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let v419 : BitVec 32 := Scalar.addi v418 c1_i32_302
  let v564 : Index := Scalar.indexCast v419
  let c1280_394 : Index := 1280#32
  let c0_395 : Index := 0#32
  ![0, v564.toNat, 1280, 0]
def k0_off15 (k0_t1 : Fin k0_t1_loop.trips) : Fin 4 → Nat :=
  let c0_403 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let v581 : Index := Scalar.indexCast v418
  let c0_404 : Index := 0#32
  let c1280_405 : Index := 1280#32
  ![0, v581.toNat, 0, 1280]
def k0_off16 (k0_t1 : Fin k0_t1_loop.trips) (c1_i32_302 : BitVec 32) : Fin 4 → Nat :=
  let c0_407 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let v419 : BitVec 32 := Scalar.addi v418 c1_i32_302
  let v587 : Index := Scalar.indexCast v419
  let c1536_408 : Index := 1536#32
  let c0_409 : Index := 0#32
  ![0, v587.toNat, 1536, 0]
def k0_off17 (k0_t1 : Fin k0_t1_loop.trips) : Fin 4 → Nat :=
  let c0_417 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let v604 : Index := Scalar.indexCast v418
  let c0_418 : Index := 0#32
  let c1536_419 : Index := 1536#32
  ![0, v604.toNat, 0, 1536]
def k0_off18 (k0_t1 : Fin k0_t1_loop.trips) (c1_i32_302 : BitVec 32) : Fin 4 → Nat :=
  let c0_421 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let v419 : BitVec 32 := Scalar.addi v418 c1_i32_302
  let v610 : Index := Scalar.indexCast v419
  let c1792_422 : Index := 1792#32
  let c0_423 : Index := 0#32
  ![0, v610.toNat, 1792, 0]
def k0_off19 (k0_t1 : Fin k0_t1_loop.trips) : Fin 4 → Nat :=
  let c0_431 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let v627 : Index := Scalar.indexCast v418
  let c0_432 : Index := 0#32
  let c1792_433 : Index := 1792#32
  ![0, v627.toNat, 0, 1792]
def k0_mult1 (k0_t1 : Fin k0_t1_loop.trips) : BitVec 32 :=
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let c64_i32 : BitVec 32 := 64#32
  let v637 : BitVec 32 := Scalar.muli v418 c64_i32
  v637
def k0_off20 (k0_t1 : Fin k0_t1_loop.trips) : Fin 2 → Nat :=
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let c64_i32 : BitVec 32 := 64#32
  let v637 : BitVec 32 := Scalar.muli v418 c64_i32
  let v638 : BitVec 32 := v637
  let v639 : Index := Scalar.indexCast v638
  let c0_436 : Index := 0#32
  ![v639.toNat, 0]
def k0_off21 (k0_t1 : Fin k0_t1_loop.trips) : Fin 4 → Nat :=
  let c0_456 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let c1_i32_439 : BitVec 32 := 1#32
  let v646 : BitVec 32 := Scalar.addi v418 c1_i32_439
  let v670 : Index := Scalar.indexCast v646
  let c0_457 : Index := 0#32
  let c0_458 : Index := 0#32
  ![0, v670.toNat, 0, 0]
def k0_off22 (k0_t1 : Fin k0_t1_loop.trips) : Fin 4 → Nat :=
  let c0_470 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let c1_i32_439 : BitVec 32 := 1#32
  let v646 : BitVec 32 := Scalar.addi v418 c1_i32_439
  let v693 : Index := Scalar.indexCast v646
  let c0_471 : Index := 0#32
  let c0_472 : Index := 0#32
  ![0, v693.toNat, 0, 0]
def k0_off23 (k0_t1 : Fin k0_t1_loop.trips) : Fin 4 → Nat :=
  let c0_484 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let c1_i32_439 : BitVec 32 := 1#32
  let v646 : BitVec 32 := Scalar.addi v418 c1_i32_439
  let v716 : Index := Scalar.indexCast v646
  let c0_485 : Index := 0#32
  let c256_486 : Index := 256#32
  ![0, v716.toNat, 0, 256]
def k0_off24 (k0_t1 : Fin k0_t1_loop.trips) : Fin 4 → Nat :=
  let c0_498 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let c1_i32_439 : BitVec 32 := 1#32
  let v646 : BitVec 32 := Scalar.addi v418 c1_i32_439
  let v739 : Index := Scalar.indexCast v646
  let c0_499 : Index := 0#32
  let c512_500 : Index := 512#32
  ![0, v739.toNat, 0, 512]
def k0_off25 (k0_t1 : Fin k0_t1_loop.trips) : Fin 4 → Nat :=
  let c0_512 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let c1_i32_439 : BitVec 32 := 1#32
  let v646 : BitVec 32 := Scalar.addi v418 c1_i32_439
  let v762 : Index := Scalar.indexCast v646
  let c0_513 : Index := 0#32
  let c768_514 : Index := 768#32
  ![0, v762.toNat, 0, 768]
def k0_off26 (k0_t1 : Fin k0_t1_loop.trips) : Fin 4 → Nat :=
  let c0_526 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let c1_i32_439 : BitVec 32 := 1#32
  let v646 : BitVec 32 := Scalar.addi v418 c1_i32_439
  let v785 : Index := Scalar.indexCast v646
  let c0_527 : Index := 0#32
  let c1024_528 : Index := 1024#32
  ![0, v785.toNat, 0, 1024]
def k0_off27 (k0_t1 : Fin k0_t1_loop.trips) : Fin 4 → Nat :=
  let c0_540 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let c1_i32_439 : BitVec 32 := 1#32
  let v646 : BitVec 32 := Scalar.addi v418 c1_i32_439
  let v808 : Index := Scalar.indexCast v646
  let c0_541 : Index := 0#32
  let c1280_542 : Index := 1280#32
  ![0, v808.toNat, 0, 1280]
def k0_off28 (k0_t1 : Fin k0_t1_loop.trips) : Fin 4 → Nat :=
  let c0_554 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let c1_i32_439 : BitVec 32 := 1#32
  let v646 : BitVec 32 := Scalar.addi v418 c1_i32_439
  let v831 : Index := Scalar.indexCast v646
  let c0_555 : Index := 0#32
  let c1536_556 : Index := 1536#32
  ![0, v831.toNat, 0, 1536]
def k0_off29 (k0_t1 : Fin k0_t1_loop.trips) : Fin 4 → Nat :=
  let c0_568 : Index := 0#32
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let c1_i32_439 : BitVec 32 := 1#32
  let v646 : BitVec 32 := Scalar.addi v418 c1_i32_439
  let v854 : Index := Scalar.indexCast v646
  let c0_569 : Index := 0#32
  let c1792_570 : Index := 1792#32
  ![0, v854.toNat, 0, 1792]
def k0_mult2 (k0_t1 : Fin k0_t1_loop.trips) : BitVec 32 :=
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let c1_i32_439 : BitVec 32 := 1#32
  let v646 : BitVec 32 := Scalar.addi v418 c1_i32_439
  let c64_i32_573 : BitVec 32 := 64#32
  let v864 : BitVec 32 := Scalar.muli v646 c64_i32_573
  v864
def k0_off30 (k0_t1 : Fin k0_t1_loop.trips) : Fin 2 → Nat :=
  let c2_i32 : BitVec 32 := 2#32
  let c0_i32 : BitVec 32 := 0#32
  let c1_i32 : BitVec 32 := 1#32
  let arg11 : BitVec 32 := Scf.iv c0_i32 c1_i32 k0_t1
  let v418 : BitVec 32 := Scalar.muli c2_i32 arg11
  let c1_i32_439 : BitVec 32 := 1#32
  let v646 : BitVec 32 := Scalar.addi v418 c1_i32_439
  let c64_i32_573 : BitVec 32 := 64#32
  let v864 : BitVec 32 := Scalar.muli v646 c64_i32_573
  let v865 : BitVec 32 := v864
  let v866 : Index := Scalar.indexCast v865
  let c0_574 : Index := 0#32
  ![v866.toNat, 0]
def k0_mult3 : BitVec 32 :=
  let c896_i32 : BitVec 32 := 896#32
  c896_i32
def k0_mult4 : BitVec 32 :=
  let c960_i32 : BitVec 32 := 960#32
  c960_i32
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x16x128x2048 : Shape := ⟨4, ![8, 16, 128, 2048]⟩
abbrev S8x16x2048x128 : Shape := ⟨4, ![8, 16, 2048, 128]⟩
abbrev S8x16x64x2048 : Shape := ⟨4, ![8, 16, 64, 2048]⟩
abbrev S8x16x256x128 : Shape := ⟨4, ![8, 16, 256, 128]⟩
abbrev S8x16x64x256 : Shape := ⟨4, ![8, 16, 64, 256]⟩
abbrev S8x2048x16x128 : Shape := ⟨4, ![8, 2048, 16, 128]⟩
abbrev S8x16x2304x128 : Shape := ⟨4, ![8, 16, 2304, 128]⟩
abbrev S8x2304x16x128 : Shape := ⟨4, ![8, 2304, 16, 128]⟩
abbrev S8x16x64x2304 : Shape := ⟨4, ![8, 16, 64, 2304]⟩
abbrev S8x2304x16x64 : Shape := ⟨4, ![8, 2304, 16, 64]⟩
abbrev S8x16x2048x2304 : Shape := ⟨4, ![8, 16, 2048, 2304]⟩
abbrev S_ : Shape := ⟨0, ![]⟩
abbrev S8x16x2048 : Shape := ⟨3, ![8, 16, 2048]⟩
abbrev S8x16x2048x1 : Shape := ⟨4, ![8, 16, 2048, 1]⟩
abbrev S8x2048x16x64 : Shape := ⟨4, ![8, 2048, 16, 64]⟩
abbrev S8x2048x1024 : Shape := ⟨3, ![8, 2048, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8x16x128x2048, .bf16⟩
  | .hbm, ⟨1, _⟩ => ⟨S8x16x2048x128, .bf16⟩
  | .hbm, ⟨2, _⟩ => ⟨S8x16x64x2048, .bf16⟩
  | .hbm, ⟨3, _⟩ => ⟨S8x16x256x128, .bf16⟩
  | .hbm, ⟨4, _⟩ => ⟨S8x16x64x256, .bf16⟩
  | .hbm, ⟨5, _⟩ => ⟨S8x16x128x2048, .f32⟩
  | .hbm, ⟨6, _⟩ => ⟨S8x2048x16x128, .f32⟩
  | .hbm, ⟨7, _⟩ => ⟨S8x16x256x128, .f32⟩
  | .hbm, ⟨8, _⟩ => ⟨S8x16x2048x128, .f32⟩
  | .hbm, ⟨9, _⟩ => ⟨S8x16x2304x128, .f32⟩
  | .hbm, ⟨10, _⟩ => ⟨S8x2304x16x128, .f32⟩
  | .hbm, ⟨11, _⟩ => ⟨S8x16x64x256, .f32⟩
  | .hbm, ⟨12, _⟩ => ⟨S8x16x64x2048, .f32⟩
  | .hbm, ⟨13, _⟩ => ⟨S8x16x64x2304, .f32⟩
  | .hbm, ⟨14, _⟩ => ⟨S8x2304x16x64, .f32⟩
  | .hbm, ⟨15, _⟩ => ⟨S8x16x2048x2304, .f32⟩
  | .hbm, ⟨16, _⟩ => ⟨S_, .f32⟩
  | .hbm, ⟨17, _⟩ => ⟨S_, .f32⟩
  | .hbm, ⟨18, _⟩ => ⟨S8x16x2048x2304, .f32⟩
  | .hbm, ⟨19, _⟩ => ⟨S8x16x2048x2304, .f32⟩
  | .hbm, ⟨20, _⟩ => ⟨S_, .f32⟩
  | .hbm, ⟨21, _⟩ => ⟨S8x16x2048, .f32⟩
  | .hbm, ⟨22, _⟩ => ⟨S_, .f32⟩
  | .hbm, ⟨23, _⟩ => ⟨S8x16x2048, .f32⟩
  | .hbm, ⟨24, _⟩ => ⟨S8x16x2048, .f32⟩
  | .hbm, ⟨25, _⟩ => ⟨S8x16x2048x1, .f32⟩
  | .hbm, ⟨26, _⟩ => ⟨S8x16x2048x2304, .f32⟩
  | .hbm, ⟨27, _⟩ => ⟨S8x16x2048x2304, .f32⟩
  | .hbm, ⟨28, _⟩ => ⟨S8x16x2048x2304, .f32⟩
  | .hbm, ⟨29, _⟩ => ⟨S_, .f32⟩
  | .hbm, ⟨30, _⟩ => ⟨S8x16x2048, .f32⟩
  | .hbm, ⟨31, _⟩ => ⟨S8x16x2048x1, .f32⟩
  | .hbm, ⟨32, _⟩ => ⟨S8x16x2048x2304, .f32⟩
  | .hbm, ⟨33, _⟩ => ⟨S8x16x2048x2304, .f32⟩
  | .hbm, ⟨34, _⟩ => ⟨S8x16x64x2048, .f32⟩
  | .hbm, ⟨35, _⟩ => ⟨S8x2048x16x64, .f32⟩
  | .hbm, ⟨36, _⟩ => ⟨S8x2048x1024, .f32⟩
  | .hbm, ⟨37, _⟩ => ⟨S8x2048x1024, .bf16⟩
  | _, _ => ⟨S8x16x128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x4x1024 : Shape := ⟨3, ![8, 4, 1024]⟩
abbrev S1024x1024 : Shape := ⟨2, ![1024, 1024]⟩
abbrev S1024 : Shape := ⟨1, ![1024]⟩
abbrev S2x1024x5632 : Shape := ⟨3, ![2, 1024, 5632]⟩
abbrev S3x5632 : Shape := ⟨2, ![3, 5632]⟩
abbrev S5632 : Shape := ⟨1, ![5632]⟩
abbrev S2x2816x1024 : Shape := ⟨3, ![2, 2816, 1024]⟩
abbrev S1x1024 : Shape := ⟨2, ![1, 1024]⟩
abbrev S1x5632 : Shape := ⟨2, ![1, 5632]⟩
abbrev S1x16x1024 : Shape := ⟨3, ![1, 16, 1024]⟩
abbrev S1x512x1024 : Shape := ⟨3, ![1, 512, 1024]⟩
abbrev S1x4x1024 : Shape := ⟨3, ![1, 4, 1024]⟩
abbrev S1x1024x5632 : Shape := ⟨3, ![1, 1024, 5632]⟩
abbrev S1x2816x1024 : Shape := ⟨3, ![1, 2816, 1024]⟩
abbrev S2x2x528x256 : Shape := ⟨4, ![2, 2, 528, 256]⟩
abbrev S512x2816 : Shape := ⟨2, ![512, 2816]⟩
abbrev S1x1x1024 : Shape := ⟨3, ![1, 1, 1024]⟩
abbrev S16x1024 : Shape := ⟨2, ![16, 1024]⟩
abbrev S512x1024 : Shape := ⟨2, ![512, 1024]⟩
abbrev S544x1024 : Shape := ⟨2, ![544, 1024]⟩
abbrev S528x1 : Shape := ⟨2, ![528, 1]⟩
abbrev S288x1024 : Shape := ⟨2, ![288, 1024]⟩
abbrev S272x1024 : Shape := ⟨2, ![272, 1024]⟩
abbrev S272 : Shape := ⟨1, ![272]⟩
abbrev S272x1 : Shape := ⟨2, ![272, 1]⟩
abbrev S256x1024 : Shape := ⟨2, ![256, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S272x256 : Shape := ⟨2, ![272, 256]⟩
abbrev S1x1x272x256 : Shape := ⟨4, ![1, 1, 272, 256]⟩
abbrev S256x256 : Shape := ⟨2, ![256, 256]⟩
abbrev S1x1x256x256 : Shape := ⟨4, ![1, 1, 256, 256]⟩
abbrev S528x1024 : Shape := ⟨2, ![528, 1024]⟩
abbrev S1x256 : Shape := ⟨2, ![1, 256]⟩
abbrev S1x1x528x256 : Shape := ⟨4, ![1, 1, 528, 256]⟩
abbrev S528x256 : Shape := ⟨2, ![528, 256]⟩
abbrev S512x256 : Shape := ⟨2, ![512, 256]⟩
abbrev S256x2816 : Shape := ⟨2, ![256, 2816]⟩
abbrev S2816x1024 : Shape := ⟨2, ![2816, 1024]⟩
abbrev S1x256x1024 : Shape := ⟨3, ![1, 256, 1024]⟩

abbrev nBuf : Space → Nat
  | .hbm => 17
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x4x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S2x1024x5632, .bf16⟩
  | .hbm, ⟨7, _⟩ => ⟨S3x5632, .f32⟩
  | .hbm, ⟨8, _⟩ => ⟨S5632, .f32⟩
  | .hbm, ⟨9, _⟩ => ⟨S2x2816x1024, .bf16⟩
  | .hbm, ⟨10, _⟩ => ⟨S1024, .f32⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S1x5632, .f32⟩
  | .hbm, ⟨15, _⟩ => ⟨S1x1024, .f32⟩
  | .hbm, ⟨16, _⟩ => ⟨S8x2048x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x16x1024, .bf16⟩
  | .local _ .vmem, ⟨7, _⟩ => ⟨S1x16x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x16x1024, .bf16⟩
  | .local _ .vmem, ⟨11, _⟩ => ⟨S1x16x1024, .bf16⟩
  | .local _ .vmem, ⟨12, _⟩ => ⟨S1x4x1024, .f32⟩
  | .local _ .vmem, ⟨13, _⟩ => ⟨S1x4x1024, .f32⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x1024x5632, .bf16⟩
  | .local _ .vmem, ⟨18, _⟩ => ⟨S3x5632, .f32⟩
  | .local _ .vmem, ⟨19, _⟩ => ⟨S1x5632, .f32⟩
  | .local _ .vmem, ⟨20, _⟩ => ⟨S1x2816x1024, .bf16⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | .local _ .vmem, ⟨24, _⟩ => ⟨S2x2x528x256, .f32⟩
  | .local _ .vmem, ⟨25, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S8x2048x1024 : Shape := ⟨3, ![8, 2048, 1024]⟩
abbrev S8x4x1024 : Shape := ⟨3, ![8, 4, 1024]⟩
abbrev S1024x1024 : Shape := ⟨2, ![1024, 1024]⟩
abbrev S1024 : Shape := ⟨1, ![1024]⟩
abbrev S2x1024x5632 : Shape := ⟨3, ![2, 1024, 5632]⟩
abbrev S3x5632 : Shape := ⟨2, ![3, 5632]⟩
abbrev S5632 : Shape := ⟨1, ![5632]⟩
abbrev S2x2816x1024 : Shape := ⟨3, ![2, 2816, 1024]⟩
abbrev S8x1x1024 : Shape := ⟨3, ![8, 1, 1024]⟩
abbrev S8x1024 : Shape := ⟨2, ![8, 1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩
abbrev S1x1024x5632 : Shape := ⟨3, ![1, 1024, 5632]⟩
abbrev S1024x5632 : Shape := ⟨2, ![1024, 5632]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩
abbrev S1x2816x1024 : Shape := ⟨3, ![1, 2816, 1024]⟩
abbrev S2816x1024 : Shape := ⟨2, ![2816, 1024]⟩

abbrev nBuf : Space → Nat
  | .hbm => 119
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x4x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S2x1024x5632, .bf16⟩
  | .hbm, ⟨7, _⟩ => ⟨S3x5632, .f32⟩
  | .hbm, ⟨8, _⟩ => ⟨S5632, .f32⟩
  | .hbm, ⟨9, _⟩ => ⟨S2x2816x1024, .bf16⟩
  | .hbm, ⟨10, _⟩ => ⟨S1024, .f32⟩
  | .hbm, ⟨11, _⟩ => ⟨S8x1x1024, .f32⟩
  | .hbm, ⟨12, _⟩ => ⟨S8x1024, .f32⟩
  | .hbm, ⟨13, _⟩ => ⟨S8x1x1024, .f32⟩
  | .hbm, ⟨14, _⟩ => ⟨S8x1x1024, .f32⟩
  | .hbm, ⟨15, _⟩ => ⟨S8x1024, .f32⟩
  | .hbm, ⟨16, _⟩ => ⟨S8x1x1024, .f32⟩
  | .hbm, ⟨17, _⟩ => ⟨S8x1x1024, .f32⟩
  | .hbm, ⟨18, _⟩ => ⟨S8x1024, .f32⟩
  | .hbm, ⟨19, _⟩ => ⟨S8x1x1024, .f32⟩
  | .hbm, ⟨20, _⟩ => ⟨S8x1x1024, .f32⟩
  | .hbm, ⟨21, _⟩ => ⟨S8x1024, .f32⟩
  | .hbm, ⟨22, _⟩ => ⟨S8x1x1024, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S8x2048x1, .f32⟩
  | .hbm, ⟨42, _⟩ => ⟨S8x2048x1024, .f32⟩
  | .hbm, ⟨43, _⟩ => ⟨S8x2048x1024, .f32⟩
  | .hbm, ⟨44, _⟩ => ⟨S1x1x1024, .f32⟩
  | .hbm, ⟨45, _⟩ => ⟨S8x2048x1024, .f32⟩
  | .hbm, ⟨46, _⟩ => ⟨S8x2048x1024, .f32⟩
  | .hbm, ⟨47, _⟩ => ⟨S_, .f32⟩
  | .hbm, ⟨48, _⟩ => ⟨S8x1x1024, .f32⟩
  | .hbm, ⟨49, _⟩ => ⟨S8x1x1024, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | .hbm, ⟨54, _⟩ => ⟨S1x1024x5632, .bf16⟩
  | .hbm, ⟨55, _⟩ => ⟨S1024x5632, .bf16⟩
  | .hbm, ⟨56, _⟩ => ⟨S1024x5632, .f32⟩
  | .hbm, ⟨57, _⟩ => ⟨S8x2048x5632, .f32⟩
  | .hbm, ⟨58, _⟩ => ⟨S_, .i32⟩
  | .hbm, ⟨59, _⟩ => ⟨S_, .f32⟩
  | .hbm, ⟨60, _⟩ => ⟨S8x2050x5632, .f32⟩
  | .hbm, ⟨61, _⟩ => ⟨S8x2048x5632, .f32⟩
  | .hbm, ⟨62, _⟩ => ⟨S1x5632, .f32⟩
  | .hbm, ⟨63, _⟩ => ⟨S5632, .f32⟩
  | .hbm, ⟨64, _⟩ => ⟨S1x1x5632, .f32⟩
  | .hbm, ⟨65, _⟩ => ⟨S8x2048x5632, .f32⟩
  | .hbm, ⟨66, _⟩ => ⟨S8x2048x5632, .f32⟩
  | .hbm, ⟨67, _⟩ => ⟨S8x2048x5632, .f32⟩
  | .hbm, ⟨68, _⟩ => ⟨S1x5632, .f32⟩
  | .hbm, ⟨69, _⟩ => ⟨S5632, .f32⟩
  | .hbm, ⟨70, _⟩ => ⟨S1x1x5632, .f32⟩
  | .hbm, ⟨71, _⟩ => ⟨S8x2048x5632, .f32⟩
  | .hbm, ⟨72, _⟩ => ⟨S8x2048x5632, .f32⟩
  | .hbm, ⟨73, _⟩ => ⟨S8x2048x5632, .f32⟩
  | .hbm, ⟨74, _⟩ => ⟨S8x2048x5632, .f32⟩
  | .hbm, ⟨75, _⟩ => ⟨S1x5632, .f32⟩
  | .hbm, ⟨76, _⟩ => ⟨S5632, .f32⟩
  | .hbm, ⟨77, _⟩ => ⟨S1x1x5632, .f32⟩
  | .hbm, ⟨78, _⟩ => ⟨S8x2048x5632, .f32⟩
  | .hbm, ⟨79, _⟩ => ⟨S8x2048x5632, .f32⟩
  | .hbm, ⟨80, _⟩ => ⟨S8x2048x5632, .f32⟩
  | .hbm, ⟨81, _⟩ => ⟨S1x1x5632, .f32⟩
  | .hbm, ⟨82, _⟩ => ⟨S8x2048x5632, .f32⟩
  | .hbm, ⟨83, _⟩ => ⟨S8x2048x5632, .f32⟩
  | .hbm, ⟨84, _⟩ => ⟨S8x2048x2816, .f32⟩
  | .hbm, ⟨85, _⟩ => ⟨S8x2048x2816, .f32⟩
  | .hbm, ⟨86, _⟩ => ⟨S8x2048x2816, .f32⟩
  | .hbm, ⟨87, _⟩ => ⟨S8x2048x2816, .f32⟩
  | .hbm, ⟨88, _⟩ => ⟨S_, .f32⟩
  | .hbm, ⟨89, _⟩ => ⟨S8x2048x2816, .f32⟩
  | .hbm, ⟨90, _⟩ => ⟨S8x2048x2816, .f32⟩
  | .hbm, ⟨91, _⟩ => ⟨S_, .f32⟩
  | .hbm, ⟨92, _⟩ => ⟨S8x2048x2816, .f32⟩
  | .hbm, ⟨93, _⟩ => ⟨S8x2048x2816, .f32⟩
  | .hbm, ⟨94, _⟩ => ⟨S8x2048x2816, .f32⟩
  | .hbm, ⟨95, _⟩ => ⟨S8x2048x2816, .f32⟩
  | .hbm, ⟨96, _⟩ => ⟨S1x2816x1024, .bf16⟩
  | .hbm, ⟨97, _⟩ => ⟨S2816x1024, .bf16⟩
  | .hbm, ⟨98, _⟩ => ⟨S2816x1024, .f32⟩
  | .hbm, ⟨99, _⟩ => ⟨S8x2048x1024, .f32⟩
  | .hbm, ⟨100, _⟩ => ⟨S8x2048x1024, .f32⟩
  | .hbm, ⟨101, _⟩ => ⟨S8x2048x1024, .f32⟩
  | .hbm, ⟨102, _⟩ => ⟨S8x2048x1024, .f32⟩
  | .hbm, ⟨103, _⟩ => ⟨S8x2048x1024, .f32⟩
  | .hbm, ⟨104, _⟩ => ⟨S_, .f32⟩
  | .hbm, ⟨105, _⟩ => ⟨S8x2048, .f32⟩
  | .hbm, ⟨106, _⟩ => ⟨S8x2048x1, .f32⟩
  | .hbm, ⟨107, _⟩ => ⟨S_, .f32⟩
  | .hbm, ⟨108, _⟩ => ⟨S8x2048x1, .f32⟩
  | .hbm, ⟨109, _⟩ => ⟨S8x2048x1, .f32⟩
  | .hbm, ⟨110, _⟩ => ⟨S_, .f32⟩
  | .hbm, ⟨111, _⟩ => ⟨S8x2048x1, .f32⟩
  | .hbm, ⟨112, _⟩ => ⟨S8x2048x1, .f32⟩
  | .hbm, ⟨113, _⟩ => ⟨S8x2048x1, .f32⟩
  | .hbm, ⟨114, _⟩ => ⟨S8x2048x1024, .f32⟩
  | .hbm, ⟨115, _⟩ => ⟨S8x2048x1024, .f32⟩
  | .hbm, ⟨116, _⟩ => ⟨S1x1x1024, .f32⟩
  | .hbm, ⟨117, _⟩ => ⟨S8x2048x1024, .f32⟩
  | .hbm, ⟨118, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c : Ref sig .tc := ⟨.hbm, 58, rfl⟩
abbrev main_call0_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_call1_v5 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_3 : Ref sig .tc := ⟨.hbm, 104, rfl⟩
abbrev main_v79 : Ref sig .tc := ⟨.hbm, 105, rfl⟩
abbrev main_v80 : Ref sig .tc := ⟨.hbm, 106, rfl⟩
abbrev main_cst_4 : Ref sig .tc := ⟨.hbm, 107, rfl⟩
abbrev main_v81 : Ref sig .tc := ⟨.hbm, 108, rfl⟩
abbrev main_v82 : Ref sig .tc := ⟨.hbm, 109, rfl⟩
abbrev main_cst_5 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2x1024 : Shape := ⟨3, ![8, 2, 1024]⟩
abbrev S1024 : Shape := ⟨1, ![1024]⟩
abbrev S1024x3072 : Shape := ⟨2, ![1024, 3072]⟩
abbrev S3072 : Shape := ⟨1, ![3072]⟩
abbrev S3x3072 : Shape := ⟨2, ![3, 3072]⟩
abbrev S1x1024 : Shape := ⟨2, ![1, 1024]⟩
abbrev S1x3072 : Shape := ⟨2, ![1, 3072]⟩
abbrev S1x16x1024 : Shape := ⟨3, ![1, 16, 1024]⟩
abbrev S1x1024x1024 : Shape := ⟨3, ![1, 1024, 1024]⟩
abbrev S1x2x1024 : Shape := ⟨3, ![1, 2, 1024]⟩
abbrev S2x3x1040x256 : Shape := ⟨4, ![2, 3, 1040, 256]⟩
abbrev S1x1x1024 : Shape := ⟨3, ![1, 1, 1024]⟩
abbrev S16x1024 : Shape := ⟨2, ![16, 1024]⟩
abbrev S8x1024 : Shape := ⟨2, ![8, 1024]⟩
abbrev S1024x1024 : Shape := ⟨2, ![1024, 1024]⟩
abbrev S1040x1024 : Shape := ⟨2, ![1040, 1024]⟩
abbrev S1040 : Shape := ⟨1, ![1040]⟩
abbrev S1040x1 : Shape := ⟨2, ![1040, 1]⟩
abbrev S8x1 : Shape := ⟨2, ![8, 1]⟩
abbrev S1024x256 : Shape := ⟨2, ![1024, 256]⟩
abbrev S1040x256 : Shape := ⟨2, ![1040, 256]⟩
abbrev S1x1x1040x256 : Shape := ⟨4, ![1, 1, 1040, 256]⟩
abbrev S1x256 : Shape := ⟨2, ![1, 256]⟩
abbrev S8x256 : Shape := ⟨2, ![8, 256]⟩
abbrev S1008x256 : Shape := ⟨2, ![1008, 256]⟩
abbrev S1x1024x256 : Shape := ⟨3, ![1, 1024, 256]⟩

abbrev nBuf : Space → Nat
  | .hbm => 13
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S8x2x1024, .f32⟩
  | .hbm, ⟨2, _⟩ => ⟨S1024, .f32⟩
  | .hbm, ⟨3, _⟩ => ⟨S1024x3072, .f32⟩
  | .hbm, ⟨4, _⟩ => ⟨S3072, .f32⟩
  | .hbm, ⟨5, _⟩ => ⟨S3x3072, .f32⟩
  | .hbm, ⟨6, _⟩ => ⟨S3072, .f32⟩
  | .hbm, ⟨7, _⟩ => ⟨S1x1024, .f32⟩
  | .hbm, ⟨8, _⟩ => ⟨S1024x3072, .bf16⟩
  | .hbm, ⟨9, _⟩ => ⟨S1x3072, .f32⟩
  | .hbm, ⟨10, _⟩ => ⟨S1x3072, .f32⟩
  | .hbm, ⟨11, _⟩ => ⟨S8x2048x1024, .bf16⟩
  | .hbm, ⟨12, _⟩ => ⟨S8x2048x1024, .bf16⟩
  | .local _ .vmem, ⟨0, _⟩ => ⟨S1x16x1024, .f32⟩
  | .local _ .vmem, ⟨1, _⟩ => ⟨S1x16x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x2x1024, .f32⟩
  | .local _ .vmem, ⟨7, _⟩ => ⟨S1x2x1024, .f32⟩
  | .local _ .vmem, ⟨8, _⟩ => ⟨S1x1024, .f32⟩
  | .local _ .vmem, ⟨9, _⟩ => ⟨S1024x3072, .bf16⟩
  | .local _ .vmem, ⟨10, _⟩ => ⟨S1x3072, .f32⟩
  | .local _ .vmem, ⟨11, _⟩ => ⟨S3x3072, .f32⟩
  | .local _ .vmem, ⟨12, _⟩ => ⟨S1x3072, .f32⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S2x3x1040x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S8x2048x1024 : Shape := ⟨3, ![8, 2048, 1024]⟩
abbrev S8x2x1024 : Shape := ⟨3, ![8, 2, 1024]⟩
abbrev S1024 : Shape := ⟨1, ![1024]⟩
abbrev S1024x3072 : Shape := ⟨2, ![1024, 3072]⟩
abbrev S3072 : Shape := ⟨1, ![3072]⟩
abbrev S3x3072 : Shape := ⟨2, ![3, 3072]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩
abbrev S8x2048x3072 : Shape := ⟨3, ![8, 2048, 3072]⟩
abbrev S1x1x3072 : Shape := ⟨3, ![1, 1, 3072]⟩
abbrev S8x2050x3072 : Shape := ⟨3, ![8, 2050, 3072]⟩
abbrev S1x3072 : Shape := ⟨2, ![1, 3072]⟩

abbrev nBuf : Space → Nat
  | .hbm => 72
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2x1024, .f32⟩
  | .hbm, ⟨2, _⟩ => ⟨S1024, .f32⟩
  | .hbm, ⟨3, _⟩ => ⟨S1024x3072, .f32⟩
  | .hbm, ⟨4, _⟩ => ⟨S3072, .f32⟩
  | .hbm, ⟨5, _⟩ => ⟨S3x3072, .f32⟩
  | .hbm, ⟨6, _⟩ => ⟨S3072, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x1x1024, .f32⟩
  | .hbm, ⟨24, _⟩ => ⟨S8x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x2048x1024, .f32⟩
  | .hbm, ⟨30, _⟩ => ⟨S8x2048x1024, .f32⟩
  | .hbm, ⟨31, _⟩ => ⟨S8x1x1024, .f32⟩
  | .hbm, ⟨32, _⟩ => ⟨S8x1024, .f32⟩
  | .hbm, ⟨33, _⟩ => ⟨S8x1x1024, .f32⟩
  | .hbm, ⟨34, _⟩ => ⟨S8x2048x1024, .f32⟩
  | .hbm, ⟨35, _⟩ => ⟨S8x2048x1024, .f32⟩
  | .hbm, ⟨36, _⟩ => ⟨S8x2048x3072, .f32⟩
  | .hbm, ⟨37, _⟩ => ⟨S1x1x3072, .f32⟩
  | .hbm, ⟨38, _⟩ => ⟨S8x2048x3072, .f32⟩
  | .hbm, ⟨39, _⟩ => ⟨S8x2048x3072, .f32⟩
  | .hbm, ⟨40, _⟩ => ⟨S_, .i32⟩
  | .hbm, ⟨41, _⟩ => ⟨S_, .f32⟩
  | .hbm, ⟨42, _⟩ => ⟨S8x2050x3072, .f32⟩
  | .hbm, ⟨43, _⟩ => ⟨S8x2048x3072, .f32⟩
  | .hbm, ⟨44, _⟩ => ⟨S1x3072, .f32⟩
  | .hbm, ⟨45, _⟩ => ⟨S3072, .f32⟩
  | .hbm, ⟨46, _⟩ => ⟨S1x1x3072, .f32⟩
  | .hbm, ⟨47, _⟩ => ⟨S8x2048x3072, .f32⟩
  | .hbm, ⟨48, _⟩ => ⟨S8x2048x3072, .f32⟩
  | .hbm, ⟨49, _⟩ => ⟨S8x2048x3072, .f32⟩
  | .hbm, ⟨50, _⟩ => ⟨S1x3072, .f32⟩
  | .hbm, ⟨51, _⟩ => ⟨S3072, .f32⟩
  | .hbm, ⟨52, _⟩ => ⟨S1x1x3072, .f32⟩
  | .hbm, ⟨53, _⟩ => ⟨S8x2048x3072, .f32⟩
  | .hbm, ⟨54, _⟩ => ⟨S8x2048x3072, .f32⟩
  | .hbm, ⟨55, _⟩ => ⟨S8x2048x3072, .f32⟩
  | .hbm, ⟨56, _⟩ => ⟨S8x2048x3072, .f32⟩
  | .hbm, ⟨57, _⟩ => ⟨S1x3072, .f32⟩
  | .hbm, ⟨58, _⟩ => ⟨S3072, .f32⟩
  | .hbm, ⟨59, _⟩ => ⟨S1x1x3072, .f32⟩
  | .hbm, ⟨60, _⟩ => ⟨S8x2048x3072, .f32⟩
  | .hbm, ⟨61, _⟩ => ⟨S8x2048x3072, .f32⟩
  | .hbm, ⟨62, _⟩ => ⟨S8x2048x3072, .f32⟩
  | .hbm, ⟨63, _⟩ => ⟨S1x1x3072, .f32⟩
  | .hbm, ⟨64, _⟩ => ⟨S8x2048x3072, .f32⟩
  | .hbm, ⟨65, _⟩ => ⟨S8x2048x3072, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S8x2048x1024, .f32⟩
  | .hbm, ⟨70, _⟩ => ⟨S8x2048x1024, .bf16⟩
  | .hbm, ⟨71, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.hbm, 40, rfl⟩
abbrev main_call0_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x2x1024 : Shape := ⟨3, ![8, 2, 1024]⟩
abbrev S1024 : Shape := ⟨1, ![1024]⟩
abbrev S1024x512 : Shape := ⟨2, ![1024, 512]⟩
abbrev S512 : Shape := ⟨1, ![512]⟩
abbrev S512x1536 : Shape := ⟨2, ![512, 1536]⟩
abbrev S1024x288 : Shape := ⟨2, ![1024, 288]⟩
abbrev S256 : Shape := ⟨1, ![256]⟩
abbrev S256x1024 : Shape := ⟨2, ![256, 1024]⟩
abbrev S32 : Shape := ⟨1, ![32]⟩
abbrev S1024x32 : Shape := ⟨2, ![1024, 32]⟩
abbrev S1024x256 : Shape := ⟨2, ![1024, 256]⟩
abbrev S_ : Shape := ⟨0, ![]⟩
abbrev S1024x128 : Shape := ⟨2, ![1024, 128]⟩
abbrev S1024x8 : Shape := ⟨2, ![1024, 8]⟩
abbrev S1024x1024 : Shape := ⟨2, ![1024, 1024]⟩
abbrev S1536x512 : Shape := ⟨2, ![1536, 512]⟩
abbrev S256x16x64 : Shape := ⟨3, ![256, 16, 64]⟩
abbrev S256x16x128 : Shape := ⟨3, ![256, 16, 128]⟩
abbrev S256x2048 : Shape := ⟨2, ![256, 2048]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x32 : Shape := ⟨2, ![2048, 32]⟩
abbrev S1x1024 : Shape := ⟨2, ![1, 1024]⟩
abbrev S1x512 : Shape := ⟨2, ![1, 512]⟩
abbrev S1x256 : Shape := ⟨2, ![1, 256]⟩
abbrev S2048x128 : Shape := ⟨2, ![2048, 128]⟩
abbrev S32x2048 : Shape := ⟨2, ![32, 2048]⟩
abbrev S1x32 : Shape := ⟨2, ![1, 32]⟩
abbrev S8x16x128x2048 : Shape := ⟨4, ![8, 16, 128, 2048]⟩
abbrev S8x16x2048x128 : Shape := ⟨4, ![8, 16, 2048, 128]⟩
abbrev S8x16x64x2048 : Shape := ⟨4, ![8, 16, 64, 2048]⟩
abbrev S1x512x1024 : Shape := ⟨3, ![1, 512, 1024]⟩
abbrev S1x2x1024 : Shape := ⟨3, ![1, 2, 1024]⟩
abbrev S512x128 : Shape := ⟨2, ![512, 128]⟩
abbrev S32x512 : Shape := ⟨2, ![32, 512]⟩
abbrev S1x16x128x512 : Shape := ⟨4, ![1, 16, 128, 512]⟩
abbrev S1x16x512x128 : Shape := ⟨4, ![1, 16, 512, 128]⟩
abbrev S1x16x64x512 : Shape := ⟨4, ![1, 16, 64, 512]⟩
abbrev S512x1024 : Shape := ⟨2, ![512, 1024]⟩
abbrev S512x1 : Shape := ⟨2, ![512, 1]⟩
abbrev S1x1x1024 : Shape := ⟨3, ![1, 1, 1024]⟩
abbrev S512x256 : Shape := ⟨2, ![512, 256]⟩
abbrev S512x2048 : Shape := ⟨2, ![512, 2048]⟩
abbrev S1x1x512x128 : Shape := ⟨4, ![1, 1, 512, 128]⟩
abbrev S64x512 : Shape := ⟨2, ![64, 512]⟩
abbrev S1x1x64x512 : Shape := ⟨4, ![1, 1, 64, 512]⟩
abbrev S512x512 : Shape := ⟨2, ![512, 512]⟩
abbrev S8x512 : Shape := ⟨2, ![8, 512]⟩
abbrev S1x1x32x512 : Shape := ⟨4, ![1, 1, 32, 512]⟩

abbrev nBuf : Space → Nat
  | .hbm => 89
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S8x2x1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S512x1536, .f32⟩
  | .hbm, ⟨6, _⟩ => ⟨S1024x288, .f32⟩
  | .hbm, ⟨7, _⟩ => ⟨S256, .f32⟩
  | .hbm, ⟨8, _⟩ => ⟨S256x1024, .f32⟩
  | .hbm, ⟨9, _⟩ => ⟨S256x1024, .f32⟩
  | .hbm, ⟨10, _⟩ => ⟨S32, .f32⟩
  | .hbm, ⟨11, _⟩ => ⟨S1024x32, .f32⟩
  | .hbm, ⟨12, _⟩ => ⟨S1024x256, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x8, .f32⟩
  | .hbm, ⟨17, _⟩ => ⟨S1024x8, .f32⟩
  | .hbm, ⟨18, _⟩ => ⟨S1024x8, .f32⟩
  | .hbm, ⟨19, _⟩ => ⟨S1024x8, .f32⟩
  | .hbm, ⟨20, _⟩ => ⟨S1024x8, .f32⟩
  | .hbm, ⟨21, _⟩ => ⟨S1024x8, .f32⟩
  | .hbm, ⟨22, _⟩ => ⟨S1024x32, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x1024, .f32⟩
  | .hbm, ⟨27, _⟩ => ⟨S1024x1024, .bf16⟩
  | .hbm, ⟨28, _⟩ => ⟨S1536x512, .f32⟩
  | .hbm, ⟨29, _⟩ => ⟨S1536x512, .bf16⟩
  | .hbm, ⟨30, _⟩ => ⟨S256x16x64, .f32⟩
  | .hbm, ⟨31, _⟩ => ⟨S_, .i32⟩
  | .hbm, ⟨32, _⟩ => ⟨S_, .f32⟩
  | .hbm, ⟨33, _⟩ => ⟨S256x16x128, .f32⟩
  | .hbm, ⟨34, _⟩ => ⟨S256x2048, .f32⟩
  | .hbm, ⟨35, _⟩ => ⟨S256x2048, .bf16⟩
  | .hbm, ⟨36, _⟩ => ⟨S1024x256, .f32⟩
  | .hbm, ⟨37, _⟩ => ⟨S1024x256, .bf16⟩
  | .hbm, ⟨38, _⟩ => ⟨S32, .f32⟩
  | .hbm, ⟨39, _⟩ => ⟨S32x64, .f32⟩
  | .hbm, ⟨40, _⟩ => ⟨S2048, .f32⟩
  | .hbm, ⟨41, _⟩ => ⟨S64, .f32⟩
  | .hbm, ⟨42, _⟩ => ⟨S1x64, .f32⟩
  | .hbm, ⟨43, _⟩ => ⟨S32x64, .f32⟩
  | .hbm, ⟨44, _⟩ => ⟨S2048, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S8, .f32⟩
  | .hbm, ⟨59, _⟩ => ⟨S2048x1, .f32⟩
  | .hbm, ⟨60, _⟩ => ⟨S1x8, .f32⟩
  | .hbm, ⟨61, _⟩ => ⟨S2048x8, .f32⟩
  | .hbm, ⟨62, _⟩ => ⟨S2048x8, .f32⟩
  | .hbm, ⟨63, _⟩ => ⟨S2048x8, .f32⟩
  | .hbm, ⟨64, _⟩ => ⟨S2048x1, .f32⟩
  | .hbm, ⟨65, _⟩ => ⟨S1x8, .f32⟩
  | .hbm, ⟨66, _⟩ => ⟨S2048x8, .f32⟩
  | .hbm, ⟨67, _⟩ => ⟨S2048x8, .f32⟩
  | .hbm, ⟨68, _⟩ => ⟨S2048x8, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S1x1024, .f32⟩
  | .hbm, ⟨73, _⟩ => ⟨S1x512, .f32⟩
  | .hbm, ⟨74, _⟩ => ⟨S1x256, .f32⟩
  | .hbm, ⟨75, _⟩ => ⟨S_, .i32⟩
  | .hbm, ⟨76, _⟩ => ⟨S_, .f32⟩
  | .hbm, ⟨77, _⟩ => ⟨S2048x128, .f32⟩
  | .hbm, ⟨78, _⟩ => ⟨S_, .i32⟩
  | .hbm, ⟨79, _⟩ => ⟨S_, .f32⟩
  | .hbm, ⟨80, _⟩ => ⟨S2048x128, .f32⟩
  | .hbm, ⟨81, _⟩ => ⟨S32x2048, .f32⟩
  | .hbm, ⟨82, _⟩ => ⟨S1x32, .f32⟩
  | .hbm, ⟨83, _⟩ => ⟨S2048x32, .f32⟩
  | .hbm, ⟨84, _⟩ => ⟨S2048x32, .f32⟩
  | .hbm, ⟨85, _⟩ => ⟨S32x2048, .f32⟩
  | .hbm, ⟨86, _⟩ => ⟨S8x16x128x2048, .bf16⟩
  | .hbm, ⟨87, _⟩ => ⟨S8x16x2048x128, .bf16⟩
  | .hbm, ⟨88, _⟩ => ⟨S8x16x64x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x1024, .f32⟩
  | .local _ .vmem, ⟨5, _⟩ => ⟨S1024x1024, .bf16⟩
  | .local _ .vmem, ⟨6, _⟩ => ⟨S1x512, .f32⟩
  | .local _ .vmem, ⟨7, _⟩ => ⟨S1536x512, .bf16⟩
  | .local _ .vmem, ⟨8, _⟩ => ⟨S1x256, .f32⟩
  | .local _ .vmem, ⟨9, _⟩ => ⟨S256x2048, .bf16⟩
  | .local _ .vmem, ⟨10, _⟩ => ⟨S1024x256, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S32x512, .f32⟩
  | .local _ .vmem, ⟨16, _⟩ => ⟨S32x512, .f32⟩
  | .local _ .vmem, ⟨17, _⟩ => ⟨S32x512, .f32⟩
  | .local _ .vmem, ⟨18, _⟩ => ⟨S32x512, .f32⟩
  | .local _ .vmem, ⟨19, _⟩ => ⟨S1x16x128x512, .bf16⟩
  | .local _ .vmem, ⟨20, _⟩ => ⟨S1x16x128x512, .bf16⟩
  | .local _ .vmem, ⟨21, _⟩ => ⟨S1x16x512x128, .bf16⟩
  | .local _ .vmem, ⟨22, _⟩ => ⟨S1x16x512x128, .bf16⟩
  | .local _ .vmem, ⟨23, _⟩ => ⟨S1x16x64x512, .bf16⟩
  | .local _ .vmem, ⟨24, _⟩ => ⟨S1x16x64x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_call1_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_call2_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_6 : Ref sig .tc := ⟨.hbm, 75, rfl⟩
abbrev main_call3_v0 : Ref sig .tc := ⟨.hbm, 76, rfl⟩
abbrev main_v54 : Ref sig .tc := ⟨.hbm, 77, rfl⟩
abbrev main_c_7 : Ref sig .tc := ⟨.hbm, 78, rfl⟩
abbrev main_call4_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61_0 : Ref sig .tc := ⟨.hbm, 86, rfl⟩
abbrev main_v61_1 : Ref sig .tc := ⟨.hbm, 87, rfl⟩
abbrev main_v61_2 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1536x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S32x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x16x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x64x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference4Ideal.lean ====
abbrev S8x2048x1024 : Shape := ⟨3, ![8, 2048, 1024]⟩
abbrev S8x2x1024 : Shape := ⟨3, ![8, 2, 1024]⟩
abbrev S1024 : Shape := ⟨1, ![1024]⟩
abbrev S1024x512 : Shape := ⟨2, ![1024, 512]⟩
abbrev S512 : Shape := ⟨1, ![512]⟩
abbrev S512x1536 : Shape := ⟨2, ![512, 1536]⟩
abbrev S1024x288 : Shape := ⟨2, ![1024, 288]⟩
abbrev S256 : Shape := ⟨1, ![256]⟩
abbrev S256x1024 : Shape := ⟨2, ![256, 1024]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x32 : Shape := ⟨2, ![2048, 32]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩
abbrev S8x2048x512 : Shape := ⟨3, ![8, 2048, 512]⟩
abbrev S1x1x512 : Shape := ⟨3, ![1, 1, 512]⟩
abbrev S8x2048x1536 : Shape := ⟨3, ![8, 2048, 1536]⟩
abbrev S8x2048x16x96 : Shape := ⟨4, ![8, 2048, 16, 96]⟩
abbrev S8x2048x16x64 : Shape := ⟨4, ![8, 2048, 16, 64]⟩
abbrev S8x2048x16x32 : Shape := ⟨4, ![8, 2048, 16, 32]⟩
abbrev S1x2048x1x32 : Shape := ⟨4, ![1, 2048, 1, 32]⟩
abbrev S8x2048x16x8 : Shape := ⟨4, ![8, 2048, 16, 8]⟩
abbrev S8x2048x288 : Shape := ⟨3, ![8, 2048, 288]⟩
abbrev S8x2048x256 : Shape := ⟨3, ![8, 2048, 256]⟩
abbrev S1x1x256 : Shape := ⟨3, ![1, 1, 256]⟩
abbrev S8x2048x32 : Shape := ⟨3, ![8, 2048, 32]⟩
abbrev S1x2048x32 : Shape := ⟨3, ![1, 2048, 32]⟩
abbrev S8x2048x8 : Shape := ⟨3, ![8, 2048, 8]⟩
abbrev S8x2048x1x32 : Shape := ⟨4, ![8, 2048, 1, 32]⟩
abbrev S8x2048x16x128 : Shape := ⟨4, ![8, 2048, 16, 128]⟩
abbrev S8x16x128x2048 : Shape := ⟨4, ![8, 16, 128, 2048]⟩
abbrev S8x16x2048x128 : Shape := ⟨4, ![8, 16, 2048, 128]⟩
abbrev S8x16x64x2048 : Shape := ⟨4, ![8, 16, 64, 2048]⟩

abbrev nBuf : Space → Nat
  | .hbm => 164
  | .vmem => 0
  | .smem => 0
  | _ => 0

abbrev hbmTy0_0 (i : Nat) : BufTy := match i % 128 with
  | 0 => ⟨S8x2048x1024, .f32⟩
  | 1 => ⟨S8x2x1024, .f32⟩
  | 2 => ⟨S1024, .f32⟩
  | 3 => ⟨S1024x512, .f32⟩
  | 4 => ⟨S512, .f32⟩
  | 5 => ⟨S512x1536, .f32⟩
  | 6 => ⟨S1024x288, .f32⟩
  | 7 => ⟨S256, .f32⟩
  | 8 => ⟨S256x1024, .f32⟩
  | 9 => ⟨S256x1024, .f32⟩
  | 10 => ⟨S32, .f32⟩
  | 11 => ⟨S32x64, .f32⟩
  | 12 => ⟨S2048, .f32⟩
  | 13 => ⟨S64, .f32⟩
  | 14 => ⟨S1x64, .f32⟩
  | 15 => ⟨S32x64, .f32⟩
  | 16 => ⟨S2048, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S8, .f32⟩
  | 24 => ⟨S8, .f32⟩
  | 25 => ⟨S_, .f32⟩
  | 26 => ⟨S8, .f32⟩
  | 27 => ⟨S8, .f32⟩
  | 28 => ⟨S_, .f32⟩
  | 29 => ⟨S8, .f32⟩
  | 30 => ⟨S8, .f32⟩
  | 31 => ⟨S2048x1, .f32⟩
  | 32 => ⟨S1x8, .f32⟩
  | 33 => ⟨S2048x8, .f32⟩
  | 34 => ⟨S2048x8, .f32⟩
  | 35 => ⟨S2048x8, .f32⟩
  | 36 => ⟨S2048x1, .f32⟩
  | 37 => ⟨S1x8, .f32⟩
  | 38 => ⟨S2048x8, .f32⟩
  | 39 => ⟨S2048x8, .f32⟩
  | 40 => ⟨S2048x8, .f32⟩
  | 41 => ⟨S2048x32, .f32⟩
  | 42 => ⟨S2048x32, .f32⟩
  | 43 => ⟨S2048x32, .f32⟩
  | 44 => ⟨S8x2048x1024, .f32⟩
  | 45 => ⟨S_, .f32⟩
  | 46 => ⟨S8x2048, .f32⟩
  | 47 => ⟨S8x2048x1, .f32⟩
  | 48 => ⟨S_, .f32⟩
  | 49 => ⟨S8x2048x1, .f32⟩
  | 50 => ⟨S8x2048x1, .f32⟩
  | 51 => ⟨S_, .f32⟩
  | 52 => ⟨S8x2048x1, .f32⟩
  | 53 => ⟨S8x2048x1, .f32⟩
  | 54 => ⟨S8x2048x1, .f32⟩
  | 55 => ⟨S8x2048x1024, .f32⟩
  | 56 => ⟨S8x2048x1024, .f32⟩
  | 57 => ⟨S1x1x1024, .f32⟩
  | 58 => ⟨S8x2048x1024, .f32⟩
  | 59 => ⟨S8x2048x1024, .f32⟩
  | 60 => ⟨S8x1x1024, .f32⟩
  | 61 => ⟨S8x1024, .f32⟩
  | 62 => ⟨S8x1x1024, .f32⟩
  | 63 => ⟨S_, .f32⟩
  | 64 => ⟨S8x1x1024, .f32⟩
  | 65 => ⟨S8x1x1024, .f32⟩
  | 66 => ⟨S8x2048x1024, .f32⟩
  | 67 => ⟨S8x2048x1024, .f32⟩
  | 68 => ⟨S8x1x1024, .f32⟩
  | 69 => ⟨S8x1024, .f32⟩
  | 70 => ⟨S8x1x1024, .f32⟩
  | 71 => ⟨S8x2048x1024, .f32⟩
  | 72 => ⟨S8x2048x1024, .f32⟩
  | 73 => ⟨S8x2048x512, .f32⟩
  | 74 => ⟨S8x2048x512, .f32⟩
  | 75 => ⟨S_, .f32⟩
  | 76 => ⟨S8x2048, .f32⟩
  | 77 => ⟨S8x2048x1, .f32⟩
  | 78 => ⟨S_, .f32⟩
  | 79 => ⟨S8x2048x1, .f32⟩
  | 80 => ⟨S8x2048x1, .f32⟩
  | 81 => ⟨S_, .f32⟩
  | 82 => ⟨S8x2048x1, .f32⟩
  | 83 => ⟨S8x2048x1, .f32⟩
  | 84 => ⟨S8x2048x1, .f32⟩
  | 85 => ⟨S8x2048x512, .f32⟩
  | 86 => ⟨S8x2048x512, .f32⟩
  | 87 => ⟨S1x1x512, .f32⟩
  | 88 => ⟨S8x2048x512, .f32⟩
  | 89 => ⟨S8x2048x512, .f32⟩
  | 90 => ⟨S8x2048x1536, .f32⟩
  | 91 => ⟨S8x2048x16x96, .f32⟩
  | 92 => ⟨S8x2048x16x64, .f32⟩
  | 93 => ⟨S8x2048x16x32, .f32⟩
  | 94 => ⟨S1x2048x1x32, .f32⟩
  | 95 => ⟨S1x2048x1x32, .f32⟩
  | 96 => ⟨S8x2048x16x8, .f32⟩
  | 97 => ⟨S8x2048x16x8, .f32⟩
  | 98 => ⟨S8x2048x16x8, .f32⟩
  | 99 => ⟨S8x2048x16x8, .f32⟩
  | 100 => ⟨S8x2048x16x8, .f32⟩
  | 101 => ⟨S8x2048x16x8, .f32⟩
  | 102 => ⟨S8x2048x16x32, .f32⟩
  | 103 => ⟨S8x2048x16x32, .f32⟩
  | 104 => ⟨S8x2048x16x32, .f32⟩
  | 105 => ⟨S8x2048x16x32, .f32⟩
  | 106 => ⟨S8x2048x16x32, .f32⟩
  | 107 => ⟨S8x2048x16x32, .f32⟩
  | 108 => ⟨S8x2048x16x96, .f32⟩
  | 109 => ⟨S8x2048x288, .f32⟩
  | 110 => ⟨S8x2048x256, .f32⟩
  | 111 => ⟨S8x2048x256, .f32⟩
  | 112 => ⟨S_, .f32⟩
  | 113 => ⟨S8x2048, .f32⟩
  | 114 => ⟨S8x2048x1, .f32⟩
  | 115 => ⟨S_, .f32⟩
  | 116 => ⟨S8x2048x1, .f32⟩
  | 117 => ⟨S8x2048x1, .f32⟩
  | 118 => ⟨S_, .f32⟩
  | 119 => ⟨S8x2048x1, .f32⟩
  | 120 => ⟨S8x2048x1, .f32⟩
  | 121 => ⟨S8x2048x1, .f32⟩
  | 122 => ⟨S8x2048x256, .f32⟩
  | 123 => ⟨S8x2048x256, .f32⟩
  | 124 => ⟨S1x1x256, .f32⟩
  | 125 => ⟨S8x2048x256, .f32⟩
  | 126 => ⟨S8x2048x256, .f32⟩
  | 127 => ⟨S8x2048x32, .f32⟩
  | _ => ⟨S8x2048x1024, .f32⟩

abbrev hbmTy0_1 (i : Nat) : BufTy := match i % 128 with
  | 0 => ⟨S1x2048x32, .f32⟩
  | 1 => ⟨S1x2048x32, .f32⟩
  | 2 => ⟨S8x2048x8, .f32⟩
  | 3 => ⟨S8x2048x8, .f32⟩
  | 4 => ⟨S8x2048x8, .f32⟩
  | 5 => ⟨S8x2048x8, .f32⟩
  | 6 => ⟨S8x2048x8, .f32⟩
  | 7 => ⟨S8x2048x8, .f32⟩
  | 8 => ⟨S8x2048x32, .f32⟩
  | 9 => ⟨S8x2048x32, .f32⟩
  | 10 => ⟨S8x2048x32, .f32⟩
  | 11 => ⟨S8x2048x32, .f32⟩
  | 12 => ⟨S8x2048x32, .f32⟩
  | 13 => ⟨S8x2048x32, .f32⟩
  | 14 => ⟨S8x2048x1024, .f32⟩
  | 15 => ⟨S8x2048x16x64, .f32⟩
  | 16 => ⟨S8x2048x1024, .f32⟩
  | 17 => ⟨S8x2048x16x64, .f32⟩
  | 18 => ⟨S8x2048x1x32, .f32⟩
  | 19 => ⟨S8x2048x16x32, .f32⟩
  | 20 => ⟨S8x2048x16x96, .f32⟩
  | 21 => ⟨S_, .f32⟩
  | 22 => ⟨S8x2048x16x96, .f32⟩
  | 23 => ⟨S8x2048x16x96, .f32⟩
  | 24 => ⟨S_, .i32⟩
  | 25 => ⟨S_, .f32⟩
  | 26 => ⟨S8x2048x16x128, .f32⟩
  | 27 => ⟨S8x16x128x2048, .f32⟩
  | 28 => ⟨S8x16x128x2048, .bf16⟩
  | 29 => ⟨S_, .i32⟩
  | 30 => ⟨S_, .f32⟩
  | 31 => ⟨S8x2048x16x128, .f32⟩
  | 32 => ⟨S8x16x2048x128, .f32⟩
  | 33 => ⟨S8x16x2048x128, .bf16⟩
  | 34 => ⟨S8x16x64x2048, .f32⟩
  | 35 => ⟨S8x16x64x2048, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_10 : Ref sig .tc := ⟨.hbm, 112, rfl⟩
abbrev main_v91 : Ref sig .tc := ⟨.hbm, 113, rfl⟩
abbrev main_v92 : Ref sig .tc := ⟨.hbm, 114, rfl⟩
abbrev main_cst_11 : Ref sig .tc := ⟨.hbm, 115, rfl⟩
abbrev main_v93 : Ref sig .tc := ⟨.hbm, 116, rfl⟩
abbrev main_v94 : Ref sig .tc := ⟨.hbm, 117, rfl⟩
abbrev main_cst_12 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_cst_13 : Ref sig .tc := ⟨.hbm, 149, rfl⟩
abbrev main_v125 : Ref sig .tc := ⟨.hbm, 150, rfl⟩
abbrev main_v126 : Ref sig .tc := ⟨.hbm, 151, rfl⟩
abbrev main_c : Ref sig .tc := ⟨.hbm, 152, rfl⟩
abbrev main_call0_v0 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_c_14 : Ref sig .tc := ⟨.hbm, 157, rfl⟩
abbrev main_call1_v0 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩

abbrev nD : Nat := 1
abbrev τ : Topo := Topo.v7x

variable {F : FTy → Type} [FloatOps F]
-- ==== Proof.AttnStage.lean ====
/- One head of the attention on one tile of queries: what the stages of the launch's body compute,
   over the blocks of 256 keys. -/
module

public import proofs.«01_k».proof.Proof.Gen.KernelIdeal.Skeleton
public import Idealize.ShloMosaic.Lib.WritesUnit

@[expose] public section

set_option maxRecDepth 16384

noncomputable section

namespace Cert.KernelIdeal.Attn

open Idealize.ShloMosaic Idealize.ShloMosaic.TcCoe
open Cert.KernelIdeal Cert.KernelIdeal.Gen

variable {F : FTy → Type} [FloatOps F]

/-- The scores of one block of keys against the tile of queries. -/
def score (q : Vec F S1x1x128x512 .bf16) (a : Vec F S1x1x256x128 .bf16) : FVec F S256x512 .f32 := k0_pay4 q a

/-- The running maximum after one more block of scores: row `r` of the eight keeps the rows `r`, `r + 8`, … -/
def maxStep (p : FVec F S8x512 .f32) (s : FVec F S256x512 .f32) : FVec F S8x512 .f32 :=
  maximumf p (multiReduction .maximumf [0] S8x512 (shapeCast S32x8x512 s shapeCasts_S256x512_S32x8x512) 0xFF800000#32 reduces_S32x8x512_S8x512 (.inl rfl) rfl)

/-- The largest score of each query, over nine blocks of scores. -/
def maxOf (s0 s1 s2 s3 s4 s5 s6 s7 s8 : FVec F S256x512 .f32) : FVec F S1x512 .f32 :=
  shapeCast S1x512 (multiReduction .maximumf [0] S512
    (maxStep (maxStep (maxStep (maxStep (maxStep (maxStep (maxStep (maxStep (maxStep
      (broadcast S8x512 (Scalar.ofBits .f32 0xFF800000#32)) s0) s1) s2) s3) s4) s5) s6) s7) s8)
    0xFF800000#32 reduces_S8x512_S512 (.inl rfl) rfl) shapeCasts_S512_S1x512

/-- The weights of one block, before the division. -/
def weights (m : FVec F S1x512 .f32) (s : Vec F S256x512 .f32) : FVec F S256x512 .f32 :=
  exp2 (subf s (broadcastTo S256x512 m broadcasts_S1x512_S256x512))

/-- The running sum of the weights after one more block. -/
def sumStep (l : FVec F S8x512 .f32) (p : FVec F S256x512 .f32) : FVec F S8x512 .f32 :=
  addf l (multiReduction .add [0] S8x512 (shapeCast S32x8x512 p shapeCasts_S256x512_S32x8x512) 0x00000000#32 reduces_S32x8x512_S8x512 (.inl rfl) rfl)

/-- The running weighted sum of the values after one more block. -/
def accStep (a : FVec F S64x512 .f32) (p : FVec F S256x512 .f32) (v : Vec F S1x1x64x256 .bf16) : FVec F S64x512 .f32 :=
  addf a (matmul dot_S64x256_S256x512_S64x512_1_0_0_1_n_n none (shapeCast S64x256 v shapeCasts_S1x1x64x256_S64x256)
    (truncf .bf16 p bitsLt_bf16_f32) (constant S64x512 .f32 0x00000000#32))

/-- The weighted sum divided by the sum of the weights. -/
def quot (l : FVec F S8x512 .f32) (a : FVec F S64x512 .f32) : FVec F S64x512 .f32 :=
  divf a (broadcastTo S64x512 (shapeCast S1x512 (multiReduction .add [0] S512 l 0x00000000#32 reduces_S8x512_S512 (.inl rfl) rfl)
    shapeCasts_S512_S1x512) broadcasts_S1x512_S64x512)

/-- One head's output over nine blocks of scores and of values, `m` the largest scores. -/
def outOf (m : FVec F S1x512 .f32) (s0 s1 s2 s3 s4 s5 s6 s7 s8 : Vec F S256x512 .f32)
    (v0 v1 v2 v3 v4 v5 v6 v7 v8 : Vec F S1x1x64x256 .bf16) : FVec F S64x512 .f32 :=
  shapeCast S64x512 (quot
    (sumStep (sumStep (sumStep (sumStep (sumStep (sumStep (sumStep (sumStep (sumStep
      (broadcast S8x512 (Scalar.ofBits .f32 0x00000000#32)) (weights m s0)) (weights m s1)) (weights m s2)) (weights m s3))
      (weights m s4)) (weights m s5)) (weights m s6)) (weights m s7)) (weights m s8))
    (accStep (accStep (accStep (accStep (accStep (accStep (accStep (accStep (accStep
      (broadcast S64x512 (Scalar.ofBits .f32 0x00000000#32)) (weights m s0) v0) (weights m s1) v1) (weights m s2) v2) (weights m s3) v3)
      (weights m s4) v4) (weights m s5) v5) (weights m s6) v6) (weights m s7) v7) (weights m s8) v8))
    shapeCasts_S64x512_S64x512

/-- `maxOf` of a family of nine blocks. -/
def maxOf9 (s : Fin 9 → FVec F S256x512 .f32) : FVec F S1x512 .f32 :=
  maxOf (s 0) (s 1) (s 2) (s 3) (s 4) (s 5) (s 6) (s 7) (s 8)

/-- `outOf` of families of nine blocks. -/
def outOf9 (m : FVec F S1x512 .f32) (s : Fin 9 → Vec F S256x512 .f32) (v : Fin 9 → Vec F S1x1x64x256 .bf16) : FVec F S64x512 .f32 :=
  outOf m (s 0) (s 1) (s 2) (s 3) (s 4) (s 5) (s 6) (s 7) (s 8) (v 0) (v 1) (v 2) (v 3) (v 4) (v 5) (v 6) (v 7) (v 8)

/-- The rows of a scratch buffer that hold block `c` of the scores. -/
abbrev rowsS (c : Fin 9) : Rect S2304x512 :=
  Rect.unit (s := S2304x512) ![256 * c.val, 0] S256x512.size
    (Fin.forall_fin_two.mpr ⟨by change 256 * c.val + 256 ≤ 2304; omega, Nat.le_refl 512⟩)

/-- The stores of the nine blocks of scores into a scratch buffer, the last first. -/
def nine (w : Fin 9 → Vec F S256x512 .f32) : List (View.Piece (Elt F) S2304x512 .f32) :=
  [⟨rowsS 8, w 8⟩, ⟨rowsS 7, w 7⟩, ⟨rowsS 6, w 6⟩, ⟨rowsS 5, w 5⟩, ⟨rowsS 4, w 4⟩, ⟨rowsS 3, w 3⟩, ⟨rowsS 2, w 2⟩,
    ⟨rowsS 1, w 1⟩, ⟨rowsS 0, w 0⟩]

/-- A load of one block of scores after the nine stores reads what was stored there. -/
theorem read_nine {sig' : RefSig} {κ : Kind} {sp : Space} (v : View sig' κ sp S2304x512 .f32) (f : v.ty.Contents (Elt F))
    (w : Fin 9 → Vec F S256x512 .f32) (L : List (View.Piece (Elt F) S2304x512 .f32)) (c : Fin 9) :
    View.readAt (Elt F) v (rowsS c).toLoadRect (v.writes (Elt F) f (nine w ++ L)) = w c := by
  funext x
  have hx := (x (0 : Fin 2)).isLt
  have key : ∀ c' : Fin 9, c' ≠ c → ∀ L', v.read (Elt F) (v.writes (Elt F) f (⟨rowsS c', w c'⟩ :: L')) ((rowsS c).idx x)
      = v.read (Elt F) (v.writes (Elt F) f L') ((rowsS c).idx x) := by
    intro c' hc L'
    refine View.read_writes_cons_rows_of_not_mem (d := S2304x512.size) (W := 256) v f _ _ _ _ rfl rfl ?_
    have h0 : ((rowsS c).idx x (0 : Fin 2)).val = 256 * c.val + (x (0 : Fin 2)).val := by change 256 * c.val + 1 * (x (0 : Fin 2)).val = _; rw [Nat.one_mul]
    have hx' : (x (0 : Fin 2)).val < 256 := hx
    have : c'.val ≠ c.val := fun h => hc (Fin.ext h)
    omega
  have hit : ∀ L', v.read (Elt F) (v.writes (Elt F) f (⟨rowsS c, w c⟩ :: L')) ((rowsS c).idx x) = w c x :=
    fun L' => View.read_writes_cons_emb v f (rowsS c) (w c) L' x
  change v.read (Elt F) (v.writes (Elt F) f (nine w ++ L)) ((rowsS c).idx x) = w c x
  unfold nine
  simp only [List.cons_append, List.nil_append]
  by_cases h8 : 8 = c; · subst h8; exact hit _
  rw [key 8 h8]
  by_cases h7 : 7 = c; · subst h7; exact hit _
  rw [key 7 h7]
  by_cases h6 : 6 = c; · subst h6; exact hit _
  rw [key 6 h6]
  by_cases h5 : 5 = c; · subst h5; exact hit _
  rw [key 5 h5]
  by_cases h4 : 4 = c; · subst h4; exact hit _
  rw [key 4 h4]
  by_cases h3 : 3 = c; · subst h3; exact hit _
  rw [key 3 h3]
  by_cases h2 : 2 = c; · subst h2; exact hit _
  rw [key 2 h2]
  by_cases h1 : 1 = c; · subst h1; exact hit _
  rw [key 1 h1]
  by_cases h0 : 0 = c; · subst h0; exact hit _
  omega

theorem readCov_nine {sig' : RefSig} {κ : Kind} {sp : Space} (v : View sig' κ sp S2304x512 .f32)
    (w : Fin 9 → Vec F S256x512 .f32) (L : List (View.Piece (Elt F) S2304x512 .f32)) (c : Fin 9) :
    v.readCov (Val := Elt F) (nine w ++ L) (rowsS c).toLoadRect = w c :=
  read_nine v v.junk w L c

end Cert.KernelIdeal.Attn

end
-- ==== Proof.AttnTrip.lean ====
/- One trip of the attention's loop over pairs of heads, its results and what it stores. -/
module

public import proofs.«01_k».proof.Proof.Gen.KernelIdeal.Loops
public import proofs.«01_k».proof.Proof.AttnStage

@[expose] public section

set_option maxRecDepth 65536

noncomputable section

namespace Cert.KernelIdeal.Attn

open Idealize.ShloMosaic Idealize.ShloMosaic.TcCoe
open Cert.KernelIdeal Cert.KernelIdeal.Gen

variable {F : FTy → Type} [FloatOps F]

/-! The loads of a head's blocks. -/

abbrev rq (a : Memref sig .tc .vmem S1x16x128x512 .bf16) (X : BufTy.Contents (Elt F) a.view.ty) (o : Fin 4 → ℕ)
    (h : ∀ d, o d + S1x1x128x512.size d ≤ S1x16x128x512.size d) : Vec F S1x1x128x512 .bf16 :=
  View.readAt (Elt F) a.view (Rect.unit (s := S1x16x128x512) o S1x1x128x512.size h).toLoadRect X

abbrev rc (a : Memref sig .tc .vmem S1x16x256x128 .bf16) (X : BufTy.Contents (Elt F) a.view.ty) (o : Fin 4 → ℕ)
    (h : ∀ d, o d + S1x1x256x128.size d ≤ S1x16x256x128.size d) : Vec F S1x1x256x128 .bf16 :=
  View.readAt (Elt F) a.view (Rect.unit (s := S1x16x256x128) o S1x1x256x128.size h).toLoadRect X

abbrev rx (a : Memref sig .tc .vmem S1x16x2048x128 .bf16) (X : BufTy.Contents (Elt F) a.view.ty) (o : Fin 4 → ℕ)
    (h : ∀ d, o d + S1x1x256x128.size d ≤ S1x16x2048x128.size d) : Vec F S1x1x256x128 .bf16 :=
  View.readAt (Elt F) a.view (Rect.unit (s := S1x16x2048x128) o S1x1x256x128.size h).toLoadRect X

abbrev rvc (a : Memref sig .tc .vmem S1x16x64x256 .bf16) (X : BufTy.Contents (Elt F) a.view.ty) (o : Fin 4 → ℕ)
    (h : ∀ d, o d + S1x1x64x256.size d ≤ S1x16x64x256.size d) : Vec F S1x1x64x256 .bf16 :=
  View.readAt (Elt F) a.view (Rect.unit (s := S1x16x64x256) o S1x1x64x256.size h).toLoadRect X

abbrev rvx (a : Memref sig .tc .vmem S1x16x64x2048 .bf16) (X : BufTy.Contents (Elt F) a.view.ty) (o : Fin 4 → ℕ)
    (h : ∀ d, o d + S1x1x64x256.size d ≤ S1x16x64x2048.size d) : Vec F S1x1x64x256 .bf16 :=
  View.readAt (Elt F) a.view (Rect.unit (s := S1x16x64x2048) o S1x1x64x256.size h).toLoadRect X

section Trip

variable (𝒱 : Variants) (c : Dev nD) (bd : Option 𝒱.V) (i : grid0.Coords)
  (arg2 : Memref sig .tc .vmem S1x16x128x512 .bf16) (harg2 : arg2.IsWhole)
  (arg3 : Memref sig .tc .vmem S1x16x2048x128 .bf16) (harg3 : arg3.IsWhole)
  (arg4 : Memref sig .tc .vmem S1x16x64x2048 .bf16) (harg4 : arg4.IsWhole)
  (arg5 : Memref sig .tc .vmem S1x16x256x128 .bf16) (harg5 : arg5.IsWhole)
  (arg6 : Memref sig .tc .vmem S1x16x64x256 .bf16) (harg6 : arg6.IsWhole)
  (arg7 : Memref sig .tc .vmem S1x512x1024 .bf16) (harg7 : arg7.IsWhole)
  (arg8 : Memref sig .tc .vmem S2304x512 .f32) (harg8 : arg8.IsWhole)
  (arg9 : Memref sig .tc .vmem S2304x512 .f32) (harg9 : arg9.IsWhole)
  (arg10 : Memref sig .tc .vmem S1024x512 .f32) (harg10 : arg10.IsWhole)
  (v1 : FVec F S128x512 .bf16) (v56 : FVec F S8x512 .f32)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (k : Fin k0_t1_loop.trips)

/-- The queries of head `2k + 1 + r`. -/
abbrev rawQ (r : Fin 2) : Vec F S1x1x128x512 .bf16 := rq arg2 X2 (k0_off1 k (BitVec.ofNat 32 (1 + r.val))) (k0_off1_inb k r)

/-- The nine blocks of keys of head `2k + 1 + r`. -/
abbrev rawK (r : Fin 2) : Fin 9 → Vec F S1x1x256x128 .bf16 :=
  ![rc arg5 X5 (k0_off2 k (BitVec.ofNat 32 (1 + r.val))) (k0_off2_inb k r), rx arg3 X3 (k0_off4 k (BitVec.ofNat 32 (1 + r.val))) (k0_off4_inb k r),
    rx arg3 X3 (k0_off6 k (BitVec.ofNat 32 (1 + r.val))) (k0_off6_inb k r),
    rx arg3 X3 (k0_off8 k (BitVec.ofNat 32 (1 + r.val))) (k0_off8_inb k r),
    rx arg3 X3 (k0_off10 k (BitVec.ofNat 32 (1 + r.val))) (k0_off10_inb k r),
    rx arg3 X3 (k0_off12 k (BitVec.ofNat 32 (1 + r.val))) (k0_off12_inb k r),
    rx arg3 X3 (k0_off14 k (BitVec.ofNat 32 (1 + r.val))) (k0_off14_inb k r),
    rx arg3 X3 (k0_off16 k (BitVec.ofNat 32 (1 + r.val))) (k0_off16_inb k r),
    rx arg3 X3 (k0_off18 k (BitVec.ofNat 32 (1 + r.val))) (k0_off18_inb k r)]

/-- The nine blocks of values of head `2k`. -/
abbrev rawV0 : Fin 9 → Vec F S1x1x64x256 .bf16 :=
  ![rvc arg6 X6 (k0_off3 k) (k0_off3_inb k), rvx arg4 X4 (k0_off5 k) (k0_off5_inb k),
    rvx arg4 X4 (k0_off7 k) (k0_off7_inb k),
    rvx arg4 X4 (k0_off9 k) (k0_off9_inb k),
    rvx arg4 X4 (k0_off11 k) (k0_off11_inb k),
    rvx arg4 X4 (k0_off13 k) (k0_off13_inb k),
    rvx arg4 X4 (k0_off15 k) (k0_off15_inb k),
    rvx arg4 X4 (k0_off17 k) (k0_off17_inb k),
    rvx arg4 X4 (k0_off19 k) (k0_off19_inb k)]

/-- The nine blocks of values of head `2k + 1`. -/
abbrev rawV1 : Fin 9 → Vec F S1x1x64x256 .bf16 :=
  ![rvc arg6 X6 (k0_off21 k) (k0_off21_inb k), rvx arg4 X4 (k0_off22 k) (k0_off22_inb k),
    rvx arg4 X4 (k0_off23 k) (k0_off23_inb k),
    rvx arg4 X4 (k0_off24 k) (k0_off24_inb k),
    rvx arg4 X4 (k0_off25 k) (k0_off25_inb k),
    rvx arg4 X4 (k0_off26 k) (k0_off26_inb k),
    rvx arg4 X4 (k0_off27 k) (k0_off27_inb k),
    rvx arg4 X4 (k0_off28 k) (k0_off28_inb k),
    rvx arg4 X4 (k0_off29 k) (k0_off29_inb k)]

theorem trip_yields (acc : FVec F S1x512 .f32) (f8 : BufTy.Contents (Elt F) arg8.view.ty) (f9 : BufTy.Contents (Elt F) arg9.view.ty)
    (f10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 v1 v56 X2 X3 X4 X5 X6 k).1 acc f8 f9 f10 = maxOf9 fun b => score (rawQ arg2 X2 k 1) (rawK arg3 arg5 X3 X5 k 1 b) := by
  unfold trip_k0_t1
  rfl

theorem trip_stores8 (acc : FVec F S1x512 .f32) (f8 : BufTy.Contents (Elt F) arg8.view.ty) (f9 : BufTy.Contents (Elt F) arg9.view.ty)
    (f10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 v1 v56 X2 X3 X4 X5 X6 k).2.1 acc f8 f9 f10 = nine fun b => k0_pay5 (rawQ arg2 X2 k 1) (rawK arg3 arg5 X3 X5 k 1 b) := by
  unfold trip_k0_t1
  rfl

theorem trip_stores9 (acc : FVec F S1x512 .f32) (f8 : BufTy.Contents (Elt F) arg8.view.ty) (f9 : BufTy.Contents (Elt F) arg9.view.ty)
    (f10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 v1 v56 X2 X3 X4 X5 X6 k).2.2.1 acc f8 f9 f10 = nine fun b => k0_pay5 (rawQ arg2 X2 k 0) (rawK arg3 arg5 X3 X5 k 0 b) := by
  unfold trip_k0_t1
  rfl

theorem trip_stores10 (acc : FVec F S1x512 .f32) (f8 : BufTy.Contents (Elt F) arg8.view.ty) (f9 : BufTy.Contents (Elt F) arg9.view.ty)
    (f10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 v1 v56 X2 X3 X4 X5 X6 k).2.2.2.1 acc f8 f9 f10 =
      [⟨Rect.unit (s := S1024x512) (k0_off30 k) S64x512.size (k0_off30_inb k),
          outOf9 (maxOf9 fun b => score (rawQ arg2 X2 k 0) (rawK arg3 arg5 X3 X5 k 0 b))
            (fun b => arg9.view.readCov (nine fun b => k0_pay5 (rawQ arg2 X2 k 0) (rawK arg3 arg5 X3 X5 k 0 b)) (rowsS b).toLoadRect)
            (rawV1 arg4 arg6 X4 X6 k)⟩,
        ⟨Rect.unit (s := S1024x512) (k0_off20 k) S64x512.size (k0_off20_inb k),
          outOf9 acc (fun b => View.readAt (Elt F) arg8.view (rowsS b).toLoadRect f8) (rawV0 arg4 arg6 X4 X6 k)⟩] := by
  unfold trip_k0_t1
  unfold outOf9 maxOf9 nine rawQ rawK rawV0 rawV1
  simp only [Matrix.cons_val]
  refine congrArg₂ (fun a b => [a, b]) ?_ ?_
  · refine congrArg (Sigma.mk _) ?_
    rfl
  · rfl

end Trip

end Cert.KernelIdeal.Attn

end
-- ==== Proof.AttnRun.lean ====
/- The attention launch's body run at any contents of its buffers. -/
module

public import proofs.«01_k».proof.Proof.Gen.KernelIdeal.Frame
public import proofs.«01_k».proof.Proof.Gen.KernelIdeal.Loops

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 1700000 in
/-- What the body stores into its output, as pieces, with the proof that on whole buffers, the operands at `x0` to `x4` and
    the scratch buffers at `G8`, `G9`, `G10`, it runs to the operands as they were and the output with those pieces
    written. The pieces are those the run finds. -/
def attnRun (c : Dev nD) (i : grid0.Coords)
    (arg2 : Memref sig .tc .vmem S1x16x128x512 .bf16) (harg2 : arg2.IsWhole)
    (arg3 : Memref sig .tc .vmem S1x16x2048x128 .bf16) (harg3 : arg3.IsWhole)
    (arg4 : Memref sig .tc .vmem S1x16x64x2048 .bf16) (harg4 : arg4.IsWhole)
    (arg5 : Memref sig .tc .vmem S1x16x256x128 .bf16) (harg5 : arg5.IsWhole)
    (arg6 : Memref sig .tc .vmem S1x16x64x256 .bf16) (harg6 : arg6.IsWhole)
    (arg7 : Memref sig .tc .vmem S1x512x1024 .bf16) (harg7 : arg7.IsWhole)
    (arg8 : Memref sig .tc .vmem S2304x512 .f32) (harg8 : arg8.IsWhole)
    (arg9 : Memref sig .tc .vmem S2304x512 .f32) (harg9 : arg9.IsWhole)
    (arg10 : Memref sig .tc .vmem S1024x512 .f32) (harg10 : arg10.IsWhole)
    (x0 : Vec F S1x16x128x512 .bf16) (x1 : Vec F S1x16x2048x128 .bf16) (x2 : Vec F S1x16x64x2048 .bf16)
    (x3 : Vec F S1x16x256x128 .bf16) (x4 : Vec F S1x16x64x256 .bf16)
    (G8 : BufTy.Contents (Elt F) arg8.view.ty) (G9 : BufTy.Contents (Elt F) arg9.view.ty)
    (G10 : BufTy.Contents (Elt F) arg10.view.ty) :
    { L7 : List (View.Piece (Elt F) S1x512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (arg8.view.loc (c : Thread nD τ) ↦[arg8.view.set]{fullShare} G8) ∗ (arg9.view.loc (c : Thread nD τ) ↦[arg9.view.set]{fullShare} G9)
            ∗ (arg10.view.loc (c : Thread nD τ) ↦[arg10.view.set]{fullShare} G10)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L7)
                ∗ (∃ f, arg8.view.loc (c : Thread nD τ) ↦[arg8.view.set]{fullShare} f) ∗ (∃ f, arg9.view.loc (c : Thread nD τ) ↦[arg9.view.set]{fullShare} f)
                ∗ (∃ f, arg10.view.loc (c : Thread nD τ) ↦[arg10.view.set]{fullShare} f)) -∗ K ⟨⟩))
          ⊢ wp frame (wpE (defs₀ (F := F)) Variants.none (c : Thread nD τ) none) E
              (cc0_mla_attention i arg2 harg2 arg3 harg3 arg4 harg4 arg5 harg5 arg6 harg6 arg7 harg7 arg8 harg8 arg9 harg9 arg10 harg10) K } := by
  refine ⟨?_, fun E K => ?run⟩
  case run =>
    simp only [cc0_mla_attention_eq_skeleton]; unfold cc0_mla_attention_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HS8, HS9, HS10, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS8]; · iexists _; iexact HS8
    isplitl [HS9]; · iexists _; iexact HS9
    iexists _; iexact HS10

end Cert.KernelIdeal.Attn

end
-- ==== Proof.AttnHeads.lean ====
/- The attention launch's loop over pairs of heads, in terms of its operands: after `k` trips the first scratch buffer
   holds the scores of head `2k` and the third the outputs of the heads before. -/
module

public import proofs.«01_k».proof.Proof.AttnTrip
public import proofs.«01_k».proof.Proof.AttnRun

@[expose] public section

set_option maxRecDepth 65536

noncomputable section

namespace Cert.KernelIdeal.Attn

open Idealize.ShloMosaic Idealize.ShloMosaic.TcCoe
open Cert.KernelIdeal Cert.KernelIdeal.Gen

variable {F : FTy → Type} [FloatOps F]

/-! ## One head's blocks of the operands -/

theorem inbQ : ∀ (h : Fin 16) (d : Fin 4), (![0, h.val, 0, 0] : Fin 4 → ℕ) d + S1x1x128x512.size d ≤ S1x16x128x512.size d := by
  decide +kernel
theorem inbC : ∀ (h : Fin 16) (d : Fin 4), (![0, h.val, 0, 0] : Fin 4 → ℕ) d + S1x1x256x128.size d ≤ S1x16x256x128.size d := by
  decide +kernel
theorem inbX : ∀ (h : Fin 16) (b : Fin 8) (d : Fin 4),
    (![0, h.val, 256 * b.val, 0] : Fin 4 → ℕ) d + S1x1x256x128.size d ≤ S1x16x2048x128.size d := by
  decide +kernel
theorem inbVC : ∀ (h : Fin 16) (d : Fin 4), (![0, h.val, 0, 0] : Fin 4 → ℕ) d + S1x1x64x256.size d ≤ S1x16x64x256.size d := by
  decide +kernel
theorem inbVX : ∀ (h : Fin 16) (b : Fin 8) (d : Fin 4),
    (![0, h.val, 0, 256 * b.val] : Fin 4 → ℕ) d + S1x1x64x256.size d ≤ S1x16x64x2048.size d := by
  decide +kernel
theorem inbO : ∀ (h : Fin 16) (d : Fin 2), (![64 * h.val, 0] : Fin 2 → ℕ) d + S64x512.size d ≤ S1024x512.size d := by
  decide +kernel

def qHead (x0 : Vec F S1x16x128x512 .bf16) (h : Fin 16) : Vec F S1x1x128x512 .bf16 :=
  View.ld x0 (Rect.unit (s := S1x16x128x512) ![0, h.val, 0, 0] S1x1x128x512.size (inbQ h))

def keyC (x3 : Vec F S1x16x256x128 .bf16) (h : Fin 16) : Vec F S1x1x256x128 .bf16 :=
  View.ld x3 (Rect.unit (s := S1x16x256x128) ![0, h.val, 0, 0] S1x1x256x128.size (inbC h))

def keyX (x1 : Vec F S1x16x2048x128 .bf16) (h : Fin 16) (b : Fin 8) : Vec F S1x1x256x128 .bf16 :=
  View.ld x1 (Rect.unit (s := S1x16x2048x128) ![0, h.val, 256 * b.val, 0] S1x1x256x128.size (inbX h b))

def valC (x4 : Vec F S1x16x64x256 .bf16) (h : Fin 16) : Vec F S1x1x64x256 .bf16 :=
  View.ld x4 (Rect.unit (s := S1x16x64x256) ![0, h.val, 0, 0] S1x1x64x256.size (inbVC h))

def valX (x2 : Vec F S1x16x64x2048 .bf16) (h : Fin 16) (b : Fin 8) : Vec F S1x1x64x256 .bf16 :=
  View.ld x2 (Rect.unit (s := S1x16x64x2048) ![0, h.val, 0, 256 * b.val] S1x1x64x256.size (inbVX h b))

/-- The nine blocks of keys of a head: the compressed keys, then the token keys. -/
def keys (x1 : Vec F S1x16x2048x128 .bf16) (x3 : Vec F S1x16x256x128 .bf16) (h : Fin 16) : Fin 9 → Vec F S1x1x256x128 .bf16 :=
  ![keyC x3 h, keyX x1 h 0, keyX x1 h 1, keyX x1 h 2, keyX x1 h 3, keyX x1 h 4, keyX x1 h 5, keyX x1 h 6, keyX x1 h 7]

/-- The nine blocks of values of a head. -/
def vals (x2 : Vec F S1x16x64x2048 .bf16) (x4 : Vec F S1x16x64x256 .bf16) (h : Fin 16) : Fin 9 → Vec F S1x1x64x256 .bf16 :=
  ![valC x4 h, valX x2 h 0, valX x2 h 1, valX x2 h 2, valX x2 h 3, valX x2 h 4, valX x2 h 5, valX x2 h 6, valX x2 h 7]

/-- The largest scores of a head. -/
def headMax (x0 : Vec F S1x16x128x512 .bf16) (x1 : Vec F S1x16x2048x128 .bf16) (x3 : Vec F S1x16x256x128 .bf16) (h : Fin 16) :
    FVec F S1x512 .f32 :=
  maxOf9 fun b => score (qHead x0 h) (keys x1 x3 h b)

/-- The scores of a head as stored, by blocks. -/
def stored (x0 : Vec F S1x16x128x512 .bf16) (x1 : Vec F S1x16x2048x128 .bf16) (x3 : Vec F S1x16x256x128 .bf16) (h : Fin 16) :
    Fin 9 → Vec F S256x512 .f32 :=
  fun b => k0_pay5 (qHead x0 h) (keys x1 x3 h b)

/-- The output of a head. -/
def headOut (x0 : Vec F S1x16x128x512 .bf16) (x1 : Vec F S1x16x2048x128 .bf16) (x2 : Vec F S1x16x64x2048 .bf16)
    (x3 : Vec F S1x16x256x128 .bf16) (x4 : Vec F S1x16x64x256 .bf16) (h : Fin 16) : FVec F S64x512 .f32 :=
  outOf9 (headMax x0 x1 x3 h) (stored x0 x1 x3 h) (vals x2 x4 h)

section Loads

variable (a2 : Memref sig .tc .vmem S1x16x128x512 .bf16) (h2 : a2.IsWhole) (a3 : Memref sig .tc .vmem S1x16x2048x128 .bf16) (h3 : a3.IsWhole)
  (a4 : Memref sig .tc .vmem S1x16x64x2048 .bf16) (h4 : a4.IsWhole) (a5 : Memref sig .tc .vmem S1x16x256x128 .bf16) (h5 : a5.IsWhole)
  (a6 : Memref sig .tc .vmem S1x16x64x256 .bf16) (h6 : a6.IsWhole)
  (x0 : Vec F S1x16x128x512 .bf16) (x1 : Vec F S1x16x2048x128 .bf16) (x2 : Vec F S1x16x64x2048 .bf16)
  (x3 : Vec F S1x16x256x128 .bf16) (x4 : Vec F S1x16x64x256 .bf16) (h : Fin 16) (b : Fin 8) {o : Fin 4 → ℕ}

theorem rq_of (hin) (e : o = ![0, h.val, 0, 0]) : rq a2 (h2.unread x0) o hin = qHead x0 h := by
  subst e; unfold rq qHead; rw [View.readAt_eq_ld, h2.read_unread]
theorem rc_of (hin) (e : o = ![0, h.val, 0, 0]) : rc a5 (h5.unread x3) o hin = keyC x3 h := by
  subst e; unfold rc keyC; rw [View.readAt_eq_ld, h5.read_unread]
theorem rx_of (hin) (e : o = ![0, h.val, 256 * b.val, 0]) : rx a3 (h3.unread x1) o hin = keyX x1 h b := by
  subst e; unfold rx keyX; rw [View.readAt_eq_ld, h3.read_unread]
theorem rvc_of (hin) (e : o = ![0, h.val, 0, 0]) : rvc a6 (h6.unread x4) o hin = valC x4 h := by
  subst e; unfold rvc valC; rw [View.readAt_eq_ld, h6.read_unread]
theorem rvx_of (hin) (e : o = ![0, h.val, 0, 256 * b.val]) : rvx a4 (h4.unread x2) o hin = valX x2 h b := by
  subst e; unfold rvx valX; rw [View.readAt_eq_ld, h4.read_unread]

/-- Head `2k + r` of trip `k`. -/
abbrev pairHead (k : Fin k0_t1_loop.trips) (r : Fin 3) : Fin 16 :=
  ⟨2 * k.val + r.val, by have hk : k.val < 7 := k.isLt; omega⟩

variable (k : Fin k0_t1_loop.trips) (r : Fin 2)

theorem rawQ_eq : rawQ a2 (h2.unread x0) k r = qHead x0 (pairHead k r.succ) :=
  rq_of a2 h2 x0 _ _ (k0_off1_eq k r)

theorem rawK_eq : rawK a3 a5 (h3.unread x1) (h5.unread x3) k r = keys x1 x3 (pairHead k r.succ) := by
  unfold rawK keys
  rw [rc_of a5 h5 x3 (pairHead k r.succ) _ (k0_off2_eq k r),
    rx_of a3 h3 x1 (pairHead k r.succ) 0 _ (k0_off4_eq k r), rx_of a3 h3 x1 (pairHead k r.succ) 1 _ (k0_off6_eq k r), rx_of a3 h3 x1 (pairHead k r.succ) 2 _ (k0_off8_eq k r), rx_of a3 h3 x1 (pairHead k r.succ) 3 _ (k0_off10_eq k r), rx_of a3 h3 x1 (pairHead k r.succ) 4 _ (k0_off12_eq k r), rx_of a3 h3 x1 (pairHead k r.succ) 5 _ (k0_off14_eq k r), rx_of a3 h3 x1 (pairHead k r.succ) 6 _ (k0_off16_eq k r), rx_of a3 h3 x1 (pairHead k r.succ) 7 _ (k0_off18_eq k r)]

theorem rawV0_eq : rawV0 a4 a6 (h4.unread x2) (h6.unread x4) k = vals x2 x4 (pairHead k 0) := by
  unfold rawV0 vals
  rw [rvc_of a6 h6 x4 (pairHead k 0) _ (k0_off3_eq k),
    rvx_of a4 h4 x2 (pairHead k 0) 0 _ (k0_off5_eq k), rvx_of a4 h4 x2 (pairHead k 0) 1 _ (k0_off7_eq k), rvx_of a4 h4 x2 (pairHead k 0) 2 _ (k0_off9_eq k), rvx_of a4 h4 x2 (pairHead k 0) 3 _ (k0_off11_eq k), rvx_of a4 h4 x2 (pairHead k 0) 4 _ (k0_off13_eq k), rvx_of a4 h4 x2 (pairHead k 0) 5 _ (k0_off15_eq k), rvx_of a4 h4 x2 (pairHead k 0) 6 _ (k0_off17_eq k), rvx_of a4 h4 x2 (pairHead k 0) 7 _ (k0_off19_eq k)]

theorem rawV1_eq : rawV1 a4 a6 (h4.unread x2) (h6.unread x4) k = vals x2 x4 (pairHead k 1) := by
  unfold rawV1 vals
  rw [rvc_of a6 h6 x4 (pairHead k 1) _ (k0_off21_eq k),
    rvx_of a4 h4 x2 (pairHead k 1) 0 _ (k0_off22_eq k), rvx_of a4 h4 x2 (pairHead k 1) 1 _ (k0_off23_eq k), rvx_of a4 h4 x2 (pairHead k 1) 2 _ (k0_off24_eq k), rvx_of a4 h4 x2 (pairHead k 1) 3 _ (k0_off25_eq k), rvx_of a4 h4 x2 (pairHead k 1) 4 _ (k0_off26_eq k), rvx_of a4 h4 x2 (pairHead k 1) 5 _ (k0_off27_eq k), rvx_of a4 h4 x2 (pairHead k 1) 6 _ (k0_off28_eq k), rvx_of a4 h4 x2 (pairHead k 1) 7 _ (k0_off29_eq k)]

end Loads

/-! ## The third scratch buffer -/

/-- The rows of the third scratch buffer that hold a head's output. -/
abbrev rowsO (h : Fin 16) : Rect S1024x512 := Rect.unit (s := S1024x512) ![64 * h.val, 0] S64x512.size (inbO h)

/-- The stores of the first `n` heads' outputs, the last first. -/
def outs (w : Fin 16 → FVec F S64x512 .f32) : (n : ℕ) → n ≤ 16 → List (View.Piece (Elt F) S1024x512 .f32)
  | 0, _ => []
  | n + 1, hn => ⟨rowsO ⟨n, hn⟩, w ⟨n, hn⟩⟩ :: outs w n (Nat.le_of_succ_le hn)

/-- An index of the third scratch buffer within its head's rows. -/
def rowIn (y : S1024x512.Idx) : S64x512.Idx :=
  Fin.cons (⟨(y (0 : Fin 2)).val % 64, Nat.mod_lt _ (by decide)⟩ : Fin 64) (Fin.cons (y (1 : Fin 2)) finZeroElim)

/-- All heads' outputs, head `h` at rows `64h`, … -/
def stack (w : Fin 16 → FVec F S64x512 .f32) : Vec F S1024x512 .f32 := fun y =>
  w ⟨(y (0 : Fin 2)).val / 64, Nat.div_lt_of_lt_mul (y (0 : Fin 2)).isLt⟩ (rowIn y)

theorem piece_congr {o o' : Fin 2 → ℕ} (e : o = o') (hin hin') (w : FVec F S64x512 .f32) :
    (⟨Rect.unit (s := S1024x512) o S64x512.size hin, w⟩ : View.Piece (Elt F) S1024x512 .f32)
      = ⟨Rect.unit (s := S1024x512) o' S64x512.size hin', w⟩ := by
  subst e; rfl

/-! ## The loop -/

section Loop

variable (𝒱 : Variants) (c : Dev nD) (bd : Option 𝒱.V) (i : grid0.Coords)
  (arg2 : Memref sig .tc .vmem S1x16x128x512 .bf16) (harg2 : arg2.IsWhole)
  (arg3 : Memref sig .tc .vmem S1x16x2048x128 .bf16) (harg3 : arg3.IsWhole)
  (arg4 : Memref sig .tc .vmem S1x16x64x2048 .bf16) (harg4 : arg4.IsWhole)
  (arg5 : Memref sig .tc .vmem S1x16x256x128 .bf16) (harg5 : arg5.IsWhole)
  (arg6 : Memref sig .tc .vmem S1x16x64x256 .bf16) (harg6 : arg6.IsWhole)
  (arg7 : Memref sig .tc .vmem S1x512x1024 .bf16) (harg7 : arg7.IsWhole)
  (arg8 : Memref sig .tc .vmem S2304x512 .f32) (harg8 : arg8.IsWhole)
  (arg9 : Memref sig .tc .vmem S2304x512 .f32) (harg9 : arg9.IsWhole)
  (arg10 : Memref sig .tc .vmem S1024x512 .f32) (harg10 : arg10.IsWhole)
  (v1 : FVec F S128x512 .bf16) (v56 : FVec F S8x512 .f32)
  (x0 : Vec F S1x16x128x512 .bf16) (x1 : Vec F S1x16x2048x128 .bf16) (x2 : Vec F S1x16x64x2048 .bf16)
  (x3 : Vec F S1x16x256x128 .bf16) (x4 : Vec F S1x16x64x256 .bf16)
  (G8 : BufTy.Contents (Elt F) arg8.view.ty) (G9 : BufTy.Contents (Elt F) arg9.view.ty)
  (G10 : BufTy.Contents (Elt F) arg10.view.ty) (init : FVec F S1x512 .f32)

/-- The loop's state before trip `n`, on operands at `x0` to `x4`. -/
abbrev state (n : ℕ) := st_k0_t1 (F := F) 𝒱 c bd i arg2 harg2 arg3 harg3 arg4 harg4 arg5 harg5 arg6 harg6 arg7 harg7 arg8 harg8 arg9 harg9 arg10 harg10 v1 v56
  (harg2.unread x0) (harg3.unread x1) (harg4.unread x2) (harg5.unread x3) (harg6.unread x4) G8 G9 G10 init n

theorem loop_state (hinit : init = headMax x0 x1 x3 0)
    (hG8 : ∀ b, View.readAt (Elt F) arg8.view (rowsS b).toLoadRect G8 = stored x0 x1 x3 0 b) : ∀ (n : ℕ) (hn : n ≤ 7),
    (state 𝒱 c bd i arg2 harg2 arg3 harg3 arg4 harg4 arg5 harg5 arg6 harg6 arg7 harg7 arg8 harg8 arg9 harg9 arg10 harg10 v1 v56 x0 x1 x2 x3 x4 G8 G9 G10 init n).1 = headMax x0 x1 x3 ⟨2 * n, by omega⟩
      ∧ (∀ b, View.readAt (Elt F) arg8.view (rowsS b).toLoadRect
          (arg8.view.writes (Elt F) G8 (state 𝒱 c bd i arg2 harg2 arg3 harg3 arg4 harg4 arg5 harg5 arg6 harg6 arg7 harg7 arg8 harg8 arg9 harg9 arg10 harg10 v1 v56 x0 x1 x2 x3 x4 G8 G9 G10 init n).2.1)
          = stored x0 x1 x3 ⟨2 * n, by omega⟩ b)
      ∧ (state 𝒱 c bd i arg2 harg2 arg3 harg3 arg4 harg4 arg5 harg5 arg6 harg6 arg7 harg7 arg8 harg8 arg9 harg9 arg10 harg10 v1 v56 x0 x1 x2 x3 x4 G8 G9 G10 init n).2.2.2
          = outs (headOut x0 x1 x2 x3 x4) (2 * n) (by omega) := by
  intro n
  induction n with
  | zero => exact fun _ => ⟨hinit, hG8, rfl⟩
  | succ n ih =>
    intro hn
    obtain ⟨ih1, ih2, ih3⟩ := ih (by omega)
    have hk : n < k0_t1_loop.trips := hn
    have e := st_k0_t1_succ (F := F) 𝒱 c bd i arg2 harg2 arg3 harg3 arg4 harg4 arg5 harg5 arg6 harg6 arg7 harg7 arg8 harg8 arg9 harg9 arg10 harg10 v1 v56
      (harg2.unread x0) (harg3.unread x1) (harg4.unread x2) (harg5.unread x3) (harg6.unread x4) G8 G9 G10 init ⟨n, hk⟩
    refine ⟨?_, ?_, ?_⟩
    · refine ((congrArg Prod.fst e).trans (trip_yields ..)).trans ?_
      rw [rawQ_eq arg2 harg2, rawK_eq arg3 harg3 arg5 harg5]; rfl
    · intro b
      have e8 : (state 𝒱 c bd i arg2 harg2 arg3 harg3 arg4 harg4 arg5 harg5 arg6 harg6 arg7 harg7 arg8 harg8 arg9 harg9 arg10 harg10 v1 v56 x0 x1 x2 x3 x4 G8 G9 G10 init (n + 1)).2.1
          = (nine fun b => k0_pay5 (rawQ arg2 (harg2.unread x0) ⟨n, hk⟩ 1) (rawK arg3 arg5 (harg3.unread x1) (harg5.unread x3) ⟨n, hk⟩ 1 b))
            ++ (state 𝒱 c bd i arg2 harg2 arg3 harg3 arg4 harg4 arg5 harg5 arg6 harg6 arg7 harg7 arg8 harg8 arg9 harg9 arg10 harg10 v1 v56 x0 x1 x2 x3 x4 G8 G9 G10 init n).2.1 := by
        rw [show state 𝒱 c bd i arg2 harg2 arg3 harg3 arg4 harg4 arg5 harg5 arg6 harg6 arg7 harg7 arg8 harg8 arg9 harg9 arg10 harg10 v1 v56 x0 x1 x2 x3 x4 G8 G9 G10 init (n + 1) = _ from e]
        exact congrArg (· ++ _) (trip_stores8 ..)
      rw [e8, read_nine, rawQ_eq arg2 harg2, rawK_eq arg3 harg3 arg5 harg5]; rfl
    · rw [show state 𝒱 c bd i arg2 harg2 arg3 harg3 arg4 harg4 arg5 harg5 arg6 harg6 arg7 harg7 arg8 harg8 arg9 harg9 arg10 harg10 v1 v56 x0 x1 x2 x3 x4 G8 G9 G10 init (n + 1) = _ from e]
      refine (congrArg₂ (· ++ ·) (trip_stores10 ..) ih3).trans ?_
      rw [rawQ_eq arg2 harg2, rawK_eq arg3 harg3 arg5 harg5, rawV0_eq arg4 harg4 arg6 harg6, rawV1_eq arg4 harg4 arg6 harg6]
      have r9 : (fun b => arg9.view.readCov (nine fun b => k0_pay5 (qHead x0 (pairHead ⟨n, hk⟩ (Fin.succ 0)))
          (keys x1 x3 (pairHead ⟨n, hk⟩ (Fin.succ 0)) b)) (rowsS b).toLoadRect) = stored x0 x1 x3 (pairHead ⟨n, hk⟩ 1) :=
        funext fun b => by rw [← List.append_nil (nine _), readCov_nine]; rfl
      rw [r9]
      have r8 := funext ih2
      rw [show (fun b => View.readAt (Elt F) arg8.view (rowsS b).toLoadRect (arg8.view.writes (Elt F) G8
        (st_k0_t1 (F := F) 𝒱 c bd i arg2 harg2 arg3 harg3 arg4 harg4 arg5 harg5 arg6 harg6 arg7 harg7 arg8 harg8 arg9 harg9 arg10 harg10 v1 v56
      (harg2.unread x0) (harg3.unread x1) (harg4.unread x2) (harg5.unread x3) (harg6.unread x4) G8 G9 G10 init n).2.1)) = _ from r8]
      rw [show (st_k0_t1 (F := F) 𝒱 c bd i arg2 harg2 arg3 harg3 arg4 harg4 arg5 harg5 arg6 harg6 arg7 harg7 arg8 harg8 arg9 harg9 arg10 harg10 v1 v56
      (harg2.unread x0) (harg3.unread x1) (harg4.unread x2) (harg5.unread x3) (harg6.unread x4) G8 G9 G10 init n).1 = _ from ih1]
      refine congrArg₂ (fun a b => a :: b :: outs (headOut x0 x1 x2 x3 x4) (2 * n) (by omega)) ?_ ?_
      · exact piece_congr ((k0_off30_eq ⟨n, hk⟩).trans (by rw [show 128 * n + 64 = 64 * (2 * n + 1) by omega]; rfl)) _ _ _
      · exact piece_congr ((k0_off20_eq ⟨n, hk⟩).trans (by rw [show 128 * n = 64 * (2 * n) by omega]; rfl)) _ _ _

end Loop

end Cert.KernelIdeal.Attn

end
-- ==== Proof.AttnPieces.lean ====
/- What the attention launch's body stores into its output, in terms of its operands. -/
module

public import proofs.«01_k».proof.Proof.AttnHeads

@[expose] public section

set_option maxRecDepth 65536

noncomputable section

namespace Cert.KernelIdeal.Attn

open Idealize.ShloMosaic Idealize.ShloMosaic.TcCoe
open Cert.KernelIdeal Cert.KernelIdeal.Gen

variable {F : FTy → Type} [FloatOps F]

section Raw

variable (arg2 : Memref sig .tc .vmem S1x16x128x512 .bf16) (arg3 : Memref sig .tc .vmem S1x16x2048x128 .bf16)
  (arg4 : Memref sig .tc .vmem S1x16x64x2048 .bf16) (arg5 : Memref sig .tc .vmem S1x16x256x128 .bf16)
  (arg6 : Memref sig .tc .vmem S1x16x64x256 .bf16)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (h : Fin 16)

/-! The loads of head `h`'s blocks outside the loop. -/

abbrev headQ : Vec F S1x1x128x512 .bf16 := rq arg2 X2 ![0, h.val, 0, 0] (inbQ h)

abbrev headK : Fin 9 → Vec F S1x1x256x128 .bf16 :=
  ![rc arg5 X5 ![0, h.val, 0, 0] (inbC h), rx arg3 X3 ![0, h.val, 0, 0] (inbX h 0), rx arg3 X3 ![0, h.val, 256, 0] (inbX h 1), rx arg3 X3 ![0, h.val, 512, 0] (inbX h 2), rx arg3 X3 ![0, h.val, 768, 0] (inbX h 3), rx arg3 X3 ![0, h.val, 1024, 0] (inbX h 4), rx arg3 X3 ![0, h.val, 1280, 0] (inbX h 5), rx arg3 X3 ![0, h.val, 1536, 0] (inbX h 6), rx arg3 X3 ![0, h.val, 1792, 0] (inbX h 7)]

abbrev headV : Fin 9 → Vec F S1x1x64x256 .bf16 :=
  ![rvc arg6 X6 ![0, h.val, 0, 0] (inbVC h), rvx arg4 X4 ![0, h.val, 0, 0] (inbVX h 0), rvx arg4 X4 ![0, h.val, 0, 256] (inbVX h 1), rvx arg4 X4 ![0, h.val, 0, 512] (inbVX h 2), rvx arg4 X4 ![0, h.val, 0, 768] (inbVX h 3), rvx arg4 X4 ![0, h.val, 0, 1024] (inbVX h 4), rvx arg4 X4 ![0, h.val, 0, 1280] (inbVX h 5), rvx arg4 X4 ![0, h.val, 0, 1536] (inbVX h 6), rvx arg4 X4 ![0, h.val, 0, 1792] (inbVX h 7)]

end Raw

/-- The last head's output in the body's order, on any scores and values. -/
theorem last_out (p : FVec F S8x512 .f32) (s0 s1 s2 s3 s4 s5 s6 s7 s8 : Vec F S256x512 .f32) (v0 v1 v2 v3 v4 v5 v6 v7 v8 : Vec F S1x1x64x256 .bf16) :
    k0_pay1 (k0_pay185 (k0_pay170 p) (k0_pay179 (k0_pay170 p) (k0_pay173 p s0 s1) (k0_pay175 p s2) s3 s4) (k0_pay181 (k0_pay170 p) s5) s6 s7)
        (k0_pay186 (k0_pay170 p) (k0_pay180 (k0_pay170 p) (k0_pay174 p s0 v0 s1 v1) (k0_pay175 p s2) v2 s3 v3 s4 v4)
          (k0_pay181 (k0_pay170 p) s5) v5 s6 v6 s7 v7) (k0_pay187 (k0_pay170 p) s8) v8
      = outOf (k0_pay170 p) s0 s1 s2 s3 s4 s5 s6 s7 s8 v0 v1 v2 v3 v4 v5 v6 v7 v8 := rfl

/-- The output of the last head but one, likewise. -/
theorem last_out' (m : FVec F S1x512 .f32) (s0 s1 s2 s3 s4 s5 s6 s7 s8 : Vec F S256x512 .f32) (v0 v1 v2 v3 v4 v5 v6 v7 v8 : Vec F S1x1x64x256 .bf16) :
    k0_pay169 (k0_pay168 m
        (k0_pay160 m (k0_pay155 m (k0_pay144 m (k0_pay139 m (k0_pay129 m s0) s1 s2) s3) s4 s5) s6)
        (k0_pay161 m (k0_pay150 m (k0_pay145 m (k0_pay134 m (k0_pay130 m s0 v0) s1 v1) (k0_pay138 m s2) v2 s3 v3) s4 v4)
          (k0_pay156 m s5 v5) s6 v6) s7 v7 s8 v8)
      = outOf m s0 s1 s2 s3 s4 s5 s6 s7 s8 v0 v1 v2 v3 v4 v5 v6 v7 v8 := rfl

section Run

variable (c : Dev nD) (i : grid0.Coords)
  (arg2 : Memref sig .tc .vmem S1x16x128x512 .bf16) (harg2 : arg2.IsWhole)
  (arg3 : Memref sig .tc .vmem S1x16x2048x128 .bf16) (harg3 : arg3.IsWhole)
  (arg4 : Memref sig .tc .vmem S1x16x64x2048 .bf16) (harg4 : arg4.IsWhole)
  (arg5 : Memref sig .tc .vmem S1x16x256x128 .bf16) (harg5 : arg5.IsWhole)
  (arg6 : Memref sig .tc .vmem S1x16x64x256 .bf16) (harg6 : arg6.IsWhole)
  (arg7 : Memref sig .tc .vmem S1x512x1024 .bf16) (harg7 : arg7.IsWhole)
  (arg8 : Memref sig .tc .vmem S2304x512 .f32) (harg8 : arg8.IsWhole)
  (arg9 : Memref sig .tc .vmem S2304x512 .f32) (harg9 : arg9.IsWhole)
  (arg10 : Memref sig .tc .vmem S1024x512 .f32) (harg10 : arg10.IsWhole)
  (x0 : Vec F S1x16x128x512 .bf16) (x1 : Vec F S1x16x2048x128 .bf16) (x2 : Vec F S1x16x64x2048 .bf16)
  (x3 : Vec F S1x16x256x128 .bf16) (x4 : Vec F S1x16x64x256 .bf16)
  (G8 : BufTy.Contents (Elt F) arg8.view.ty) (G9 : BufTy.Contents (Elt F) arg9.view.ty)
  (G10 : BufTy.Contents (Elt F) arg10.view.ty)

/-- The loads are the operands' blocks. -/
theorem headQ_eq (h : Fin 16) : headQ arg2 (harg2.unread x0) h = qHead x0 h := rq_of arg2 harg2 x0 h _ rfl

theorem headK_eq (h : Fin 16) : headK arg3 arg5 (harg3.unread x1) (harg5.unread x3) h = keys x1 x3 h := by
  unfold headK keys
  rw [rc_of arg5 harg5 x3 h _ rfl, rx_of arg3 harg3 x1 h 0 (o := ![0, h.val, 0, 0]) _ rfl, rx_of arg3 harg3 x1 h 1 (o := ![0, h.val, 256, 0]) _ rfl, rx_of arg3 harg3 x1 h 2 (o := ![0, h.val, 512, 0]) _ rfl, rx_of arg3 harg3 x1 h 3 (o := ![0, h.val, 768, 0]) _ rfl, rx_of arg3 harg3 x1 h 4 (o := ![0, h.val, 1024, 0]) _ rfl, rx_of arg3 harg3 x1 h 5 (o := ![0, h.val, 1280, 0]) _ rfl, rx_of arg3 harg3 x1 h 6 (o := ![0, h.val, 1536, 0]) _ rfl, rx_of arg3 harg3 x1 h 7 (o := ![0, h.val, 1792, 0]) _ rfl]

theorem headV_eq (h : Fin 16) : headV arg4 arg6 (harg4.unread x2) (harg6.unread x4) h = vals x2 x4 h := by
  unfold headV vals
  rw [rvc_of arg6 harg6 x4 h _ rfl, rvx_of arg4 harg4 x2 h 0 (o := ![0, h.val, 0, 0]) _ rfl, rvx_of arg4 harg4 x2 h 1 (o := ![0, h.val, 0, 256]) _ rfl, rvx_of arg4 harg4 x2 h 2 (o := ![0, h.val, 0, 512]) _ rfl, rvx_of arg4 harg4 x2 h 3 (o := ![0, h.val, 0, 768]) _ rfl, rvx_of arg4 harg4 x2 h 4 (o := ![0, h.val, 0, 1024]) _ rfl, rvx_of arg4 harg4 x2 h 5 (o := ![0, h.val, 0, 1280]) _ rfl, rvx_of arg4 harg4 x2 h 6 (o := ![0, h.val, 0, 1536]) _ rfl, rvx_of arg4 harg4 x2 h 7 (o := ![0, h.val, 0, 1792]) _ rfl]

theorem first_scores : attnRun.sl.HS8_9 c arg2 harg2 arg3 harg3 arg5 harg5 x0 x1 x3
    = nine (stored x0 x1 x3 0) := by
  have e : attnRun.sl.HS8_9 c arg2 harg2 arg3 harg3 arg5 harg5 x0 x1 x3
      = nine fun b => k0_pay5 (headQ arg2 (harg2.unread x0) 0) (headK arg3 arg5 (harg3.unread x1) (harg5.unread x3) 0 b) := by
    unfold attnRun.sl.HS8_9 nine
    simp only [Matrix.cons_val]
    rfl
  rw [e, headQ_eq arg2 harg2, headK_eq arg3 harg3 arg5 harg5]; rfl

/-- The maximum the loop starts from. -/
abbrev first_init : FVec F S1x512 .f32 :=
  k0_pay121 (attnRun.sl.r c arg2 harg2 x0) (attnRun.sl.r_3 c arg2 harg2 arg3 harg3 arg5 harg5 x0 x1 x3)
    (rx arg3 (harg3.unread x1) ![0, 0, 1280, 0] (inbX 0 5)) (rx arg3 (harg3.unread x1) ![0, 0, 1536, 0] (inbX 0 6))
    (rx arg3 (harg3.unread x1) ![0, 0, 1792, 0] (inbX 0 7))

theorem first_max : first_init c arg2 harg2 arg3 harg3 arg5 harg5 x0 x1 x3 = headMax x0 x1 x3 0 := by
  have e : first_init c arg2 harg2 arg3 harg3 arg5 harg5 x0 x1 x3
      = maxOf9 fun b => score (headQ arg2 (harg2.unread x0) 0) (headK arg3 arg5 (harg3.unread x1) (harg5.unread x3) 0 b) := by
    unfold first_init maxOf9
    simp only [Matrix.cons_val]
    rfl
  rw [e, headQ_eq arg2 harg2, headK_eq arg3 harg3 arg5 harg5]; rfl

/-- The loop's state at its end. -/
abbrev lastState :=
  st_k0_t1 Variants.none c none i arg2 harg2 arg3 harg3 arg4 harg4 arg5 harg5 arg6 harg6 arg7 harg7 arg8 harg8 arg9 harg9 arg10 harg10
    (attnRun.sl.r c arg2 harg2 x0) (attnRun.sl.r_3 c arg2 harg2 arg3 harg3 arg5 harg5 x0 x1 x3)
    (harg2.unread x0) (harg3.unread x1) (harg4.unread x2) (harg5.unread x3) (harg6.unread x4)
    (arg8.view.writes (Elt F) arg8.view.junk (attnRun.sl.HS8_9 c arg2 harg2 arg3 harg3 arg5 harg5 x0 x1 x3)) G9 G10
    (first_init c arg2 harg2 arg3 harg3 arg5 harg5 x0 x1 x3) (Scf.trips k0_t1_loop.lb k0_t1_loop.ub k0_t1_loop.st)

theorem last_scores :
    attnRun.sl.HS9_9 c i arg2 harg2 arg3 harg3 arg4 harg4 arg5 harg5 arg6 harg6 arg7 harg7 arg8 harg8 arg9 harg9 arg10 harg10 x0 x1 x2 x3 x4 G9 G10
      = nine (stored x0 x1 x3 15) ++ (lastState c i arg2 harg2 arg3 harg3 arg4 harg4 arg5 harg5 arg6 harg6 arg7 harg7 arg8 harg8 arg9 harg9 arg10 harg10 x0 x1 x2 x3 x4 G9 G10).2.2.1 := by
  have e : attnRun.sl.HS9_9 c i arg2 harg2 arg3 harg3 arg4 harg4 arg5 harg5 arg6 harg6 arg7 harg7 arg8 harg8 arg9 harg9 arg10 harg10 x0 x1 x2 x3 x4 G9 G10
      = (nine fun b => k0_pay5 (headQ arg2 (harg2.unread x0) 15) (headK arg3 arg5 (harg3.unread x1) (harg5.unread x3) 15 b))
        ++ (lastState c i arg2 harg2 arg3 harg3 arg4 harg4 arg5 harg5 arg6 harg6 arg7 harg7 arg8 harg8 arg9 harg9 arg10 harg10 x0 x1 x2 x3 x4 G9 G10).2.2.1 := by
    unfold attnRun.sl.HS9_9 nine
    simp only [Matrix.cons_val]
    rfl
  rw [e, headQ_eq arg2 harg2, headK_eq arg3 harg3 arg5 harg5]; rfl

theorem last_max : k0_pay170 (attnRun.sl.r_24 arg2 harg2 arg3 harg3 arg5 harg5 x0 x1 x3) = headMax x0 x1 x3 15 := by
  have e : k0_pay170 (attnRun.sl.r_24 arg2 harg2 arg3 harg3 arg5 harg5 x0 x1 x3)
      = maxOf9 fun b => score (headQ arg2 (harg2.unread x0) 15) (headK arg3 arg5 (harg3.unread x1) (harg5.unread x3) 15 b) := by
    unfold maxOf9
    simp only [Matrix.cons_val]
    rfl
  rw [e, headQ_eq arg2 harg2, headK_eq arg3 harg3 arg5 harg5]; rfl

theorem last_stores :
    attnRun.sl.HS10_2 c i arg2 harg2 arg3 harg3 arg4 harg4 arg5 harg5 arg6 harg6 arg7 harg7 arg8 harg8 arg9 harg9 arg10 harg10 x0 x1 x2 x3 x4 G9 G10
      = ⟨rowsO 15, outOf9 (k0_pay170 (attnRun.sl.r_24 arg2 harg2 arg3 harg3 arg5 harg5 x0 x1 x3))
            (fun b => arg9.view.readCov (attnRun.sl.HS9_9 c i arg2 harg2 arg3 harg3 arg4 harg4 arg5 harg5 arg6 harg6 arg7 harg7 arg8 harg8 arg9 harg9 arg10 harg10 x0 x1 x2 x3 x4 G9 G10) (rowsS b).toLoadRect)
            (headV arg4 arg6 (harg4.unread x2) (harg6.unread x4) 15)⟩
        :: ⟨rowsO 14, outOf9 (lastState c i arg2 harg2 arg3 harg3 arg4 harg4 arg5 harg5 arg6 harg6 arg7 harg7 arg8 harg8 arg9 harg9 arg10 harg10 x0 x1 x2 x3 x4 G9 G10).1
            (fun b => arg8.view.readCov ((lastState c i arg2 harg2 arg3 harg3 arg4 harg4 arg5 harg5 arg6 harg6 arg7 harg7 arg8 harg8 arg9 harg9 arg10 harg10 x0 x1 x2 x3 x4 G9 G10).2.1
              ++ attnRun.sl.HS8_9 c arg2 harg2 arg3 harg3 arg5 harg5 x0 x1 x3) (rowsS b).toLoadRect)
            (headV arg4 arg6 (harg4.unread x2) (harg6.unread x4) 14)⟩
        :: (lastState c i arg2 harg2 arg3 harg3 arg4 harg4 arg5 harg5 arg6 harg6 arg7 harg7 arg8 harg8 arg9 harg9 arg10 harg10 x0 x1 x2 x3 x4 G9 G10).2.2.2 := by
  unfold attnRun.sl.HS10_2
  unfold outOf9 headV
  simp only [Matrix.cons_val]
  refine congrArg₂ (fun a b => a :: b :: _) ?_ ?_
  · refine congrArg (Sigma.mk _) ?_
    unfold attnRun.sl.r_33 attnRun.sl.r_34 attnRun.sl.r_35 attnRun.sl.r_32 attnRun.sl.r_31 attnRun.sl.r_30 attnRun.sl.r_29
      attnRun.sl.r_28 attnRun.sl.r_27 attnRun.sl.r_26
    exact last_out ..
  · refine congrArg (Sigma.mk _) ?_
    unfold attnRun.sl.r_25 attnRun.sl.r_22 attnRun.sl.r_21 attnRun.sl.r_20 attnRun.sl.r_19 attnRun.sl.r_17 attnRun.sl.r_15
      attnRun.sl.r_14 attnRun.sl.r_12 attnRun.sl.r_11 attnRun.sl.r_9 attnRun.sl.r_7 attnRun.sl.r_6
    exact last_out' ..

/-- After the last store the third scratch buffer holds the outputs of all heads. -/
theorem all_stores :
    attnRun.sl.HS10_2 c i arg2 harg2 arg3 harg3 arg4 harg4 arg5 harg5 arg6 harg6 arg7 harg7 arg8 harg8 arg9 harg9 arg10 harg10 x0 x1 x2 x3 x4 G9 G10
      = outs (headOut x0 x1 x2 x3 x4) 16 (le_refl 16) := by
  obtain ⟨h1, h2, h3⟩ := loop_state Variants.none c none i arg2 harg2 arg3 harg3 arg4 harg4 arg5 harg5 arg6 harg6 arg7 harg7 arg8 harg8 arg9 harg9 arg10 harg10
    (attnRun.sl.r c arg2 harg2 x0) (attnRun.sl.r_3 c arg2 harg2 arg3 harg3 arg5 harg5 x0 x1 x3) x0 x1 x2 x3 x4
    (arg8.view.writes (Elt F) arg8.view.junk (attnRun.sl.HS8_9 c arg2 harg2 arg3 harg3 arg5 harg5 x0 x1 x3)) G9 G10
    (first_init c arg2 harg2 arg3 harg3 arg5 harg5 x0 x1 x3)
    (first_max c arg2 harg2 arg3 harg3 arg5 harg5 x0 x1 x3)
    (fun b => by rw [first_scores, ← List.append_nil (nine _), read_nine]) 7 (le_refl 7)
  have e8 : (fun b => arg8.view.readCov ((lastState c i arg2 harg2 arg3 harg3 arg4 harg4 arg5 harg5 arg6 harg6 arg7 harg7 arg8 harg8 arg9 harg9 arg10 harg10 x0 x1 x2 x3 x4 G9 G10).2.1
      ++ attnRun.sl.HS8_9 c arg2 harg2 arg3 harg3 arg5 harg5 x0 x1 x3) (rowsS b).toLoadRect) = stored x0 x1 x3 14 := by
    funext b
    unfold View.readCov
    rw [View.writes_append]
    exact h2 b
  have e9 : (fun b => arg9.view.readCov (attnRun.sl.HS9_9 c i arg2 harg2 arg3 harg3 arg4 harg4 arg5 harg5 arg6 harg6 arg7 harg7 arg8 harg8 arg9 harg9 arg10 harg10 x0 x1 x2 x3 x4 G9 G10) (rowsS b).toLoadRect)
      = stored x0 x1 x3 15 := by
    funext b
    rw [last_scores, readCov_nine]
  have e1 : (lastState c i arg2 harg2 arg3 harg3 arg4 harg4 arg5 harg5 arg6 harg6 arg7 harg7 arg8 harg8 arg9 harg9 arg10 harg10 x0 x1 x2 x3 x4 G9 G10).1 = headMax x0 x1 x3 14 := h1
  have e3 : (lastState c i arg2 harg2 arg3 harg3 arg4 harg4 arg5 harg5 arg6 harg6 arg7 harg7 arg8 harg8 arg9 harg9 arg10 harg10 x0 x1 x2 x3 x4 G9 G10).2.2.2 = outs (headOut x0 x1 x2 x3 x4) 14 (by omega) := h3
  rw [last_stores, last_max, e9, e8, e1, e3, headV_eq arg4 harg4 arg6 harg6, headV_eq arg4 harg4 arg6 harg6]
  rfl

/-- Reading the whole buffer after the heads' stores gives their outputs stacked. -/
theorem read_outs {sig' : RefSig} {κ : Kind} {sp : Space} (v : View sig' κ sp S1024x512 .f32) (f : v.ty.Contents (Elt F))
    (w : Fin 16 → FVec F S64x512 .f32) : ∀ (n : ℕ) (hn : n ≤ 16) (y : S1024x512.Idx), (y (0 : Fin 2)).val < 64 * n →
      v.read (Elt F) (v.writes (Elt F) f (outs w n hn)) y = stack w y
  | 0, _, y, hy => absurd hy (by omega)
  | n + 1, hn, y, hy => by
    by_cases h : (y (0 : Fin 2)).val < 64 * n
    · refine Eq.trans ?_ (read_outs v f w n (Nat.le_of_succ_le hn) y h)
      exact View.read_writes_cons_rows_of_not_mem (d := S1024x512.size) (W := 64) v f _ _ _ y rfl rfl (Or.inl h)
    · have hd : (y (0 : Fin 2)).val / 64 = n := by omega
      refine (View.read_writes_cons_rows_of_mem (d := S1024x512.size) (o := 64 * n) v f _ _ _ y
        (rowIn y) rfl ?_ rfl).trans ?_
      · change (y (0 : Fin 2)).val = 64 * n + (y (0 : Fin 2)).val % 64
        omega
      · unfold stack
        congr 1
        subst hd
        rfl

/-- A tile of the attention: the heads' outputs stacked, queries by rows. -/
def tile (x0 : Vec F S1x16x128x512 .bf16) (x1 : Vec F S1x16x2048x128 .bf16) (x2 : Vec F S1x16x64x2048 .bf16)
    (x3 : Vec F S1x16x256x128 .bf16) (x4 : Vec F S1x16x64x256 .bf16) : FVec F S1x512x1024 .bf16 :=
  k0_pay2 (stack (headOut x0 x1 x2 x3 x4))

/-- What the body stores: the whole tile. -/
theorem attnRun_val :
    (attnRun c i arg2 harg2 arg3 harg3 arg4 harg4 arg5 harg5 arg6 harg6 arg7 harg7 arg8 harg8 arg9 harg9 arg10 harg10 x0 x1 x2 x3 x4 G8 G9 G10).val
      = [⟨Rect.unit (s := S1x512x1024) ![0, 0, 0] S1x512x1024.size inb_S1x512x1024_S1x512x1024_0_0_0, tile x0 x1 x2 x3 x4⟩] := by
  unfold attnRun
  dsimp only
  rw [all_stores]
  have e : View.readAt (Elt F) arg10.view (Rect.unit (s := S1024x512) ![0, 0] S1024x512.size inb_S1024x512_S1024x512_0_0).toLoadRect
      (arg10.view.writes (Elt F) G10 (outs (headOut x0 x1 x2 x3 x4) 16 (le_refl 16))) = stack (headOut x0 x1 x2 x3 x4) := by
    funext y
    refine (read_outs arg10.view G10 _ 16 (le_refl 16) _ ?_).trans ?_
    · exact lt_of_lt_of_le (Fin.isLt _) (by decide)
    · congr 1
      funext a
      exact Fin.ext (by change (![0, 0] : Fin 2 → ℕ) a + 1 * (y a).val = (y a).val; fin_cases a <;> simp)
  unfold tile
  rw [← e]

end Run

end Cert.KernelIdeal.Attn

end
-- ==== Proof.AttnFrame.lean ====
/- The attention launch: the proof data of its pipeline, the body at a generic point, the run, and the frame, at any floats. -/
module

public import proofs.«01_k».proof.Proof.AttnPieces
public import Idealize.ShloMosaic.Lib.VecWindow
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output holds after each point -/

/-- What the output's staging buffer holds after the body at point `t`. -/
def outAt (c : Dev nD) (t : Fin cfg0.N) : Vec F S1x512x1024 .bf16 :=
  tile (iblk m c 0 t) (iblk m c 1 t) (iblk m c 2 t) (iblk m c 3 t) (iblk m c 4 t)

/-- The proof data of the pipeline on core `c`: the arrays as launched; after the body each input's buffer at its block and
    the output's at `outAt`; the scratch buffers at any contents throughout; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨_ + 6, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body, at a generic point -/

/-- The invariant: the three scratch buffers at some contents, and the generator register. -/
theorem Phi_eq (c : Dev nD) :
    (Pipeline.ΦA spec0 c : sProp 𝕄)
      = iprop(iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f))
        ∗ (∃ r, prngReg c r)) := by
  unfold Pipeline.ΦA; rw [scopedRest0_eq]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- Three whole scratch buffers at any contents, as the views over them hold them. -/
theorem whole_pointsTo (c : Dev nD) (b : Ref sig .tc) (f : Buf (Elt F) ((c : Thread nD τ).loc b)) :
    (((c : Thread nD τ).loc b ↦{fullShare} f : sProp 𝕄))
      = ((View.whole b).loc (c : Thread nD τ) ↦[(View.whole b).set]{fullShare} f) := by
  simp only [View.set_whole]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, Phi_eq]
  simp only [whole_pointsTo]
  iintro ⟨⟨⟨⟨%g8, HS8⟩, ⟨%g9, HS9⟩, ⟨%g10, HS10⟩⟩, Hg⟩, Ho, ⟨%d0, H0⟩, ⟨%d1, H1⟩, ⟨%d2, H2⟩, ⟨%d3, H3⟩, ⟨%d4, H4⟩, ⟨%d5, H5⟩⟩
  iapply ((attnRun c (grid0.coords t) _ _ _ _ _ _ _ _ _ _ _ _ _ _ _ _ _ _ (iblk m c 0 t) (iblk m c 1 t) (iblk m c 2 t) (iblk m c 3 t) (iblk m c 4 t) g8 g9 g10).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS8]; · iexact HS8
  isplitl [HS9]; · iexact HS9
  isplitl [HS10]; · iexact HS10
  iintro ⟨H0, H1, H2, H3, H4, ⟨%e5, H5⟩, HS8, HS9, HS10⟩
  isplitl [HS8 HS9 HS10 Hg]
  · isplitl [HS8 HS9 HS10]
    · isplitl [HS8]; · iexact HS8
      isplitl [HS9]; · iexact HS9
      iexact HS10
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  rw [attnRun_val]
  exact View.read_writes_full _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the run theorem's implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every fair execution from zero counters ends with every array of the pipeline at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.AttnMath.lean ====
/- The attention's mathematics on the extended reals: sums over the keys split into blocks, and the softmax in base two. -/
module

public import Idealize.ShloMosaic.PureOps.Ideal.Laws
public import Mathlib.Logic.Equiv.Fin.Basic

@[expose] public section

noncomputable section

namespace Cert.Attn

open Idealize.ShloMosaic

/-- A sum over `a * b` indices by blocks of `b`. -/
theorem sum_blocks (a b : ℕ) (f : Fin (a * b) → EReal) :
    ∑ k, f k = ∑ c : Fin a, ∑ r : Fin b, f (finProdFinEquiv (c, r)) := by
  rw [← Finset.sum_product', Finset.univ_product_univ]
  exact (Fintype.sum_equiv finProdFinEquiv _ _ fun _ => rfl).symm

/-- Key `r` of block `c`. -/
def keyOf (c : Fin 9) (r : Fin 256) : Fin 2304 := ⟨256 * c.val + r.val, by omega⟩

theorem sum_keys (f : Fin 2304 → EReal) : ∑ k, f k = ∑ c : Fin 9, ∑ r : Fin 256, f (keyOf c r) :=
  (sum_blocks 9 256 f).trans <| Finset.sum_congr rfl fun c _ => Finset.sum_congr rfl fun r _ =>
    congrArg f (Fin.ext (by rw [finProdFinEquiv_apply_val]; exact Nat.add_comm _ _))

/-- A block's sum by its rows modulo eight. -/
theorem sum_rows (f : Fin 256 → EReal) :
    ∑ r, f r = ∑ i : Fin 8, ∑ x : Fin 32, f ⟨x.val * 8 + i.val, by omega⟩ := by
  rw [Finset.sum_comm]
  exact (sum_blocks 32 8 f).trans <| Finset.sum_congr rfl fun c _ => Finset.sum_congr rfl fun r _ =>
    congrArg f (Fin.ext (by rw [finProdFinEquiv_apply_val]; change r.val + 8 * c.val = c.val * 8 + r.val; omega))

/-- A sum over the keys, the first 256 apart. -/
theorem sum_two (f : Fin 2304 → EReal) :
    ∑ k, f k = ∑ x : Fin 256, f ⟨x.val, by omega⟩ + ∑ x : Fin 2048, f ⟨256 + x.val, by omega⟩ :=
  Fin.sum_univ_add (a := 256) (b := 2048) f

theorem neg_inf : Ideal.ofBits .f32 0xFF800000#32 = (⊥ : EReal) := by
  simp [Ideal.ofBits, Ideal.ieee]

theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee]
    rw [← EReal.coe_mul]
    norm_num
  rw [e, Ideal.log_coe, if_neg (by norm_num)]

/-- A product with a finite nonnegative number distributes over a finite sum, whatever the terms. -/
theorem sum_mul_coe {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih, mul_comm,
      EReal.left_distrib_of_nonneg_of_ne_top (EReal.coe_nonneg.mpr hc) (EReal.coe_ne_top c), mul_comm, mul_comm (c : EReal)]

theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A softmax in base two is one in base e on scores times the logarithm of two: with finite scores, each with any finite
    number subtracted from its scores, dividing the weighted sum or dividing the weights. -/
theorem softmax_eq {ι : Type} [Fintype ι] [Nonempty ι] (S W : ι → EReal) (m M : EReal)
    (hS : ∀ k, S k ≠ ⊤ ∧ S k ≠ ⊥) (hm : m ≠ ⊤ ∧ m ≠ ⊥) (hM : M ≠ ⊤ ∧ M ≠ ⊥) :
    Ideal.div (∑ k, W k * Ideal.exp2 (S k - m)) (∑ k, Ideal.exp2 (S k - m))
      = ∑ k, W k * Ideal.div (Ideal.exp (S k * ((Real.log 2 : ℝ) : EReal) - M)) (∑ k, Ideal.exp (S k * ((Real.log 2 : ℝ) : EReal) - M)) := by
  lift m to ℝ using hm
  lift M to ℝ using hM
  obtain ⟨s, rfl⟩ : ∃ s : ι → ℝ, S = fun k => (s k : EReal) :=
    ⟨fun k => (S k).toReal, funext fun k => (EReal.coe_toReal (hS k).1 (hS k).2).symm⟩
  have e1 : ∀ k, Ideal.exp2 ((s k : EReal) - (m : EReal)) = ((Real.rpow 2 (s k - m) : ℝ) : EReal) := fun k => by
    rw [← EReal.coe_sub]; rfl
  have e2 : ∀ k, Ideal.exp ((s k : EReal) * ((Real.log 2 : ℝ) : EReal) - (M : EReal)) = ((Real.exp (s k * Real.log 2 - M) : ℝ) : EReal) := fun k => by
    rw [← EReal.coe_mul, ← EReal.coe_sub]; rfl
  simp only [e1, e2, coe_sum]
  have pe : ∀ k, Real.rpow 2 (s k - m) = Real.exp (M - m * Real.log 2) * Real.exp (s k * Real.log 2 - M) := fun k => by
    rw [← Real.exp_add]
    change (2 : ℝ) ^ (s k - m) = _
    rw [Real.rpow_def_of_pos (by norm_num)]
    congr 1; ring
  have hL : 0 < ∑ k, Real.exp (s k * Real.log 2 - M) := Finset.sum_pos (fun k _ => Real.exp_pos _) Finset.univ_nonempty
  have hP : 0 < ∑ k, Real.rpow 2 (s k - m) := Finset.sum_pos (fun k _ => Real.rpow_pos_of_pos (by norm_num) _) Finset.univ_nonempty
  have hr : ∀ k, Real.rpow 2 (s k - m) * (1 / ∑ k, Real.rpow 2 (s k - m))
      = Real.exp (s k * Real.log 2 - M) * (1 / ∑ k, Real.exp (s k * Real.log 2 - M)) := fun k => by
    simp only [pe]
    rw [← Finset.mul_sum]
    have := Real.exp_pos (M - m * Real.log 2)
    field_simp
  rw [Ideal.div_coe hP.ne', sum_mul_coe _ _ _ (by positivity)]
  refine Finset.sum_congr rfl fun k _ => ?_
  rw [Ideal.div_coe hL.ne', mul_assoc, ← EReal.coe_mul, ← EReal.coe_mul, hr k]

/-- One head of the attention: its queries, keys and values. -/
structure Head where
  q : Fin 128 → Fin 2048 → EReal
  k : Fin 2304 → Fin 128 → EReal
  v : Fin 64 → Fin 2304 → EReal

/-- The score of key `k` against query `j`, in units of the logarithm of two. -/
def Head.score (H : Head) (j : Fin 2048) (k : Fin 2304) : EReal := ∑ d, H.k k d * H.q d j

/-- The weights of scores `S` after subtracting `M`, divided by their sum, times the values. -/
def soft (S W : Fin 2304 → EReal) (M : EReal) : EReal :=
  ∑ k, W k * Ideal.div (Ideal.exp (S k * ((Real.log 2 : ℝ) : EReal) - M)) (∑ k, Ideal.exp (S k * ((Real.log 2 : ℝ) : EReal) - M))

/-- The attention's output of query `j` at feature `e`. -/
def Head.out (H : Head) (j : Fin 2048) (e : Fin 64) : EReal := soft (H.score j) (H.v e) 0

/-- Queries and keys are finite. -/
def Head.Finite (H : Head) : Prop := (∀ d j, H.q d j ≠ ⊤ ∧ H.q d j ≠ ⊥) ∧ ∀ k d, H.k k d ≠ ⊤ ∧ H.k k d ≠ ⊥

theorem Head.Finite.score {H : Head} (hH : H.Finite) (j : Fin 2048) (k : Fin 2304) : H.score j k ≠ ⊤ ∧ H.score j k ≠ ⊥ := by
  have e : H.score j k = ((∑ d, (H.k k d).toReal * (H.q d j).toReal : ℝ) : EReal) := by
    unfold Head.score
    rw [← coe_sum]
    refine Finset.sum_congr rfl fun d _ => ?_
    rw [EReal.coe_mul, EReal.coe_toReal (hH.2 k d).1 (hH.2 k d).2, EReal.coe_toReal (hH.1 d j).1 (hH.1 d j).2]
  rw [e]
  exact ⟨EReal.coe_ne_top _, EReal.coe_ne_bot _⟩

/-- Any finite number may be subtracted from the scores. -/
theorem soft_eq (S W : Fin 2304 → EReal) (M : EReal) (hS : ∀ k, S k ≠ ⊤ ∧ S k ≠ ⊥) (hM : M ≠ ⊤ ∧ M ≠ ⊥) :
    soft S W M = soft S W 0 :=
  (softmax_eq S W 0 M hS ⟨EReal.zero_ne_top, EReal.zero_ne_bot⟩ hM).symm.trans
    (softmax_eq S W 0 0 hS ⟨EReal.zero_ne_top, EReal.zero_ne_bot⟩ ⟨EReal.zero_ne_top, EReal.zero_ne_bot⟩)

/-- The same in base two, the weighted sum divided. -/
theorem soft_eq_base_two (S W : Fin 2304 → EReal) (m : EReal) (hS : ∀ k, S k ≠ ⊤ ∧ S k ≠ ⊥) (hm : m ≠ ⊤ ∧ m ≠ ⊥) :
    Ideal.div (∑ k, W k * Ideal.exp2 (S k - m)) (∑ k, Ideal.exp2 (S k - m)) = soft S W 0 :=
  softmax_eq S W m 0 hS hm ⟨EReal.zero_ne_top, EReal.zero_ne_bot⟩

/-- The largest of finitely many finite numbers and a start below them is below `⊤`, and above `⊥` once some number is. -/
theorem fold_max_ne_top {ι : Type} (s : Finset ι) (f : ι → EReal) (z : EReal) (hz : z ≠ ⊤) (hf : ∀ k, f k ≠ ⊤) :
    Finset.fold max z f s ≠ ⊤ := by
  classical
  induction s using Finset.induction_on with
  | empty => simpa using hz
  | insert a s ha ih =>
    rw [Finset.fold_insert ha]
    rcases max_choice (f a) (Finset.fold max z f s) with h | h <;> rw [h]
    · exact hf a
    · exact ih

theorem fold_max_ne_bot {ι : Type} (s : Finset ι) (f : ι → EReal) (z : EReal) (k : ι) (hk : k ∈ s) (hf : f k ≠ ⊥) :
    Finset.fold max z f s ≠ ⊥ := by
  refine ne_of_gt (lt_of_lt_of_le (bot_lt_iff_ne_bot.mpr hf) ?_)
  rw [Finset.le_fold_max]
  exact Or.inr ⟨k, hk, le_refl _⟩

/-- A reduction by the maximum from `⊥` along one axis of finite numbers is finite. -/
theorem reduce_max_ne {s t u : Shape} {a : Fin s.rank} (x : s.Idx → EReal) (init : u.Idx → EReal) (h' : s.ReducesTo [a] t)
    (h : s.Reduces [a] t) (hu : 0 < u.numel) (j : t.Idx) (hi : init (Shape.Idx.first hu) = ⊥)
    (hf : ∀ i, x i ≠ ⊤ ∧ x i ≠ ⊥) (k : Fin (s.size a)) :
    Host.reduce (FloatOps.maximumf (F := Ideal) (φ := .f32)) x init h' hu j ≠ (⊤ : EReal)
      ∧ Host.reduce (FloatOps.maximumf (F := Ideal) (φ := .f32)) x init h' hu j ≠ (⊥ : EReal) := by
  rw [Host.reduce_eq_fold_single _ _ _ _ h, hi]
  exact ⟨fold_max_ne_top _ _ _ bot_ne_top fun k => (hf _).1, fold_max_ne_bot _ _ _ k (Finset.mem_univ _) (hf _).2⟩

end Cert.Attn

end
-- ==== Proof.AttnValue.lean ====
/- The value of a head's output: on blocks of the arguments it is `Attn.Head.out`. -/
module

public import proofs.«01_k».proof.Proof.AttnHeads
public import proofs.«01_k».proof.Proof.AttnMath
public import Idealize.ShloMosaic.Lib.Pointwise
public import Idealize.ShloMosaic.Lib.Pipeline.ValueKit.Tiles
public import Idealize.ShloMosaic.PureOps.Ideal.Laws

@[expose] public section

set_option maxRecDepth 16384

noncomputable section

namespace Cert.KernelIdeal.Attn

open Idealize.ShloMosaic Idealize.ShloMosaic.TcCoe
open Cert.KernelIdeal Cert.KernelIdeal.Gen

/-! ## The stages at an index -/

theorem score_at (q : Vec Ideal S1x1x128x512 .bf16) (a : Vec Ideal S1x1x256x128 .bf16) (r : Fin 256) (j : Fin 512) :
    score (F := Ideal) q a (ix2 r j) = ∑ d : Fin 128, a (ix4 0 0 r d) * q (ix4 0 0 d j) := by
  unfold score k0_pay4 k0_pay3
  pointwise

theorem stored_at (q : Vec Ideal S1x1x128x512 .bf16) (a : Vec Ideal S1x1x256x128 .bf16) (r : Fin 256) (j : Fin 512) :
    k0_pay5 (F := Ideal) q a (ix2 r j) = ∑ d : Fin 128, a (ix4 0 0 r d) * q (ix4 0 0 d j) := by
  unfold k0_pay5 k0_pay4 k0_pay3
  pointwise

theorem maxStep_at (p : FVec Ideal S8x512 .f32) (s : FVec Ideal S256x512 .f32) (i : Fin 8) (j : Fin 512) :
    maxStep (F := Ideal) p s (ix2 i j)
      = max (p (ix2 i j)) (Finset.fold max (Ideal.ofBits .f32 0xFF800000#32) (fun x : Fin 32 => s (ix2 ⟨x.val * 8 + i.val, by omega⟩ j)) Finset.univ) := by
  unfold maxStep
  pointwise

theorem weights_at (m : FVec Ideal S1x512 .f32) (s : Vec Ideal S256x512 .f32) (r : Fin 256) (j : Fin 512) :
    weights (F := Ideal) m s (ix2 r j) = Ideal.exp2 (s (ix2 r j) - m (ix2 0 j)) := by
  unfold weights
  pointwise
  rfl

theorem sumStep_at (l : FVec Ideal S8x512 .f32) (p : FVec Ideal S256x512 .f32) (i : Fin 8) (j : Fin 512) :
    sumStep (F := Ideal) l p (ix2 i j) = l (ix2 i j) + ∑ x : Fin 32, p (ix2 ⟨x.val * 8 + i.val, by omega⟩ j) := by
  unfold sumStep
  pointwise

theorem accStep_at (a : FVec Ideal S64x512 .f32) (p : FVec Ideal S256x512 .f32) (v : Vec Ideal S1x1x64x256 .bf16) (e : Fin 64) (j : Fin 512) :
    accStep (F := Ideal) a p v (ix2 e j) = a (ix2 e j) + ∑ r : Fin 256, v (ix4 0 0 e r) * p (ix2 r j) := by
  unfold accStep
  pointwise

theorem quot_at (l : FVec Ideal S8x512 .f32) (a : FVec Ideal S64x512 .f32) (e : Fin 64) (j : Fin 512) :
    quot (F := Ideal) l a (ix2 e j) = Ideal.div (a (ix2 e j)) (∑ i : Fin 8, l (ix2 i j)) := by
  unfold quot
  pointwise

theorem tile_at (w : Fin 16 → FVec Ideal S64x512 .f32) (k : Fin 1024) (j : Fin 512) (z : Fin 1) :
    k0_pay2 (F := Ideal) (stack w) (ix3 z j k) = stack w (ix2 k j) := by
  unfold k0_pay2
  pointwise

theorem max_at (M : FVec Ideal S8x512 .f32) (j : Fin 512) (z : Fin 1) :
    shapeCast S1x512 (multiReduction (F := Ideal) .maximumf [0] S512 M 0xFF800000#32 reduces_S8x512_S512 (.inl rfl) rfl) shapeCasts_S512_S1x512 (ix2 z j)
      = Finset.fold max (Ideal.ofBits .f32 0xFF800000#32) (fun x : Fin 8 => M (ix2 x j)) Finset.univ := by
  pointwise

theorem zero_bits : Ideal.ofBits .f32 0x00000000#32 = (0 : EReal) := by
  simp [Ideal.ofBits, Ideal.ieee]

/-! ## The largest score is finite -/

theorem maxStep_ne_top (p : FVec Ideal S8x512 .f32) (s : FVec Ideal S256x512 .f32) (i : Fin 8) (j : Fin 512)
    (hp : p (ix2 i j) ≠ (⊤ : EReal)) (hs : ∀ r, s (ix2 r j) ≠ (⊤ : EReal)) : maxStep (F := Ideal) p s (ix2 i j) ≠ (⊤ : EReal) := by
  rw [maxStep_at]
  refine (max_lt (lt_top_iff_ne_top.mpr hp) (lt_top_iff_ne_top.mpr (Cert.Attn.fold_max_ne_top _ _ _ ?_ fun k => hs _))).ne
  rw [Cert.Attn.neg_inf]; exact bot_ne_top

theorem maxStep_ne_bot (p : FVec Ideal S8x512 .f32) (s : FVec Ideal S256x512 .f32) (i : Fin 8) (j : Fin 512)
    (hs : ∀ r, s (ix2 r j) ≠ (⊥ : EReal)) : maxStep (F := Ideal) p s (ix2 i j) ≠ (⊥ : EReal) := by
  rw [maxStep_at]
  exact (lt_of_lt_of_le (bot_lt_iff_ne_bot.mpr (Cert.Attn.fold_max_ne_bot _ _ _ 0 (Finset.mem_univ _) (hs _))) (le_max_right _ _)).ne'

theorem maxOf9_ne (s : Fin 9 → FVec Ideal S256x512 .f32) (j : Fin 512)
    (hs : ∀ c r, s c (ix2 r j) ≠ (⊤ : EReal) ∧ s c (ix2 r j) ≠ (⊥ : EReal)) :
    maxOf9 (F := Ideal) s (ix2 0 j) ≠ (⊤ : EReal) ∧ maxOf9 (F := Ideal) s (ix2 0 j) ≠ (⊥ : EReal) := by
  have ht := fun c r => (hs c r).1
  unfold maxOf9 maxOf
  rw [max_at]
  refine ⟨Cert.Attn.fold_max_ne_top _ _ _ ?_ fun i => ?_, Cert.Attn.fold_max_ne_bot _ _ _ 0 (Finset.mem_univ _) ?_⟩
  · rw [Cert.Attn.neg_inf]; exact bot_ne_top
  · refine maxStep_ne_top _ _ _ _ (maxStep_ne_top _ _ _ _ (maxStep_ne_top _ _ _ _ (maxStep_ne_top _ _ _ _ (maxStep_ne_top _ _ _ _
      (maxStep_ne_top _ _ _ _ (maxStep_ne_top _ _ _ _ (maxStep_ne_top _ _ _ _ (maxStep_ne_top _ _ _ _ ?_ (ht 0)) (ht 1)) (ht 2)) (ht 3))
      (ht 4)) (ht 5)) (ht 6)) (ht 7)) (ht 8)
    change Ideal.ofBits .f32 0xFF800000#32 ≠ ⊤
    rw [Cert.Attn.neg_inf]; exact bot_ne_top
  · exact maxStep_ne_bot _ _ _ _ fun r => (hs 8 r).2

/-! ## The output of nine blocks -/

theorem sum_nine (f : Fin 9 → EReal) : ∑ c, f c = f 0 + f 1 + f 2 + f 3 + f 4 + f 5 + f 6 + f 7 + f 8 := by
  rw [Fin.sum_univ_castSucc, Fin.sum_univ_eight]
  rfl

theorem outOf9_at (m : FVec Ideal S1x512 .f32) (s : Fin 9 → Vec Ideal S256x512 .f32) (v : Fin 9 → Vec Ideal S1x1x64x256 .bf16)
    (e : Fin 64) (j : Fin 512) :
    outOf9 (F := Ideal) m s v (ix2 e j)
      = Ideal.div (∑ c : Fin 9, ∑ r : Fin 256, v c (ix4 0 0 e r) * Ideal.exp2 (s c (ix2 r j) - m (ix2 0 j)))
          (∑ c : Fin 9, ∑ r : Fin 256, Ideal.exp2 (s c (ix2 r j) - m (ix2 0 j))) := by
  have hc : ∀ w : FVec Ideal S64x512 .f32, shapeCast S64x512 w shapeCasts_S64x512_S64x512 (ix2 e j) = w (ix2 e j) := by
    intro w
    pointwise
  unfold outOf9 outOf
  rw [hc, quot_at]
  congr 1
  · simp only [accStep_at, weights_at]
    rw [show (broadcast S64x512 (Scalar.ofBits (F := Ideal) .f32 0x00000000#32)) (ix2 e j) = (0 : EReal) from zero_bits, zero_add]
    rw [sum_nine fun c => ∑ r : Fin 256, v c (ix4 0 0 e r) * Ideal.exp2 (s c (ix2 r j) - m (ix2 0 j))]
  · simp only [sumStep_at, weights_at]
    simp only [Cert.Attn.sum_rows]
    rw [Finset.sum_comm]
    refine Finset.sum_congr rfl fun i _ => ?_
    rw [show (broadcast S8x512 (Scalar.ofBits (F := Ideal) .f32 0x00000000#32)) (ix2 i j) = (0 : EReal) from zero_bits, zero_add]
    rw [sum_nine fun c => ∑ x : Fin 32, Ideal.exp2 (s c (ix2 ⟨x.val * 8 + i.val, by omega⟩ j) - m (ix2 0 j))]

/-! ## A head -/

section Head

variable (x0 : Vec Ideal S1x16x128x512 .bf16) (x1 : Vec Ideal S1x16x2048x128 .bf16) (x2 : Vec Ideal S1x16x64x2048 .bf16)
  (x3 : Vec Ideal S1x16x256x128 .bf16) (x4 : Vec Ideal S1x16x64x256 .bf16) (h : Fin 16)

theorem qHead_at (d : Fin 128) (j : Fin 512) : qHead (F := Ideal) x0 h (ix4 0 0 d j) = x0 (ix4 0 h d j) := by
  exact View.ld_unit_apply_of x0 _ _ _ _ (ix4 0 h d j) (by intro a; fin_cases a <;> simp)

theorem keyC_at (r : Fin 256) (d : Fin 128) : keyC (F := Ideal) x3 h (ix4 0 0 r d) = x3 (ix4 0 h r d) :=
  View.ld_unit_apply_of x3 _ _ _ _ (ix4 0 h r d) (by intro a; fin_cases a <;> simp)

theorem keyX_at (b : Fin 8) (r : Fin 256) (d : Fin 128) :
    keyX (F := Ideal) x1 h b (ix4 0 0 r d) = x1 (ix4 0 h ⟨256 * b.val + r.val, by omega⟩ d) :=
  View.ld_unit_apply_of x1 _ _ _ _ (ix4 0 h ⟨256 * b.val + r.val, by omega⟩ d) (by intro a; fin_cases a <;> simp)

theorem valC_at (e : Fin 64) (r : Fin 256) : valC (F := Ideal) x4 h (ix4 0 0 e r) = x4 (ix4 0 h e r) :=
  View.ld_unit_apply_of x4 _ _ _ _ (ix4 0 h e r) (by intro a; fin_cases a <;> simp)

theorem valX_at (b : Fin 8) (e : Fin 64) (r : Fin 256) :
    valX (F := Ideal) x2 h b (ix4 0 0 e r) = x2 (ix4 0 h e ⟨256 * b.val + r.val, by omega⟩) :=
  View.ld_unit_apply_of x2 _ _ _ _ (ix4 0 h e ⟨256 * b.val + r.val, by omega⟩) (by intro a; fin_cases a <;> simp)

theorem keys_succ (b : Fin 8) : keys (F := Ideal) x1 x3 h b.succ = keyX x1 h b := by
  fin_cases b <;> rfl

theorem vals_succ (b : Fin 8) : vals (F := Ideal) x2 x4 h b.succ = valX x2 h b := by
  fin_cases b <;> rfl

/-- The blocks hold the head `H`, column `j` of the queries being query `pos j`. -/
structure Holds (H : Cert.Attn.Head) (pos : Fin 512 → Fin 2048) : Prop where
  q : ∀ d j, x0 (ix4 0 h d j) = H.q d (pos j)
  kx : ∀ (r : Fin 2048) d, x1 (ix4 0 h r d) = H.k ⟨256 + r.val, by omega⟩ d
  vx : ∀ e (r : Fin 2048), x2 (ix4 0 h e r) = H.v e ⟨256 + r.val, by omega⟩
  kc : ∀ (r : Fin 256) d, x3 (ix4 0 h r d) = H.k ⟨r.val, by omega⟩ d
  vc : ∀ e (r : Fin 256), x4 (ix4 0 h e r) = H.v e ⟨r.val, by omega⟩

variable {x0 x1 x2 x3 x4 h} {H : Cert.Attn.Head} {pos : Fin 512 → Fin 2048}

theorem Holds.keys (hh : Holds x0 x1 x2 x3 x4 h H pos) (c : Fin 9) (r : Fin 256) (d : Fin 128) :
    keys (F := Ideal) x1 x3 h c (ix4 0 0 r d) = H.k (Cert.Attn.keyOf c r) d := by
  refine Fin.cases ?_ (fun b => ?_) c
  · refine ((keyC_at x3 h r d).trans (hh.kc r d)).trans (congrArg (H.k · d) (Fin.ext ?_))
    change r.val = 256 * 0 + r.val
    omega
  · rw [keys_succ, keyX_at, hh.kx]
    refine congrArg (H.k · d) (Fin.ext ?_)
    change 256 + (256 * b.val + r.val) = 256 * (b.val + 1) + r.val
    omega

theorem Holds.vals (hh : Holds x0 x1 x2 x3 x4 h H pos) (c : Fin 9) (e : Fin 64) (r : Fin 256) :
    vals (F := Ideal) x2 x4 h c (ix4 0 0 e r) = H.v e (Cert.Attn.keyOf c r) := by
  refine Fin.cases ?_ (fun b => ?_) c
  · refine ((valC_at x4 h e r).trans (hh.vc e r)).trans (congrArg (H.v e) (Fin.ext ?_))
    change r.val = 256 * 0 + r.val
    omega
  · rw [vals_succ, valX_at, hh.vx]
    refine congrArg (H.v e) (Fin.ext ?_)
    change 256 + (256 * b.val + r.val) = 256 * (b.val + 1) + r.val
    omega

theorem Holds.score (hh : Holds x0 x1 x2 x3 x4 h H pos) (c : Fin 9) (r : Fin 256) (j : Fin 512) :
    Attn.score (F := Ideal) (qHead x0 h) (Attn.keys x1 x3 h c) (ix2 r j) = H.score (pos j) (Cert.Attn.keyOf c r) := by
  rw [score_at]
  refine Finset.sum_congr rfl fun d _ => ?_
  rw [hh.keys, qHead_at, hh.q]

theorem Holds.stored (hh : Holds x0 x1 x2 x3 x4 h H pos) (c : Fin 9) (r : Fin 256) (j : Fin 512) :
    Attn.stored (F := Ideal) x0 x1 x3 h c (ix2 r j) = H.score (pos j) (Cert.Attn.keyOf c r) := by
  unfold Attn.stored
  rw [stored_at]
  refine Finset.sum_congr rfl fun d _ => ?_
  rw [hh.keys, qHead_at, hh.q]

/-- The head's output is the attention's. -/
theorem Holds.out (hh : Holds x0 x1 x2 x3 x4 h H pos) (hf : H.Finite) (e : Fin 64) (j : Fin 512) :
    headOut (F := Ideal) x0 x1 x2 x3 x4 h (ix2 e j) = H.out (pos j) e := by
  have hm : headMax (F := Ideal) x0 x1 x3 h (ix2 0 j) ≠ (⊤ : EReal) ∧ headMax (F := Ideal) x0 x1 x3 h (ix2 0 j) ≠ (⊥ : EReal) := by
    unfold headMax
    refine maxOf9_ne _ j fun c r => ?_
    rw [hh.score]
    exact hf.score _ _
  unfold headOut
  rw [outOf9_at]
  simp only [hh.stored, hh.vals]
  rw [← Cert.Attn.sum_keys fun k => H.v e k * Ideal.exp2 (H.score (pos j) k - headMax (F := Ideal) x0 x1 x3 h (ix2 0 j)),
    ← Cert.Attn.sum_keys fun k => Ideal.exp2 (H.score (pos j) k - headMax (F := Ideal) x0 x1 x3 h (ix2 0 j))]
  exact Cert.Attn.soft_eq_base_two _ _ _ (hf.score _) hm

end Head

end Cert.KernelIdeal.Attn

end
-- ==== Proof.AttnRef.lean ====
/- The attention reference's result, read at an index: it is `Attn.Head.out` of the heads of the arguments. -/
module

public import proofs.«01_k».proof.Proof.AttnMath
public import proofs.«01_k».proof.Proof.Gen.ReferenceIdeal.Read
public import Idealize.ShloMosaic.Lib.Pointwise

@[expose] public section

set_option maxRecDepth 16384

noncomputable section

namespace Cert.ReferenceIdeal.Ref

open Cert.ReferenceIdeal Cert.ReferenceIdeal.Read Cert.ReferenceIdeal.Gen Idealize.ShloMosaic

variable (x0 : S8x16x128x2048.Idx → EReal) (x1 : S8x16x2048x128.Idx → EReal) (x2 : S8x16x64x2048.Idx → EReal)
  (x3 : S8x16x256x128.Idx → EReal) (x4 : S8x16x64x256.Idx → EReal)

/-- Head `h` of sequence `b`. -/
def head (b : Fin 8) (h : Fin 16) : Attn.Head where
  q d j := x0 (ix4 b h d j)
  k k d := if p : k.val < 256 then x3 (ix4 b h ⟨k.val, p⟩ d) else x1 (ix4 b h ⟨k.val - 256, by omega⟩ d)
  v e k := if p : k.val < 256 then x4 (ix4 b h e ⟨k.val, p⟩) else x2 (ix4 b h e ⟨k.val - 256, by omega⟩)

theorem reduces_scores : S8x16x2048x2304.Reduces [3] S8x16x2048 := by decide

theorem v10_at (b : Fin 8) (h : Fin 16) (q : Fin 2048) (k : Fin 2304) :
    val_main_v10 (F := Ideal) x0 x1 x3 (ix4 b h q k) = (head x0 x1 x2 x3 x4 b h).score q k := by
  unfold Attn.Head.score head
  simp only [mul_comm _ (x0 _)]
  pointwise [val_main_v10, val_main_v5, val_main_v4, val_main_v3, val_main_v2, val_main_v1, val_main_v0]

theorem v13_at (b : Fin 8) (h : Fin 16) (q : Fin 2048) (k : Fin 2304) :
    val_main_v13 (F := Ideal) x0 x1 x3 (ix4 b h q k) = (head x0 x1 x2 x3 x4 b h).score q k * ((Real.log 2 : ℝ) : EReal) := by
  rw [← v10_at x0 x1 x2 x3 x4]
  pointwise [val_main_v13, val_main_v12, val_main_v11, val_main_cst]
  rw [Attn.log_two]

theorem v14_eq (i : S8x16x2048.Idx) : val_main_v14 (F := Ideal) x0 x1 x3 i
    = Host.reduce (FloatOps.maximumf (F := Ideal) (φ := .f32)) (val_main_v13 (F := Ideal) x0 x1 x3) (val_main_cst_0 (F := Ideal))
        reducesTo_S8x16x2048x2304_S8x16x2048_d3 h_S_ i := by
  unfold val_main_v14
  rfl

theorem reduce_ne (w : S8x16x2048x2304.Idx → EReal) (u : S_.Idx → EReal) (hu : u (Shape.Idx.first h_S_) = ⊥)
    (hf : ∀ i, w i ≠ ⊤ ∧ w i ≠ ⊥) (i : S8x16x2048.Idx) :
    Host.reduce (FloatOps.maximumf (F := Ideal) (φ := .f32)) w u reducesTo_S8x16x2048x2304_S8x16x2048_d3 h_S_ i ≠ (⊤ : EReal)
      ∧ Host.reduce (FloatOps.maximumf (F := Ideal) (φ := .f32)) w u reducesTo_S8x16x2048x2304_S8x16x2048_d3 h_S_ i ≠ (⊥ : EReal) :=
  Attn.reduce_max_ne w u reducesTo_S8x16x2048x2304_S8x16x2048_d3 reduces_scores h_S_ i hu hf ⟨0, by decide⟩

/-- What is subtracted from the scores is finite when they are. -/
theorem v14_ne (hf : ∀ i, val_main_v13 (F := Ideal) x0 x1 x3 i ≠ ⊤ ∧ val_main_v13 (F := Ideal) x0 x1 x3 i ≠ ⊥)
    (i : S8x16x2048.Idx) : val_main_v14 (F := Ideal) x0 x1 x3 i ≠ ⊤ ∧ val_main_v14 (F := Ideal) x0 x1 x3 i ≠ ⊥ := by
  rw [v14_eq]
  exact reduce_ne (val_main_v13 (F := Ideal) x0 x1 x3) (val_main_cst_0 (F := Ideal)) Attn.neg_inf hf i

theorem v16_ne (hf : ∀ i, val_main_v13 (F := Ideal) x0 x1 x3 i ≠ ⊤ ∧ val_main_v13 (F := Ideal) x0 x1 x3 i ≠ ⊥)
    (i : S8x16x2048.Idx) : val_main_v16 (F := Ideal) x0 x1 x3 i ≠ ⊤ ∧ val_main_v16 (F := Ideal) x0 x1 x3 i ≠ ⊥ := by
  have e : val_main_v16 (F := Ideal) x0 x1 x3 i = val_main_v14 (F := Ideal) x0 x1 x3 i := by
    rw [val_main_v16_apply, val_main_v15_apply, val_main_cst_1_apply]
    generalize val_main_v14 (F := Ideal) x0 x1 x3 i = w
    change max (Ideal.ofBits .f32 0xFF800000#32) w = w
    rw [Attn.neg_inf]
    exact bot_sup_eq w
  rw [e]
  exact v14_ne x0 x1 x3 hf i

theorem v20_at (b : Fin 8) (h : Fin 16) (q : Fin 2048) (k : Fin 2304) :
    val_main_v20 (F := Ideal) x0 x1 x3 (ix4 b h q k) = Ideal.exp (val_main_v13 (F := Ideal) x0 x1 x3 (ix4 b h q k) - val_main_v16 (F := Ideal) x0 x1 x3 (ix3 b h q)) := by
  pointwise [val_main_v20, val_main_v19, val_main_v18, val_main_v17]

theorem v21_at (b : Fin 8) (h : Fin 16) (q : Fin 2048) :
    val_main_v21 (F := Ideal) x0 x1 x3 (ix3 b h q) = ∑ k, val_main_v20 (F := Ideal) x0 x1 x3 (ix4 b h q k) := by
  pointwise [val_main_v21, val_main_cst_2]

theorem v25_at (hH : ∀ b h, (head x0 x1 x2 x3 x4 b h).Finite) (b : Fin 8) (h : Fin 16) (q : Fin 2048) (e : Fin 64) :
    val_main_v25 (F := Ideal) x0 x1 x2 x3 x4 (ix4 b h e q) = (head x0 x1 x2 x3 x4 b h).out q e := by
  have hf : ∀ i, val_main_v13 (F := Ideal) x0 x1 x3 i ≠ ⊤ ∧ val_main_v13 (F := Ideal) x0 x1 x3 i ≠ ⊥ := by
    intro i
    idx_vars i
    rw [v13_at x0 x1 x2 x3 x4]
    obtain ⟨h1, h2⟩ := (hH _ _).score _ _
    rw [← EReal.coe_toReal h1 h2, ← EReal.coe_mul]
    exact ⟨EReal.coe_ne_top _, EReal.coe_ne_bot _⟩
  unfold Attn.Head.out
  rw [← Attn.soft_eq _ _ _ ((hH b h).score q) (v16_ne x0 x1 x3 hf (ix3 b h q))]
  have e20 : ∀ k, Ideal.exp ((head x0 x1 x2 x3 x4 b h).score q k * ((Real.log 2 : ℝ) : EReal) - val_main_v16 (F := Ideal) x0 x1 x3 (ix3 b h q))
      = val_main_v20 (F := Ideal) x0 x1 x3 (ix4 b h q k) := fun k => by
    rw [v20_at, v13_at x0 x1 x2 x3 x4]
  have e21 : ∑ k, val_main_v20 (F := Ideal) x0 x1 x3 (ix4 b h q k) = val_main_v21 (F := Ideal) x0 x1 x3 (ix3 b h q) :=
    (v21_at x0 x1 x3 b h q).symm
  unfold Attn.soft
  simp only [e20]
  rw [e21]
  rw [Attn.sum_two]
  unfold head
  pointwise [val_main_v25, val_main_v24, val_main_v23, val_main_v22, val_main_v9, val_main_v8, val_main_v7, val_main_v6]

theorem v28_at (hH : ∀ b h, (head x0 x1 x2 x3 x4 b h).Finite) (b : Fin 8) (q : Fin 2048) (k : Fin 1024) :
    val_main_v28 (F := Ideal) x0 x1 x2 x3 x4 (ix3 b q k)
      = (head x0 x1 x2 x3 x4 b ⟨k.val / 64, by omega⟩).out q ⟨k.val % 64, by omega⟩ := by
  rw [← v25_at x0 x1 x2 x3 x4 hH]
  pointwise [val_main_v28, val_main_v27, val_main_v26]

end Cert.ReferenceIdeal.Ref

end
-- ==== Proof.AttnArray.lean ====
/- The array the attention launch leaves: every head's attention at every query of every sequence. -/
module

public import proofs.«01_k».proof.Proof.AttnFrame
public import proofs.«01_k».proof.Proof.AttnValue
public import proofs.«01_k».proof.Proof.AttnRef
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

theorem idx : ∀ t : Fin grid0.N,
    win0_0.index t = ![(grid0.coords t 0).val, 0, 0, (grid0.coords t 1).val] ∧ win0_1.index t = ![(grid0.coords t 0).val, 0, 0, 0]
    ∧ win0_2.index t = ![(grid0.coords t 0).val, 0, 0, 0] ∧ win0_3.index t = ![(grid0.coords t 0).val, 0, 0, 0]
    ∧ win0_4.index t = ![(grid0.coords t 0).val, 0, 0, 0] ∧ win0_5.index t = ![(grid0.coords t 0).val, (grid0.coords t 1).val, 0] := by
  decide +kernel

theorem seq_lt : ∀ t : Fin grid0.N, (grid0.coords t 0).val < 8 := by decide +kernel

theorem tile_lt : ∀ t : Fin grid0.N, (grid0.coords t 1).val < 4 := by decide +kernel

/-- The sequence of a grid point. -/
def seq : Fin 8 := ⟨(grid0.coords t 0).val, seq_lt t⟩

/-- The query of a column of a grid point's tile. -/
def query (j : Fin 512) : Fin 2048 := ⟨512 * (grid0.coords t 1).val + j.val, by have := tile_lt t; omega⟩

/-- Head `h` of sequence `b`, read off the arguments. -/
def head (b : Fin 8) (h : Fin 16) : Cert.Attn.Head :=
  Cert.ReferenceIdeal.Ref.head (m ((c : Thread nD τ).loc main_arg0)) (m ((c : Thread nD τ).loc main_arg1)) (m ((c : Thread nD τ).loc main_arg2))
    (m ((c : Thread nD τ).loc main_arg3)) (m ((c : Thread nD τ).loc main_arg4)) b h

/-! The blocks a point finds, by elements of the arguments. -/

theorem blk0 (h : Fin 16) (d : Fin 128) (j : Fin 512) :
    iblk m c 0 t (ix4 0 h d j) = m ((c : Thread nD τ).loc main_arg0) (ix4 (seq t) h d (query t j)) := by
  unfold seq query
  blk_ext [iblk, V, idx t]

theorem blk1 (h : Fin 16) (r : Fin 2048) (d : Fin 128) :
    iblk m c 1 t (ix4 0 h r d) = m ((c : Thread nD τ).loc main_arg1) (ix4 (seq t) h r d) := by
  unfold seq
  blk_ext [iblk, V, idx t]

theorem blk2 (h : Fin 16) (e : Fin 64) (r : Fin 2048) :
    iblk m c 2 t (ix4 0 h e r) = m ((c : Thread nD τ).loc main_arg2) (ix4 (seq t) h e r) := by
  unfold seq
  blk_ext [iblk, V, idx t]

theorem blk3 (h : Fin 16) (r : Fin 256) (d : Fin 128) :
    iblk m c 3 t (ix4 0 h r d) = m ((c : Thread nD τ).loc main_arg3) (ix4 (seq t) h r d) := by
  unfold seq
  blk_ext [iblk, V, idx t]

theorem blk4 (h : Fin 16) (e : Fin 64) (r : Fin 256) :
    iblk m c 4 t (ix4 0 h e r) = m ((c : Thread nD τ).loc main_arg4) (ix4 (seq t) h e r) := by
  unfold seq
  blk_ext [iblk, V, idx t]

theorem holds (h : Fin 16) :
    Holds (iblk m c 0 t) (iblk m c 1 t) (iblk m c 2 t) (iblk m c 3 t) (iblk m c 4 t) h (head m c (seq t) h) (query t) where
  q d j := blk0 m c t h d j
  kx r d := by
    rw [blk1]
    unfold head Cert.ReferenceIdeal.Ref.head
    dsimp only
    rw [dif_neg (by omega)]
    simp only [Nat.add_sub_cancel_left]
  vx e r := by
    rw [blk2]
    unfold head Cert.ReferenceIdeal.Ref.head
    dsimp only
    rw [dif_neg (by omega)]
    simp only [Nat.add_sub_cancel_left]
  kc r d := by
    rw [blk3]
    unfold head Cert.ReferenceIdeal.Ref.head
    dsimp only
    rw [dif_pos r.isLt]
  vc e r := by
    rw [blk4]
    unfold head Cert.ReferenceIdeal.Ref.head
    dsimp only
    rw [dif_pos r.isLt]

theorem stack_at (w : Fin 16 → FVec Ideal S64x512 .f32) (k : Fin 1024) (j : Fin 512) :
    stack w (ix2 k j) = w ⟨k.val / 64, by omega⟩ (ix2 ⟨k.val % 64, by omega⟩ j) := by
  unfold stack
  refine congrArg (w _) (funext fun a => ?_)
  fin_cases a <;> rfl

/-- What a grid point leaves in its output block. -/
theorem out_at (hf : ∀ b h, (head m c b h).Finite) (z : Fin 1) (j : Fin 512) (k : Fin 1024) :
    outAt m c t (ix3 z j k) = (head m c (seq t) ⟨k.val / 64, by omega⟩).out (query t j) ⟨k.val % 64, by omega⟩ := by
  unfold outAt tile
  rw [tile_at, stack_at]
  exact (holds m c t _).out (hf _ _) _ _

/-- The attention's output as an array. -/
def result (u : S8x2048x1024.Idx) : EReal :=
  (head m c (u 0) ⟨(u 2).val / 64, Nat.div_lt_of_lt_mul (u 2).isLt⟩).out (u 1) ⟨(u 2).val % 64, Nat.mod_lt _ (by decide)⟩

/-- Where an element of a grid point's output block lies in the array. -/
theorem emb_out (z : Fin 1) (j : Fin 512) (k : Fin 1024) :
    ((cfg0.win 5).blk t).view.emb (ix3 z j k) = ix3 (seq t) (query t j) k := by
  unfold seq query
  blk_ext [idx t]

theorem written (hf : ∀ b h, (head m c b h).Finite) (y : S1x512x1024.Idx) :
    (dats m 0 c).after 5 t y = result m c (((cfg0.win 5).blk t).view.emb y) := by
  rw [after_5]
  idx_vars y
  rw [emb_out t y0 y1 y2]
  exact out_at m c t hf y0 y1 y2

/-- The array after the launch. -/
theorem array_eq (hf : ∀ b h, (head m c b h).Finite) : (dats m 0 c).arrAt 5 cfg0.N = result m c :=
  (dats m 0 c).arrAt_eq_of_covers 5 _ (by decide +kernel) fun t _ y => written m c t hf y

end Cert.KernelIdeal.Attn

end
-- ==== Proof.AttnClaims.lean ====
/- The claims about the attention launch: the frames, the idealization and the value. -/
module

public import proofs.«01_k».proof.Defs
public import proofs.«01_k».proof.Proof.AttnArray
public import proofs.«01_k».proof.Proof.Gen.Kernel
public import proofs.«01_k».proof.Proof.Gen.KernelIdeal
public import proofs.«01_k».proof.Proof.Gen.Pre_finite
public import proofs.«01_k».proof.Proof.Gen.ReferenceIdeal
public import proofs.«01_k».proof.Proof.Gen.ReferenceIdeal.Run
public import Idealize.ShloMosaic.Lib.Quiescent
public import Idealize.ShloMosaic.Lib.ReduceAll
import all proofs.«01_k».proof.Kernel
import all proofs.«01_k».proof.KernelIdeal

@[expose] public section

set_option maxRecDepth 16384

noncomputable section

namespace Cert.Proof.AttnClaims

open Idealize.ShloMosaic Idealize.ShloMosaic.TcCoe Idealize.SL.Sem

/-! ## The frames -/

/-- The kernel and its idealization are the same program. -/
theorem defs_tc [hp : Cert.Kernel.Facts] [hi : Cert.KernelIdeal.Facts] :
    @Cert.Kernel.defs₀ Bits _ hp = @Cert.KernelIdeal.defs₀ Bits _ hi := by
  refine congrArg (Defs.onTc (nD := Cert.Kernel.nD) (τ := Cert.Kernel.τ) (sig := Cert.Kernel.sig)) ?_
  funext l x
  match l, x with
  | 0, (t, s) => rfl

theorem defs_eq [hp : Cert.Kernel.Facts] [hi : Cert.KernelIdeal.Facts] :
    Cert.Kernel.defs (F := Bits) = Cert.KernelIdeal.defs (F := Bits) :=
  congrArg (Pipeline.defs (Cert.Kernel.pcfgs (F := Bits))) defs_tc

theorem frame_p : Cert.quiescent_Kernel := by
  intro m ρ _
  rw [defs_eq]
  exact Cert.KernelIdeal.Attn.frame (F := Bits) m ρ

theorem frame_pi : Cert.quiescent_KernelIdeal := fun m ρ _ => Cert.KernelIdeal.Attn.frame m ρ

theorem frame_pi_finite : Cert.quiescent_KernelIdeal_pre_finite := fun m ρ _ => Cert.KernelIdeal.Attn.frame m ρ

theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_ri_finite : Cert.quiescent_ReferenceIdeal_pre_finite := fun m ρ _ => frame_ri m ρ trivial

theorem preserves : Cert.preserves_Kernel_KernelIdeal := trivial

/-! ## The precondition -/

theorem andi_one {p q : BitVec 1} (h : IntOp.andi p q = 1#1) : p = 1#1 ∧ q = 1#1 := IntOp.andi_eq_one.1 h

theorem abs_lt_inf {x : EReal} (h : FloatOps.cmpf (F := Ideal) (φ := .f32) .olt (FloatOps.absf (F := Ideal) (φ := .f32) x) (Ideal.ofBits .f32 0x7F800000#32) = 1#1) :
    x ≠ ⊤ ∧ x ≠ ⊥ := by
  have e : Ideal.ofBits .f32 0x7F800000#32 = (⊤ : EReal) := by simp [Ideal.ofBits, Ideal.ieee]
  rw [e] at h
  constructor
  · rintro rfl
    simp [FloatOps.cmpf, FloatOps.absf, Ideal.cmp] at h
  · rintro rfl
    simp [FloatOps.cmpf, FloatOps.absf, Ideal.cmp] at h

theorem finite_of_pre (x0 x1 x2 x3 x4) (h : Cert.Pre_finite.fn (F := Ideal) x0 x1 x2 x3 x4 = fun _ => 1#1) :
    (∀ i, x0 i ≠ (⊤ : EReal) ∧ x0 i ≠ (⊥ : EReal)) ∧ (∀ i, x1 i ≠ (⊤ : EReal) ∧ x1 i ≠ (⊥ : EReal)) ∧ ∀ i, x3 i ≠ (⊤ : EReal) ∧ x3 i ≠ (⊥ : EReal) := by
  have e := congrFun h (fun a => a.elim0)
  simp only [Cert.Pre_finite.fn] at e
  obtain ⟨e01, e3⟩ := andi_one e
  obtain ⟨e0, e1⟩ := andi_one e01
  haveI : Subsingleton Cert.Pre_finite.S_.Idx := ⟨fun a b => funext fun d => d.elim0⟩
  refine ⟨fun i => ?_, fun i => ?_, fun i => ?_⟩
  · exact abs_lt_inf (Host.reduce_andi_all _ _ _ _ _ e0 i)
  · exact abs_lt_inf (Host.reduce_andi_all _ _ _ _ _ e1 i)
  · exact abs_lt_inf (Host.reduce_andi_all _ _ _ _ _ e3 i)

theorem head_finite (x0 x1 x2 x3 x4) (h : Cert.Pre_finite.fn (F := Ideal) x0 x1 x2 x3 x4 = fun _ => 1#1) (b : Fin 8) (i : Fin 16) :
    (Cert.ReferenceIdeal.Ref.head x0 x1 x2 x3 x4 b i).Finite := by
  obtain ⟨h0, h1, h3⟩ := finite_of_pre x0 x1 x2 x3 x4 h
  refine ⟨fun d j => h0 _, fun k d => ?_⟩
  unfold Cert.ReferenceIdeal.Ref.head
  dsimp only
  split
  · exact h3 _
  · exact h1 _

/-! ## The value -/

/-- At every index the launch's array and the reference's result are the attention's output there. -/
theorem algebraic : Cert.algebraic_KernelIdeal_ReferenceIdeal_pre_finite := by
  intro m ρ m' ρ' hpre hagree
  have hf : ∀ c b h, (Cert.KernelIdeal.Attn.head m c b h).Finite := fun c b h => head_finite _ _ _ _ _ (hpre c) b h
  refine ⟨fun c => Cert.KernelIdeal.Attn.result m c, ?_, ?_⟩
  · have hfr := Cert.KernelIdeal.Gen.frame_of m ρ (Cert.KernelIdeal.Attn.dats m) (Cert.KernelIdeal.Attn.A_eq m) (Cert.KernelIdeal.Attn.run_main m ρ)
    refine (θ_run Cert.KernelIdeal.defs _ _).mono (fun _ h c => ⟨?_, h.2 c⟩) (θ_run_and (Cert.KernelIdeal.Attn.run_main m ρ) hfr)
    exact ((h.1 c).1 5).trans (Cert.KernelIdeal.Attn.array_eq m c (hf c))
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v28_eq (F := Ideal) _ _).trans ?_
  obtain ⟨e0, e1, e2, e3, e4⟩ := hagree c
  rw [e0, e1, e2, e3, e4]
  funext u
  idx_vars u
  exact Cert.ReferenceIdeal.Ref.v28_at _ _ _ _ _ (hf c) u0 u1 u2

end Cert.Proof.AttnClaims

end
-- ==== Proof.FfnStores.lean ====
/- What one grid point of the feed-forward launch stores, written with one function per step.

   The body computes the hidden row tile in two halves, multiplies each half by eleven pairs of column chunks of the up
   matrix into one of two slots of a scratch, takes a three-tap column convolution of each chunk, gates, and keeps the
   gated chunk in a second scratch; two products with the down matrix finish.  `chunkStores n` is the scratch's stores
   up to chunk `n`, `gatedStores n` the second scratch's, and `stores_eq` says that the run's stores are these. -/
module

public import proofs.«01_k».proof.Proof.Gen.Kernel2Ideal.Frame
public import Idealize.ShloMosaic.Lib.Pipeline.ValueKit

@[expose] public section

set_option maxRecDepth 16384

noncomputable section

namespace Cert.Kernel2Ideal.Block

open Cert.Kernel2Ideal Cert.Kernel2Ideal.Gen Idealize.ShloMosaic Idealize.ShloMosaic.TcCoe Idealize.SL.Sem

variable {F : FTy → Type} [FloatOps F]

/-- The hidden rows 0 to 271 of the tile, zeroed outside the sequence (`j` is the tile's number). -/
def hidA (j : ℕ) (g1 sh sc : FVec F S1x1024 .f32) (xc : FVec F S544x1024 .f32) (mix : FVec F S544x1024 .bf16)
    (wp : Vec F S1024x1024 .bf16) (bp gf : Vec F S1x1024 .f32) : FVec F S272x1024 .bf16 :=
  k0_pay12 (k0_pay10 g1 sh sc xc mix wp bp gf) (FloatOps.ofBits .f32 0#32)
    (k0_pay11 (iota .tc S528x1 32 [0] (by decide)) (Scalar.cmpi .eq (BitVec.ofNat 32 j) 0#32) (Scalar.cmpi .eq (BitVec.ofNat 32 j) 3#32) 8#32)

/-- The hidden rows 272 to 527. -/
def hidB (j : ℕ) (g1 sh sc : FVec F S1x1024 .f32) (xc : FVec F S544x1024 .f32) (mix : FVec F S544x1024 .bf16)
    (wp : Vec F S1024x1024 .bf16) (bp gf : Vec F S1x1024 .f32) : FVec F S256x1024 .bf16 :=
  k0_pay14 g1 sh sc xc mix
    (k0_pay8 (iota .tc S528x1 32 [0] (by decide)) (Scalar.cmpi .eq (BitVec.ofNat 32 j) 0#32) (Scalar.cmpi .eq (BitVec.ofNat 32 j) 3#32) 8#32) wp bp gf

/-- The residual rows of the tile with its margins. -/
def mids (g1 : FVec F S1x1024 .f32) (xc : FVec F S544x1024 .f32) (mix : FVec F S544x1024 .bf16)
    (wp : Vec F S1024x1024 .bf16) (bp : Vec F S1x1024 .f32) : FVec F S528x1024 .f32 :=
  k0_pay20 (k0_pay9 g1 xc mix wp bp) (k0_pay13 g1 xc mix wp bp)

theorem inbA (s p : ℕ) (hs : s < 2) (hp : p < 2) : ∀ a, ![s, p, 0, 0] a + S1x1x272x256.size a ≤ S2x2x528x256.size a := by
  intro a; fin_cases a <;> simp [S1x1x272x256, S2x2x528x256] <;> omega

theorem inbB (s p : ℕ) (hs : s < 2) (hp : p < 2) : ∀ a, ![s, p, 272, 0] a + S1x1x256x256.size a ≤ S2x2x528x256.size a := by
  intro a; fin_cases a <;> simp [S1x1x256x256, S2x2x528x256] <;> omega

theorem inbZ (s p : ℕ) (hs : s < 2) (hp : p < 2) : ∀ a, ![s, p, 0, 0] a + S1x1x528x256.size a ≤ S2x2x528x256.size a := by
  intro a; fin_cases a <;> simp [S1x1x528x256, S2x2x528x256] <;> omega

theorem inbG (n : ℕ) (hn : n < 11) : ∀ a, ![0, 256 * n] a + S512x256.size a ≤ S512x2816.size a := by
  intro a; fin_cases a <;> simp [S512x256, S512x2816] <;> omega

theorem inbU (q : ℕ) (hq : q < 22) : ∀ a, ![0, 0, 256 * q] a + S1x1024x256.size a ≤ S1x1024x5632.size a := by
  intro a; fin_cases a <;> simp [S1x1024x256, S1x1024x5632] <;> omega

theorem inbW (k q : ℕ) (hk : k < 3) (hq : q < 22) : ∀ a, ![k, 256 * q] a + S1x256.size a ≤ S3x5632.size a := by
  intro a; fin_cases a <;> simp [S1x256, S3x5632] <;> omega

theorem inbC (q : ℕ) (hq : q < 22) : ∀ a, ![0, 256 * q] a + S1x256.size a ≤ S1x5632.size a := by
  intro a; fin_cases a <;> simp [S1x256, S1x5632] <;> omega

/-- The upper rows of one column chunk, as a store into slot `s`, part `p`. -/
def storeA (s p : ℕ) (hs : s < 2) (hp : p < 2) (hA : FVec F S272x1024 .bf16) (w : Vec F S1x1024x256 .bf16) : View.Piece (Elt F) S2x2x528x256 .f32 :=
  ⟨Rect.unit ![s, p, 0, 0] S1x1x272x256.size (inbA s p hs hp), k0_pay24 hA w⟩

/-- The lower rows of one column chunk. -/
def storeB (s p : ℕ) (hs : s < 2) (hp : p < 2) (hB : FVec F S256x1024 .bf16) (w : Vec F S1x1024x256 .bf16) : View.Piece (Elt F) S2x2x528x256 .f32 :=
  ⟨Rect.unit ![s, p, 272, 0] S1x1x256x256.size (inbB s p hs hp), k0_pay25 hB w⟩

/-- The four stores of chunk 0: the upper rows of both parts first. -/
def firstStores (hA : FVec F S272x1024 .bf16) (hB : FVec F S256x1024 .bf16) (w0 w1 : Vec F S1x1024x256 .bf16) :
    List (View.Piece (Elt F) S2x2x528x256 .f32) :=
  [storeB 0 1 (by omega) (by omega) hB w1, storeB 0 0 (by omega) (by omega) hB w0,
   storeA 0 1 (by omega) (by omega) hA w1, storeA 0 0 (by omega) (by omega) hA w0]

/-- The stores into the scratch up to chunk `n`, the last first. -/
def chunkStores (hA : FVec F S272x1024 .bf16) (hB : FVec F S256x1024 .bf16) (w : (q : ℕ) → q < 22 → Vec F S1x1024x256 .bf16) :
    (n : ℕ) → n < 11 → List (View.Piece (Elt F) S2x2x528x256 .f32)
  | 0, _ => firstStores hA hB (w 0 (by omega)) (w 11 (by omega))
  | n + 1, h =>
    storeB ((n + 1) % 2) 1 (by omega) (by omega) hB (w (n + 12) (by omega)) ::
    storeA ((n + 1) % 2) 1 (by omega) (by omega) hA (w (n + 12) (by omega)) ::
    storeB ((n + 1) % 2) 0 (by omega) (by omega) hB (w (n + 1) (by omega)) ::
    storeA ((n + 1) % 2) 0 (by omega) (by omega) hA (w (n + 1) (by omega)) ::
    chunkStores hA hB w n (by omega)

/-- The stores before chunk `n` is read: the next chunk's product, if there is one, is already under way. -/
def storesBefore (hA : FVec F S272x1024 .bf16) (hB : FVec F S256x1024 .bf16) (w : (q : ℕ) → q < 22 → Vec F S1x1024x256 .bf16)
    (n : ℕ) (hn : n < 11) : List (View.Piece (Elt F) S2x2x528x256 .f32) :=
  if h : n + 1 < 11 then chunkStores hA hB w (n + 1) h else chunkStores hA hB w n hn

/-- Part `p` of chunk `n`, read back from its slot. -/
def chunk (z : Memref sig .tc .vmem S2x2x528x256 .f32) (hA : FVec F S272x1024 .bf16) (hB : FVec F S256x1024 .bf16)
    (w : (q : ℕ) → q < 22 → Vec F S1x1024x256 .bf16) (n p : ℕ) (hn : n < 11) (hp : p < 2) : Vec F S1x1x528x256 .f32 :=
  z.view.readCov (storesBefore hA hB w n hn) (Rect.unit (s := S2x2x528x256) ![n % 2, p, 0, 0] S1x1x528x256.size (inbZ (n % 2) p (by omega) hp)).toLoadRect

/-- The three-tap convolution of one chunk and its bias. -/
def conv (w0 w1 w2 b : Vec F S1x256 .f32) (z : Vec F S1x1x528x256 .f32) : FVec F S512x256 .f32 :=
  k0_pay111 w0 w1 w2 z b

/-- The gated chunk. -/
def gate (a g : FVec F S512x256 .f32) : FVec F S512x256 .bf16 :=
  shapeCast S512x256 (truncf .bf16 (mulf (mulf g (divf (broadcast S512x256 (Scalar.ofBits .f32 0x3F800000#32))
    (addf (broadcast S512x256 (Scalar.ofBits .f32 0x3F800000#32)) (exp (subf (broadcast S512x256 (Scalar.ofBits .f32 0x00000000#32)) g))))) a) bitsLt_bf16_f32)
    shapeCasts_S512x256_S512x256

/-- The gated chunk `n` from the scratch. -/
def gated (z : Memref sig .tc .vmem S2x2x528x256 .f32) (hA : FVec F S272x1024 .bf16) (hB : FVec F S256x1024 .bf16)
    (w : (q : ℕ) → q < 22 → Vec F S1x1024x256 .bf16) (cw : (k q : ℕ) → k < 3 → q < 22 → Vec F S1x256 .f32)
    (cb : (q : ℕ) → q < 22 → Vec F S1x256 .f32) (n : ℕ) (hn : n < 11) : FVec F S512x256 .bf16 :=
  gate
    (conv (cw 0 n (by omega) (by omega)) (cw 1 n (by omega) (by omega)) (cw 2 n (by omega) (by omega)) (cb n (by omega))
      (chunk z hA hB w n 0 hn (by omega)))
    (conv (cw 0 (n + 11) (by omega) (by omega)) (cw 1 (n + 11) (by omega) (by omega)) (cw 2 (n + 11) (by omega) (by omega)) (cb (n + 11) (by omega))
      (chunk z hA hB w n 1 hn (by omega)))

/-- The stores of the first `n` gated chunks, the last first. -/
def gatedStores (z : Memref sig .tc .vmem S2x2x528x256 .f32) (hA : FVec F S272x1024 .bf16) (hB : FVec F S256x1024 .bf16)
    (w : (q : ℕ) → q < 22 → Vec F S1x1024x256 .bf16) (cw : (k q : ℕ) → k < 3 → q < 22 → Vec F S1x256 .f32)
    (cb : (q : ℕ) → q < 22 → Vec F S1x256 .f32) : (n : ℕ) → n ≤ 11 → List (View.Piece (Elt F) S512x2816 .bf16)
  | 0, _ => []
  | n + 1, h => ⟨Rect.unit ![0, 256 * n] S512x256.size (inbG n (by omega)), gated z hA hB w cw cb n (by omega)⟩ ::
      gatedStores z hA hB w cw cb n (by omega)

/-- The output rows 0 to 255 of the tile: residual, gate and down product, then the last normalisation. -/
def outA (g2 : FVec F S1x1024 .f32) (mid : FVec F S528x1024 .f32) (act : Vec F S256x2816 .bf16) (wd : Vec F S1x2816x1024 .bf16)
    (gl : Vec F S1x1024 .f32) : FVec F S1x256x1024 .f32 :=
  k0_pay119 (k0_pay115 g2 mid act wd) (k0_pay116 gl) (k0_pay117 g2 mid act wd) k0_pay118

/-- The output rows 256 to 511. -/
def outB (g2 : FVec F S1x1024 .f32) (mid : FVec F S528x1024 .f32) (act : Vec F S256x2816 .bf16) (wd : Vec F S1x2816x1024 .bf16)
    (gl : Vec F S1x1024 .f32) : FVec F S1x256x1024 .f32 :=
  k0_pay1 (k0_pay120 mid) (k0_pay121 g2 act wd) gl

/-- The three row tiles of an input, the margins around the tile, put together. -/
def joined {e : EltTy} (p : Vec F S1x16x1024 e) (x : Vec F S1x512x1024 e) (n : Vec F S1x16x1024 e) : S544x1024.Idx → Elt F e :=
  concatenate S544x1024 0 [⟨S16x1024, shapeCast S16x1024 p shapeCasts_S1x16x1024_S16x1024⟩, ⟨S512x1024, shapeCast S512x1024 x shapeCasts_S1x512x1024_S512x1024⟩,
    ⟨S16x1024, shapeCast S16x1024 n shapeCasts_S1x16x1024_S16x1024⟩] (show Shape.Concatenates [S16x1024, S512x1024, S16x1024] S544x1024 0 by decide)

/-- One row of the modulation. -/
def modRow (r : Vec F S1x1x1024 .f32) : FVec F S1x1024 .f32 := shapeCast S1x1024 r shapeCasts_S1x1x1024_S1x1024

/-- The two stores of the output tile. -/
def tileStores (z : Memref sig .tc .vmem S2x2x528x256 .f32) (act : Memref sig .tc .vmem S512x2816 .bf16) (j : ℕ)
    (g1 sh sc g2 : FVec F S1x1024 .f32) (xc : FVec F S544x1024 .f32) (mix : FVec F S544x1024 .bf16)
    (wp : Vec F S1024x1024 .bf16) (bp gf : Vec F S1x1024 .f32)
    (w : (q : ℕ) → q < 22 → Vec F S1x1024x256 .bf16) (cw : (k q : ℕ) → k < 3 → q < 22 → Vec F S1x256 .f32)
    (cb : (q : ℕ) → q < 22 → Vec F S1x256 .f32) (wd : Vec F S1x2816x1024 .bf16) (gl : Vec F S1x1024 .f32) :
    List (View.Piece (Elt F) S1x512x1024 .f32) :=
  let G := gatedStores z (hidA j g1 sh sc xc mix wp bp gf) (hidB j g1 sh sc xc mix wp bp gf) w cw cb 11 (by omega)
  [⟨Rect.unit ![0, 256, 0] S1x256x1024.size (by decide),
      outB g2 (mids g1 xc mix wp bp) (act.view.readCov G (Rect.unit (s := S512x2816) ![256, 0] S256x2816.size (by decide)).toLoadRect) wd gl⟩,
   ⟨Rect.unit ![0, 0, 0] S1x256x1024.size (by decide),
      outA g2 (mids g1 xc mix wp bp) (act.view.readCov G (Rect.unit (s := S512x2816) ![0, 0] S256x2816.size (by decide)).toLoadRect) wd gl⟩]

set_option maxHeartbeats 2000000 in
/-- The stores that the run of the body found are these. -/
theorem stores_eq (c : Dev nD) (i : grid0.Coords) (arg2 : Memref sig .tc .vmem S1x16x1024 .f32) (h2 : arg2.IsWhole) (arg3 : Memref sig .tc .vmem S1x512x1024 .f32) (h3 : arg3.IsWhole) (arg4 : Memref sig .tc .vmem S1x16x1024 .f32) (h4 : arg4.IsWhole) (arg5 : Memref sig .tc .vmem S1x16x1024 .bf16) (h5 : arg5.IsWhole) (arg6 : Memref sig .tc .vmem S1x512x1024 .bf16) (h6 : arg6.IsWhole) (arg7 : Memref sig .tc .vmem S1x16x1024 .bf16) (h7 : arg7.IsWhole) (arg8 : Memref sig .tc .vmem S1x4x1024 .f32) (h8 : arg8.IsWhole) (arg9 : Memref sig .tc .vmem S1024x1024 .bf16) (h9 : arg9.IsWhole) (arg10 : Memref sig .tc .vmem S1x1024 .f32) (h10 : arg10.IsWhole) (arg11 : Memref sig .tc .vmem S1x1024 .f32) (h11 : arg11.IsWhole) (arg12 : Memref sig .tc .vmem S1x1024x5632 .bf16) (h12 : arg12.IsWhole) (arg13 : Memref sig .tc .vmem S3x5632 .f32) (h13 : arg13.IsWhole) (arg14 : Memref sig .tc .vmem S1x5632 .f32) (h14 : arg14.IsWhole) (arg15 : Memref sig .tc .vmem S1x2816x1024 .bf16) (h15 : arg15.IsWhole) (arg16 : Memref sig .tc .vmem S1x1024 .f32) (h16 : arg16.IsWhole) (arg17 : Memref sig .tc .vmem S1x512x1024 .f32) (h17 : arg17.IsWhole) (arg18 : Memref sig .tc .vmem S2x2x528x256 .f32) (h18 : arg18.IsWhole) (arg19 : Memref sig .tc .vmem S512x2816 .bf16) (h19 : arg19.IsWhole)
    (x0 : Vec F S1x16x1024 .f32) (x1 : Vec F S1x512x1024 .f32) (x2 : Vec F S1x16x1024 .f32) (x3 : Vec F S1x16x1024 .bf16) (x4 : Vec F S1x512x1024 .bf16) (x5 : Vec F S1x16x1024 .bf16) (x6 : Vec F S1x4x1024 .f32) (x7 : Vec F S1024x1024 .bf16) (x8 : Vec F S1x1024 .f32) (x9 : Vec F S1x1024 .f32) (x10 : Vec F S1x1024x5632 .bf16) (x11 : Vec F S3x5632 .f32) (x12 : Vec F S1x5632 .f32) (x13 : Vec F S1x2816x1024 .bf16) (x14 : Vec F S1x1024 .f32) :
    (kernelRun0_A c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 x0 x1 x2 x3 x4 x5 x6 x7 x8 x9 x10 x11 x12 x13 x14).1 =
      tileStores arg18 arg19 (i 1).val
        (modRow (View.readAt (Elt F) arg8.view (Rect.unit (s := S1x4x1024) ![0, 0, 0] S1x1x1024.size (by decide)).toLoadRect (h8.unread x6))) (modRow (View.readAt (Elt F) arg8.view (Rect.unit (s := S1x4x1024) ![0, 1, 0] S1x1x1024.size (by decide)).toLoadRect (h8.unread x6)))
        (modRow (View.readAt (Elt F) arg8.view (Rect.unit (s := S1x4x1024) ![0, 2, 0] S1x1x1024.size (by decide)).toLoadRect (h8.unread x6))) (modRow (View.readAt (Elt F) arg8.view (Rect.unit (s := S1x4x1024) ![0, 3, 0] S1x1x1024.size (by decide)).toLoadRect (h8.unread x6)))
        (joined (View.readAt (Elt F) arg2.view (Rect.unit (s := S1x16x1024) ![0, 0, 0] S1x16x1024.size (by decide)).toLoadRect (h2.unread x0)) (View.readAt (Elt F) arg3.view (Rect.unit (s := S1x512x1024) ![0, 0, 0] S1x512x1024.size (by decide)).toLoadRect (h3.unread x1)) (View.readAt (Elt F) arg4.view (Rect.unit (s := S1x16x1024) ![0, 0, 0] S1x16x1024.size (by decide)).toLoadRect (h4.unread x2)))
        (joined (View.readAt (Elt F) arg5.view (Rect.unit (s := S1x16x1024) ![0, 0, 0] S1x16x1024.size (by decide)).toLoadRect (h5.unread x3)) (View.readAt (Elt F) arg6.view (Rect.unit (s := S1x512x1024) ![0, 0, 0] S1x512x1024.size (by decide)).toLoadRect (h6.unread x4)) (View.readAt (Elt F) arg7.view (Rect.unit (s := S1x16x1024) ![0, 0, 0] S1x16x1024.size (by decide)).toLoadRect (h7.unread x5)))
        (View.readAt (Elt F) arg9.view (Rect.unit (s := S1024x1024) ![0, 0] S1024x1024.size (by decide)).toLoadRect (h9.unread x7)) (View.readAt (Elt F) arg10.view (Rect.unit (s := S1x1024) ![0, 0] S1x1024.size (by decide)).toLoadRect (h10.unread x8)) (View.readAt (Elt F) arg11.view (Rect.unit (s := S1x1024) ![0, 0] S1x1024.size (by decide)).toLoadRect (h11.unread x9))
        (fun q hq => View.readAt (Elt F) arg12.view (Rect.unit (s := S1x1024x5632) ![0, 0, 256 * q] S1x1024x256.size (inbU q hq)).toLoadRect (h12.unread x10))
        (fun k q hk hq => View.readAt (Elt F) arg13.view (Rect.unit (s := S3x5632) ![k, 256 * q] S1x256.size (inbW k q hk hq)).toLoadRect (h13.unread x11))
        (fun q hq => View.readAt (Elt F) arg14.view (Rect.unit (s := S1x5632) ![0, 256 * q] S1x256.size (inbC q hq)).toLoadRect (h14.unread x12))
        (View.readAt (Elt F) arg15.view (Rect.unit (s := S1x2816x1024) ![0, 0, 0] S1x2816x1024.size (by decide)).toLoadRect (h15.unread x13)) (View.readAt (Elt F) arg16.view (Rect.unit (s := S1x1024) ![0, 0] S1x1024.size (by decide)).toLoadRect (h16.unread x14)) :=
  rfl

end Cert.Kernel2Ideal.Block

end
-- ==== Proof.FfnMath.lean ====
/- The output projection with its gated feed-forward, over the extended reals, row by row: the residual row after the
   projection, its normalised and modulated row, the padded products with the up matrix, the three taps, the gate, the
   down product and the last normalisation. -/
module

public import Idealize.ShloMosaic.Lib.Pointwise

@[expose] public section

noncomputable section

namespace Cert.Ffn

open Idealize.ShloMosaic

/-- The root-mean-square normalisation of a row. -/
def norm (x g : Fin 1024 → EReal) (k : Fin 1024) : EReal :=
  x k * Ideal.rsqrt (Ideal.div (∑ j, x j * x j) (Ideal.ofBits FTy.f32 1149239296#32) + Ideal.ofBits FTy.f32 897988541#32) * g k

/-- The residual row after the gated projection of the mixer's row. -/
def mid (g1 bp : Fin 1024 → EReal) (wp : Fin 1024 → Fin 1024 → EReal) (x mix : Fin 1024 → EReal) (k : Fin 1024) : EReal :=
  x k + g1 k * (∑ j, mix j * wp j k + bp k)

/-- The hidden row: normalised, scaled, shifted. -/
def hid (gf sc sh m : Fin 1024 → EReal) (k : Fin 1024) : EReal := norm m gf k * (1 + sc k) + sh k

/-- Three taps and a bias. -/
def taps (w0 w1 w2 b z0 z1 z2 : EReal) : EReal := z0 * w0 + z1 * w1 + z2 * w2 + b

/-- The gate: `silu g * a`. -/
def gate (a g : EReal) : EReal := g * Ideal.div 1 (1 + Ideal.exp (0 - g)) * a

/-- The output row from the residual row and the gated row. -/
def out (g2 gl m : Fin 1024 → EReal) (act : Fin 2816 → EReal) (wd : Fin 2816 → Fin 1024 → EReal) : Fin 1024 → EReal :=
  norm (fun k => m k + g2 k * ∑ q, act q * wd q k) gl

/-- What the layer is given for one sequence: the residual stream, the mixer's output, the modulation and the weights. -/
structure Data where
  x : Fin 2048 → Fin 1024 → EReal
  mix : Fin 2048 → Fin 1024 → EReal
  md : Fin 4 → Fin 1024 → EReal
  wp : Fin 1024 → Fin 1024 → EReal
  bp : Fin 1024 → EReal
  gf : Fin 1024 → EReal
  wu : Fin 1024 → Fin 5632 → EReal
  cw : Fin 3 → Fin 5632 → EReal
  cb : Fin 5632 → EReal
  wd : Fin 2816 → Fin 1024 → EReal
  gl : Fin 1024 → EReal

variable (d : Data)

/-- The residual row at position `s`. -/
def midAt (s : Fin 2048) : Fin 1024 → EReal := mid (d.md 0) d.bp d.wp (d.x s) (d.mix s)

/-- The hidden row at position `s`. -/
def hidAt (s : Fin 2048) : Fin 1024 → EReal := hid d.gf (d.md 2) (d.md 1) (midAt d s)

/-- The up product, padded by one row of zeros at either end: row `s` of it belongs to position `s - 1`. -/
def padded (s : ℕ) (q : Fin 5632) : EReal :=
  if h : 1 ≤ s ∧ s - 1 < 2048 then ∑ k, hidAt d ⟨s - 1, h.2⟩ k * d.wu k q else 0

/-- The convolved row. -/
def convAt (s : Fin 2048) (q : Fin 5632) : EReal :=
  taps (d.cw 0 q) (d.cw 1 q) (d.cw 2 q) (d.cb q) (padded d s q) (padded d (1 + s) q) (padded d (2 + s) q)

/-- The gated row. -/
def actAt (s : Fin 2048) (q : Fin 2816) : EReal :=
  gate (convAt d s ⟨q, by omega⟩) (convAt d s ⟨2816 + q, by omega⟩)

/-- The layer's output. -/
def outAt (s : Fin 2048) (k : Fin 1024) : EReal := out (d.md 3) d.gl (midAt d s) (actAt d s) d.wd k

end Cert.Ffn

end
-- ==== Proof.FfnChunk.lean ====
/- What the two scratches of the feed-forward launch hold where they are read: a part of a chunk is the product of the
   hidden rows with a column block of the up matrix, and the second scratch is the gated chunks side by side. -/
module

public import proofs.«01_k».proof.Proof.FfnStores
public import proofs.«01_k».proof.Proof.FfnMath
public import Idealize.ShloMosaic.Lib.Pointwise
public import Idealize.ShloMosaic.Lib.Pipeline.ReadBack

@[expose] public section

set_option maxRecDepth 16384

noncomputable section

namespace Cert.Kernel2Ideal.Block

open Cert.Kernel2Ideal Cert.Kernel2Ideal.Gen Idealize.ShloMosaic Idealize.ShloMosaic.TcCoe Idealize.SL.Sem

/-- The two halves of the hidden tile as one. -/
def rows (hA : FVec Ideal S272x1024 .bf16) (hB : FVec Ideal S256x1024 .bf16) (r : Fin 528) (x : Fin 1024) : EReal :=
  if h : r.val < 272 then hA (ix2 ⟨r, h⟩ x) else hB (ix2 ⟨r - 272, by omega⟩ x)

/-- The hidden tile times a column block of the up matrix. -/
def prod (hA : FVec Ideal S272x1024 .bf16) (hB : FVec Ideal S256x1024 .bf16) (w : Vec Ideal S1x1024x256 .bf16) (r : Fin 528) (q : Fin 256) : EReal :=
  ∑ x, rows hA hB r x * w (ix3 0 x q)

theorem upper_at (hA : FVec Ideal S272x1024 .bf16) (w : Vec Ideal S1x1024x256 .bf16) (a b : Fin 1) (r : Fin 272) (q : Fin 256) :
    k0_pay24 (F := Ideal) hA w (ix4 a b r q) = ∑ x, hA (ix2 r x) * w (ix3 0 x q) := by
  unfold_payloads
  pointwise []

theorem lower_at (hB : FVec Ideal S256x1024 .bf16) (w : Vec Ideal S1x1024x256 .bf16) (a b : Fin 1) (r : Fin 256) (q : Fin 256) :
    k0_pay25 (F := Ideal) hB w (ix4 a b r q) = ∑ x, hB (ix2 r x) * w (ix3 0 x q) := by
  unfold_payloads
  pointwise []

variable (hA : FVec Ideal S272x1024 .bf16) (hB : FVec Ideal S256x1024 .bf16) (w : (q : ℕ) → q < 22 → Vec Ideal S1x1024x256 .bf16)

/-- What a slot holds after chunk `n` is stored in it. -/
def slotAt (n : ℕ) (hn : n < 11) (y : S2x2x528x256.Idx) : EReal :=
  if (y 1).val = 0 then prod hA hB (w n (by omega)) (y 2) (y 3) else prod hA hB (w (n + 11) (by omega)) (y 2) (y 3)

theorem storeA_eq (s p : ℕ) (hs : s < 2) (hp : p < 2) (v : Vec Ideal S1x1024x256 .bf16) (x : (storeA s p hs hp hA v).1.shape.Idx) :
    (((storeA s p hs hp hA v).1.emb x 1 : ℕ) = p) ∧
    (storeA s p hs hp hA v).2 x = prod hA hB v ((storeA s p hs hp hA v).1.emb x 2) ((storeA s p hs hp hA v).1.emb x 3) := by
  have e0 : ∀ a, ((storeA s p hs hp hA v).1.emb x a : ℕ) = ![s, p, 0, 0] a + x a := fun a =>
    Rect.idx_unit_val _ _ (inbA s p hs hp) x a
  generalize (storeA s p hs hp hA v).1.emb x = y at e0
  change S1x1x272x256.Idx at x
  change _ ∧ k0_pay24 hA _ x = _
  idx_vars x
  have e1 : (y 1 : ℕ) = p + x1.val := e0 1
  have e2 : (y 2 : ℕ) = 0 + x2.val := e0 2
  have e3 : (y 3 : ℕ) = 0 + x3.val := e0 3
  refine ⟨by omega, ?_⟩
  rw [upper_at]
  change _ = ∑ x, rows hA hB (y 2) x * v (ix3 0 x (y 3))
  have h2 : y 2 = (⟨x2.val, by omega⟩ : Fin 528) := Fin.ext (by simpa using e2)
  have h3 : y 3 = x3 := Fin.ext (by simpa using e3)
  simp only [h2, h3, rows, x2.isLt, dite_true]

theorem storeB_eq (s p : ℕ) (hs : s < 2) (hp : p < 2) (v : Vec Ideal S1x1024x256 .bf16) (x : (storeB s p hs hp hB v).1.shape.Idx) :
    (((storeB s p hs hp hB v).1.emb x 1 : ℕ) = p) ∧
    (storeB s p hs hp hB v).2 x = prod hA hB v ((storeB s p hs hp hB v).1.emb x 2) ((storeB s p hs hp hB v).1.emb x 3) := by
  have e0 : ∀ a, ((storeB s p hs hp hB v).1.emb x a : ℕ) = ![s, p, 272, 0] a + x a := fun a =>
    Rect.idx_unit_val _ _ (inbB s p hs hp) x a
  generalize (storeB s p hs hp hB v).1.emb x = y at e0
  change S1x1x256x256.Idx at x
  change _ ∧ k0_pay25 hB _ x = _
  idx_vars x
  have e1 : (y 1 : ℕ) = p + x1.val := e0 1
  have e2 : (y 2 : ℕ) = 272 + x2.val := e0 2
  have e3 : (y 3 : ℕ) = 0 + x3.val := e0 3
  refine ⟨by omega, ?_⟩
  rw [lower_at]
  change _ = ∑ x, rows hA hB (y 2) x * v (ix3 0 x (y 3))
  have h2 : y 2 = (⟨272 + x2.val, by omega⟩ : Fin 528) := Fin.ext (by simpa using e2)
  have h3 : y 3 = x3 := Fin.ext (by simpa using e3)
  simp only [h2, h3, rows, show ¬ (272 + x2.val < 272) by omega, dite_false, Nat.add_sub_cancel_left]

theorem storeA_mem (s p : ℕ) (hs : s < 2) (hp : p < 2) (v : Vec Ideal S1x1024x256 .bf16) (y : S2x2x528x256.Idx) :
    y ∈ (storeA s p hs hp hA v).1.set ↔ (y 0 : ℕ) = s ∧ (y 1 : ℕ) = p ∧ (y 2 : ℕ) < 272 := by
  unfold storeA
  rw [Rect.mem_set_unit]
  constructor
  · intro h
    have h0 := h 0; have h1 := h 1; have h2 := h 2
    change s ≤ (y 0 : ℕ) ∧ (y 0 : ℕ) < s + 1 at h0
    change p ≤ (y 1 : ℕ) ∧ (y 1 : ℕ) < p + 1 at h1
    change 0 ≤ (y 2 : ℕ) ∧ (y 2 : ℕ) < 0 + 272 at h2
    omega
  · rintro ⟨h0, h1, h2⟩ a
    have h3 : (y 3 : ℕ) < 256 := (y 3).isLt
    match a with
    | 0 => change s ≤ (y 0 : ℕ) ∧ (y 0 : ℕ) < s + 1; omega
    | 1 => change p ≤ (y 1 : ℕ) ∧ (y 1 : ℕ) < p + 1; omega
    | 2 => change 0 ≤ (y 2 : ℕ) ∧ (y 2 : ℕ) < 0 + 272; omega
    | 3 => change 0 ≤ (y 3 : ℕ) ∧ (y 3 : ℕ) < 0 + 256; omega

theorem storeB_mem (s p : ℕ) (hs : s < 2) (hp : p < 2) (v : Vec Ideal S1x1024x256 .bf16) (y : S2x2x528x256.Idx) :
    y ∈ (storeB s p hs hp hB v).1.set ↔ (y 0 : ℕ) = s ∧ (y 1 : ℕ) = p ∧ 272 ≤ (y 2 : ℕ) := by
  unfold storeB
  rw [Rect.mem_set_unit]
  constructor
  · intro h
    have h0 := h 0; have h1 := h 1; have h2 := h 2
    change s ≤ (y 0 : ℕ) ∧ (y 0 : ℕ) < s + 1 at h0
    change p ≤ (y 1 : ℕ) ∧ (y 1 : ℕ) < p + 1 at h1
    change 272 ≤ (y 2 : ℕ) ∧ (y 2 : ℕ) < 272 + 256 at h2
    omega
  · rintro ⟨h0, h1, h2⟩ a
    have h3 : (y 3 : ℕ) < 256 := (y 3).isLt
    have h4 : (y 2 : ℕ) < 528 := (y 2).isLt
    match a with
    | 0 => change s ≤ (y 0 : ℕ) ∧ (y 0 : ℕ) < s + 1; omega
    | 1 => change p ≤ (y 1 : ℕ) ∧ (y 1 : ℕ) < p + 1; omega
    | 2 => change 272 ≤ (y 2 : ℕ) ∧ (y 2 : ℕ) < 272 + 256; omega
    | 3 => change 0 ≤ (y 3 : ℕ) ∧ (y 3 : ℕ) < 0 + 256; omega

theorem storeA_slot (s n p : ℕ) (hs : s < 2) (hp : p < 2) (hn : n < 11) (m : ℕ) (hm : m < 22) (e : m = n + 11 * p)
    (x : (storeA s p hs hp hA (w m hm)).1.shape.Idx) :
    (storeA s p hs hp hA (w m hm)).2 x = slotAt hA hB w n hn ((storeA s p hs hp hA (w m hm)).1.emb x) := by
  obtain ⟨h1, h2⟩ := storeA_eq hA hB s p hs hp (w m hm) x
  rw [h2, slotAt, h1]
  subst e
  obtain rfl | rfl : p = 0 ∨ p = 1 := by omega
  · rfl
  · rfl

theorem storeB_slot (s n p : ℕ) (hs : s < 2) (hp : p < 2) (hn : n < 11) (m : ℕ) (hm : m < 22) (e : m = n + 11 * p)
    (x : (storeB s p hs hp hB (w m hm)).1.shape.Idx) :
    (storeB s p hs hp hB (w m hm)).2 x = slotAt hA hB w n hn ((storeB s p hs hp hB (w m hm)).1.emb x) := by
  obtain ⟨h1, h2⟩ := storeB_eq hA hB s p hs hp (w m hm) x
  rw [h2, slotAt, h1]
  subst e
  obtain rfl | rfl : p = 0 ∨ p = 1 := by omega
  · rfl
  · rfl

/-- After chunk `n` is stored, its slot holds its products. -/
theorem canon_chunkStores (n : ℕ) (hn : n < 11) (y : S2x2x528x256.Idx) (h0 : (y 0 : ℕ) = n % 2) :
    View.canon (Val := Elt Ideal) (chunkStores hA hB w n hn) y = slotAt hA hB w n hn y := by
  have h1 : (y 1 : ℕ) < 2 := (y 1).isLt
  cases n with
  | zero =>
    refine View.canon_append_of_piecesOf (slotAt hA hB w 0 hn) [] (firstStores hA hB (w 0 (by omega)) (w 11 (by omega)))
      ⟨storeB_slot hA hB w _ 0 1 _ _ _ 11 _ rfl, storeB_slot hA hB w _ 0 0 _ _ _ 0 _ rfl, storeA_slot hA hB w _ 0 1 _ _ _ 11 _ rfl, storeA_slot hA hB w _ 0 0 _ _ _ 0 _ rfl, trivial⟩ y ?_
    simp only [firstStores, List.mem_cons, List.not_mem_nil, or_false, exists_eq_or_imp, exists_eq_left, storeA_mem, storeB_mem]
    omega
  | succ n =>
    refine View.canon_append_of_piecesOf (slotAt hA hB w (n + 1) hn) (chunkStores hA hB w n (by omega))
      [storeB ((n + 1) % 2) 1 (by omega) (by omega) hB (w (n + 12) (by omega)), storeA ((n + 1) % 2) 1 (by omega) (by omega) hA (w (n + 12) (by omega)),
       storeB ((n + 1) % 2) 0 (by omega) (by omega) hB (w (n + 1) (by omega)), storeA ((n + 1) % 2) 0 (by omega) (by omega) hA (w (n + 1) (by omega))]
      ⟨storeB_slot hA hB w _ (n + 1) 1 _ _ _ (n + 12) _ (by omega), storeA_slot hA hB w _ (n + 1) 1 _ _ _ (n + 12) _ (by omega),
       storeB_slot hA hB w _ (n + 1) 0 _ _ _ (n + 1) _ (by omega), storeA_slot hA hB w _ (n + 1) 0 _ _ _ (n + 1) _ (by omega), trivial⟩ y ?_
    simp only [List.mem_cons, List.not_mem_nil, or_false, exists_eq_or_imp, exists_eq_left, storeA_mem, storeB_mem]
    omega

/-- The next chunk goes into the other slot. -/
theorem canon_storesBefore (n : ℕ) (hn : n < 11) (y : S2x2x528x256.Idx) (h0 : (y 0 : ℕ) = n % 2) :
    View.canon (Val := Elt Ideal) (storesBefore hA hB w n hn) y = slotAt hA hB w n hn y := by
  unfold storesBefore
  split
  · rename_i h
    rw [chunkStores, View.canon_cons_of_not_mem _ _ (by rw [storeB_mem]; omega), View.canon_cons_of_not_mem _ _ (by rw [storeA_mem]; omega),
      View.canon_cons_of_not_mem _ _ (by rw [storeB_mem]; omega), View.canon_cons_of_not_mem _ _ (by rw [storeA_mem]; omega)]
    exact canon_chunkStores hA hB w n hn y h0
  · exact canon_chunkStores hA hB w n hn y h0

/-- A part of a chunk at an index: a product with column block `n` or `n + 11` of the up matrix. -/
theorem chunk_at (z : Memref sig .tc .vmem S2x2x528x256 .f32) (n p : ℕ) (hn : n < 11) (hp : p < 2) (a b : Fin 1) (r : Fin 528) (q : Fin 256) :
    chunk z hA hB w n p hn hp (ix4 a b r q) = prod hA hB (w (n + 11 * p) (by omega)) r q := by
  unfold chunk
  rw [View.readCov_eq_canon']
  beta_reduce
  have e0 : ∀ c, ((Rect.unit (s := S2x2x528x256) ![n % 2, p, 0, 0] S1x1x528x256.size (inbZ (n % 2) p (by omega) hp)).idx (ix4 a b r q) c : ℕ)
      = ![n % 2, p, 0, 0] c + (ix4 a b r q : S1x1x528x256.Idx) c := fun c => Rect.idx_unit_val _ _ _ _ c
  generalize (Rect.unit (s := S2x2x528x256) ![n % 2, p, 0, 0] S1x1x528x256.size (inbZ (n % 2) p (by omega) hp)).idx (ix4 a b r q) = y at e0
  have e1 : (y 0 : ℕ) = n % 2 + a.val := e0 0
  have e2 : (y 1 : ℕ) = p + b.val := e0 1
  have e3 : (y 2 : ℕ) = 0 + r.val := e0 2
  have e4 : (y 3 : ℕ) = 0 + q.val := e0 3
  rw [canon_storesBefore hA hB w n hn y (by omega), slotAt]
  have h2 : y 2 = r := Fin.ext (by simpa using e3)
  have h3 : y 3 = q := Fin.ext (by simpa using e4)
  rw [h2, h3]
  obtain rfl | rfl : p = 0 ∨ p = 1 := by omega
  · rw [if_pos (by omega)]; rfl
  · rw [if_neg (by omega)]

variable (cw : (k q : ℕ) → k < 3 → q < 22 → Vec Ideal S1x256 .f32) (cb : (q : ℕ) → q < 22 → Vec Ideal S1x256 .f32)

theorem conv_at (w0 w1 w2 b : Vec Ideal S1x256 .f32) (z : Vec Ideal S1x1x528x256 .f32) (r : Fin 512) (q : Fin 256) :
    conv (F := Ideal) w0 w1 w2 b z (ix2 r q) = Ffn.taps (w0 (ix2 0 q)) (w1 (ix2 0 q)) (w2 (ix2 0 q)) (b (ix2 0 q))
      (z (ix4 0 0 ⟨7 + r, by omega⟩ q)) (z (ix4 0 0 ⟨8 + r, by omega⟩ q)) (z (ix4 0 0 ⟨9 + r, by omega⟩ q)) := by
  unfold conv
  unfold_payloads
  pointwise []
  have h0 : (8 + r.val + 528 - 1) % 528 = 7 + r.val := by omega
  have h2 : (8 + r.val + 528 - 527) % 528 = 9 + r.val := by omega
  simp only [h0, h2, Ffn.taps]

theorem gate_at (a g : FVec Ideal S512x256 .f32) (r : Fin 512) (q : Fin 256) :
    gate a g (ix2 r q) = Ffn.gate (a (ix2 r q)) (g (ix2 r q)) := by
  pointwise [gate]
  rfl

/-- The convolution of part `p` of chunk `n`. -/
def convOf (n p : ℕ) (hn : n < 11) (hp : p < 2) (r : Fin 512) (q : Fin 256) : EReal :=
  Ffn.taps (cw 0 (n + 11 * p) (by omega) (by omega) (ix2 0 q)) (cw 1 (n + 11 * p) (by omega) (by omega) (ix2 0 q)) (cw 2 (n + 11 * p) (by omega) (by omega) (ix2 0 q))
    (cb (n + 11 * p) (by omega) (ix2 0 q))
    (prod hA hB (w (n + 11 * p) (by omega)) ⟨7 + r, by omega⟩ q) (prod hA hB (w (n + 11 * p) (by omega)) ⟨8 + r, by omega⟩ q)
    (prod hA hB (w (n + 11 * p) (by omega)) ⟨9 + r, by omega⟩ q)

theorem gated_at (z : Memref sig .tc .vmem S2x2x528x256 .f32) (n : ℕ) (hn : n < 11) (r : Fin 512) (q : Fin 256) :
    gated z hA hB w cw cb n hn (ix2 r q) =
      Ffn.gate (convOf hA hB w cw cb n 0 hn (by omega) r q) (convOf hA hB w cw cb n 1 hn (by omega) r q) := by
  unfold gated
  rw [gate_at, conv_at, conv_at]
  simp only [chunk_at]
  rfl

/-- The gated tile. -/
def gatedAt (y : S512x2816.Idx) : EReal :=
  have h : (y 1 : ℕ) < 2816 := (y 1).isLt
  Ffn.gate (convOf hA hB w cw cb (y 1 / 256) 0 (by omega) (by omega) (y 0) ⟨y 1 % 256, by omega⟩)
    (convOf hA hB w cw cb (y 1 / 256) 1 (by omega) (by omega) (y 0) ⟨y 1 % 256, by omega⟩)

/-- The second scratch holds the gated chunks side by side. -/
theorem canon_gatedStores (z : Memref sig .tc .vmem S2x2x528x256 .f32) (n : ℕ) (hn : n ≤ 11) (y : S512x2816.Idx) (hy : (y 1 : ℕ) < 256 * n) :
    View.canon (Val := Elt Ideal) (gatedStores z hA hB w cw cb n hn) y = gatedAt hA hB w cw cb y := by
  induction n with
  | zero => omega
  | succ n ih =>
    by_cases h : (y 1 : ℕ) < 256 * n
    · rw [gatedStores, View.canon_cons_of_not_mem]
      · exact ih (by omega) h
      · rw [Rect.mem_set_unit]
        intro hm
        have := hm 1
        change 256 * n ≤ (y 1 : ℕ) ∧ _ at this
        omega
    · refine View.canon_append_of_piecesOf (gatedAt hA hB w cw cb) (gatedStores z hA hB w cw cb n (by omega))
        [⟨Rect.unit ![0, 256 * n] S512x256.size (inbG n (by omega)), gated z hA hB w cw cb n (by omega)⟩] ⟨fun x => ?_, trivial⟩ y ⟨_, List.mem_singleton.mpr rfl, ?_⟩
      · have e0 : ∀ c, ((Rect.unit (s := S512x2816) ![0, 256 * n] S512x256.size (inbG n (by omega))).emb x c : ℕ) = ![0, 256 * n] c + x c := fun c =>
          Rect.idx_unit_val _ _ _ _ c
        generalize (Rect.unit (s := S512x2816) ![0, 256 * n] S512x256.size (inbG n (by omega))).emb x = u at e0
        change S512x256.Idx at x
        idx_vars x
        have e1 : (u 0 : ℕ) = 0 + x0.val := e0 0
        have e2 : (u 1 : ℕ) = 256 * n + x1.val := e0 1
        change gated z hA hB w cw cb n _ (ix2 x0 x1) = _
        have h0 : u 0 = x0 := Fin.ext (by simpa using e1)
        have h1 : (u 1 : ℕ) / 256 = n := by omega
        have h2 : (u 1 : ℕ) % 256 = x1.val := by omega
        rw [gated_at]
        simp only [gatedAt, h0, h1, h2]
      · rw [Rect.mem_set_unit]
        have h3 : (y 0 : ℕ) < 512 := (y 0).isLt
        intro a
        match a with
        | 0 => change 0 ≤ (y 0 : ℕ) ∧ (y 0 : ℕ) < 0 + 512; omega
        | 1 => change 256 * n ≤ (y 1 : ℕ) ∧ (y 1 : ℕ) < 256 * n + 256; omega

/-- A row block of the second scratch, read back. -/
theorem act_at (z : Memref sig .tc .vmem S2x2x528x256 .f32) (act : Memref sig .tc .vmem S512x2816 .bf16) (o : ℕ)
    (ho : ∀ a, ![o, 0] a + S256x2816.size a ≤ S512x2816.size a) (r : Fin 256) (q : Fin 2816) (hr : o + r < 512) :
    act.view.readCov (gatedStores z hA hB w cw cb 11 (by omega)) (Rect.unit (s := S512x2816) ![o, 0] S256x2816.size ho).toLoadRect (ix2 r q)
      = gatedAt hA hB w cw cb (ix2 ⟨o + r, hr⟩ q) := by
  rw [View.readCov_eq_canon']
  have e0 : ∀ c, ((Rect.unit (s := S512x2816) ![o, 0] S256x2816.size ho).idx (ix2 r q) c : ℕ) = ![o, 0] c + (ix2 r q : S256x2816.Idx) c := fun c =>
    Rect.idx_unit_val _ _ _ _ c
  have e : (Rect.unit (s := S512x2816) ![o, 0] S256x2816.size ho).idx (ix2 r q) = ix2 ⟨o + r, hr⟩ q := by
    funext c
    apply Fin.ext
    rw [e0]
    match c with
    | 0 => rfl
    | 1 => exact Nat.zero_add _
  change View.canon (Val := Elt Ideal) _ ((Rect.unit (s := S512x2816) ![o, 0] S256x2816.size ho).idx (ix2 r q)) = _
  rw [e]
  exact canon_gatedStores hA hB w cw cb z 11 (by omega) _ (by have := q.isLt; change q.val < 256 * 11; omega)

end Cert.Kernel2Ideal.Block

end
-- ==== Proof.FfnPoint.lean ====
/- The row tile of the feed-forward launch at an index, by rows of the reference's mathematics. -/
module

public import proofs.«01_k».proof.Proof.FfnChunk

@[expose] public section

set_option maxRecDepth 16384

noncomputable section

namespace Cert.Kernel2Ideal.Block

open Cert.Kernel2Ideal Cert.Kernel2Ideal.Gen Idealize.ShloMosaic Idealize.ShloMosaic.TcCoe Idealize.SL.Sem

/-- The residual row of the tile with its margins: row `r` is row `8 + r` of the joined inputs. -/
def midRow (g1 : FVec Ideal S1x1024 .f32) (xc : FVec Ideal S544x1024 .f32) (mix : FVec Ideal S544x1024 .bf16)
    (wp : Vec Ideal S1024x1024 .bf16) (bp : Vec Ideal S1x1024 .f32) (r : Fin 528) : Fin 1024 → EReal :=
  Ffn.mid (fun k => g1 (ix2 0 k)) (fun k => bp (ix2 0 k)) (fun j k => wp (ix2 j k)) (fun k => xc (ix2 ⟨8 + r, by omega⟩ k)) (fun k => mix (ix2 ⟨8 + r, by omega⟩ k))

/-- The hidden row before the mask. -/
def hidRow (g1 sh sc : FVec Ideal S1x1024 .f32) (xc : FVec Ideal S544x1024 .f32) (mix : FVec Ideal S544x1024 .bf16)
    (wp : Vec Ideal S1024x1024 .bf16) (bp gf : Vec Ideal S1x1024 .f32) (r : Fin 528) : Fin 1024 → EReal :=
  Ffn.hid (fun k => gf (ix2 0 k)) (fun k => sc (ix2 0 k)) (fun k => sh (ix2 0 k)) (midRow g1 xc mix wp bp r)

/-- Whether row `r` of tile `j` lies outside the sequence. -/
def outside (j r : ℕ) : Prop := (j = 0 ∧ r < 8) ∨ (j = 3 ∧ 520 ≤ r)

instance (j r : ℕ) : Decidable (outside j r) := inferInstanceAs (Decidable (_ ∨ _))

/-- The mask's bit at a row. -/
theorem mask_bit : ∀ (j : Fin 4) (r : Fin 528),
    (IntOp.xori (IntOp.ori (IntOp.andi (Scalar.cmpi .eq (BitVec.ofNat 32 j) 0#32) (IntOp.cmpi .slt (BitVec.ofNat 32 r) 8#32))
      (IntOp.andi (Scalar.cmpi .eq (BitVec.ofNat 32 j) 3#32) (IntOp.cmpi .sge (BitVec.ofNat 32 r) 520#32))) 1#1 : BitVec 1)
      = if outside j r then 0#1 else 1#1 := by
  decide +kernel

theorem masked (j r : ℕ) (hj : j < 4) (hr : r < 528) (x : EReal) :
    Scalar.select (IntOp.xori (IntOp.ori (IntOp.andi (Scalar.cmpi .eq (BitVec.ofNat 32 j) 0#32) (IntOp.cmpi .slt (BitVec.ofNat 32 r) 8#32))
      (IntOp.andi (Scalar.cmpi .eq (BitVec.ofNat 32 j) 3#32) (IntOp.cmpi .sge (BitVec.ofNat 32 r) 520#32))) 1#1 : BitVec 1) x 0
      = if outside j r then 0 else x := by
  rw [mask_bit ⟨j, hj⟩ ⟨r, hr⟩]
  dsimp only
  split <;> rfl

variable (j : ℕ) (g1 sh sc g2 : FVec Ideal S1x1024 .f32) (xc : FVec Ideal S544x1024 .f32) (mix : FVec Ideal S544x1024 .bf16)
  (wp : Vec Ideal S1024x1024 .bf16) (bp gf : Vec Ideal S1x1024 .f32)

theorem hidA_at (hj : j < 4) (r : Fin 272) (k : Fin 1024) :
    hidA j g1 sh sc xc mix wp bp gf (ix2 r k) = if outside j r then 0 else hidRow g1 sh sc xc mix wp bp gf ⟨r, by omega⟩ k := by
  unfold hidA; unfold_payloads
  pointwise []
  exact masked j r hj (by omega) _

theorem hidB_at (hj : j < 4) (r : Fin 256) (k : Fin 1024) :
    hidB j g1 sh sc xc mix wp bp gf (ix2 r k) = if outside j (272 + r) then 0 else hidRow g1 sh sc xc mix wp bp gf ⟨272 + r, by omega⟩ k := by
  unfold hidB; unfold_payloads
  pointwise []
  simp only [show 272 + (8 + r.val) = 8 + (272 + r.val) by omega]
  exact masked j (272 + r) hj (by omega) _

theorem rows_at (hj : j < 4) (r : Fin 528) (k : Fin 1024) :
    rows (hidA j g1 sh sc xc mix wp bp gf) (hidB j g1 sh sc xc mix wp bp gf) r k
      = if outside j r then 0 else hidRow g1 sh sc xc mix wp bp gf r k := by
  unfold rows
  split
  · rw [hidA_at _ _ _ _ _ _ _ _ _ hj]
  · rw [hidB_at _ _ _ _ _ _ _ _ _ hj]
    simp only [show 272 + (r.val - 272) = r by omega]

theorem mids_at (r : Fin 528) (k : Fin 1024) : mids g1 xc mix wp bp (ix2 r k) = midRow g1 xc mix wp bp r k := by
  unfold mids; unfold_payloads
  pointwise []
  split
  · rfl
  · simp only [show 272 + (8 + (r.val - 272)) = 8 + r by omega]
    rfl

theorem joined_at {e : EltTy} (p : Vec Ideal S1x16x1024 e) (x : Vec Ideal S1x512x1024 e) (n : Vec Ideal S1x16x1024 e) (r : Fin 544) (k : Fin 1024) :
    joined p x n (ix2 r k) = if h : r.val < 16 then p (ix3 0 ⟨r, h⟩ k) else if h' : r.val - 16 < 512 then x (ix3 0 ⟨r - 16, h'⟩ k)
      else n (ix3 0 ⟨r - 16 - 512, by omega⟩ k) := by
  unfold joined
  pointwise []

theorem outA_at (mid : FVec Ideal S528x1024 .f32) (act : Vec Ideal S256x2816 .bf16) (wd : Vec Ideal S1x2816x1024 .bf16)
    (gl : Vec Ideal S1x1024 .f32) (o : Fin 1) (r : Fin 256) (k : Fin 1024) :
    outA g2 mid act wd gl (ix3 o r k) = Ffn.out (fun k => g2 (ix2 0 k)) (fun k => gl (ix2 0 k)) (fun k => mid (ix2 ⟨8 + r, by omega⟩ k))
      (fun q => act (ix2 r q)) (fun q k => wd (ix3 0 q k)) k := by
  unfold outA; unfold_payloads
  pointwise []
  rfl

theorem outB_at (mid : FVec Ideal S528x1024 .f32) (act : Vec Ideal S256x2816 .bf16) (wd : Vec Ideal S1x2816x1024 .bf16)
    (gl : Vec Ideal S1x1024 .f32) (o : Fin 1) (r : Fin 256) (k : Fin 1024) :
    outB g2 mid act wd gl (ix3 o r k) = Ffn.out (fun k => g2 (ix2 0 k)) (fun k => gl (ix2 0 k)) (fun k => mid (ix2 ⟨264 + r, by omega⟩ k))
      (fun q => act (ix2 r q)) (fun q k => wd (ix3 0 q k)) k := by
  unfold outB; unfold_payloads
  pointwise []
  rfl

/-- What a grid point's inputs are, in terms of the layer's data `d` and the tile's number `j`. -/
structure Reads (d : Ffn.Data) (j : ℕ) (g1 sh sc g2 : FVec Ideal S1x1024 .f32) (xc : FVec Ideal S544x1024 .f32) (mix : FVec Ideal S544x1024 .bf16)
    (wp : Vec Ideal S1024x1024 .bf16) (bp gf : Vec Ideal S1x1024 .f32) (w : (q : ℕ) → q < 22 → Vec Ideal S1x1024x256 .bf16)
    (cw : (k q : ℕ) → k < 3 → q < 22 → Vec Ideal S1x256 .f32) (cb : (q : ℕ) → q < 22 → Vec Ideal S1x256 .f32)
    (wd : Vec Ideal S1x2816x1024 .bf16) (gl : Vec Ideal S1x1024 .f32) : Prop where
  lt : j < 4
  g1 : ∀ k, g1 (ix2 0 k) = d.md 0 k
  sh : ∀ k, sh (ix2 0 k) = d.md 1 k
  sc : ∀ k, sc (ix2 0 k) = d.md 2 k
  g2 : ∀ k, g2 (ix2 0 k) = d.md 3 k
  xc : ∀ (r : ℕ) (hr : r < 544) (s : Fin 2048) (_ : s.val + 16 = 512 * j + r) k, xc (ix2 ⟨r, hr⟩ k) = d.x s k
  mix : ∀ (r : ℕ) (hr : r < 544) (s : Fin 2048) (_ : s.val + 16 = 512 * j + r) k, mix (ix2 ⟨r, hr⟩ k) = d.mix s k
  wp : ∀ i k, wp (ix2 i k) = d.wp i k
  bp : ∀ k, bp (ix2 0 k) = d.bp k
  gf : ∀ k, gf (ix2 0 k) = d.gf k
  w : ∀ q hq x (c : Fin 256), w q hq (ix3 0 x c) = d.wu x ⟨256 * q + c, by omega⟩
  cw : ∀ (k : Fin 3) q hq (c : Fin 256), cw k q k.isLt hq (ix2 0 c) = d.cw k ⟨256 * q + c, by omega⟩
  cb : ∀ q hq (c : Fin 256), cb q hq (ix2 0 c) = d.cb ⟨256 * q + c, by omega⟩
  wd : ∀ q k, wd (ix3 0 q k) = d.wd q k
  gl : ∀ k, gl (ix2 0 k) = d.gl k

section

variable {d : Ffn.Data} {j : ℕ} {g1 sh sc g2 : FVec Ideal S1x1024 .f32} {xc : FVec Ideal S544x1024 .f32} {mix : FVec Ideal S544x1024 .bf16}
  {wp : Vec Ideal S1024x1024 .bf16} {bp gf : Vec Ideal S1x1024 .f32} {w : (q : ℕ) → q < 22 → Vec Ideal S1x1024x256 .bf16}
  {cw : (k q : ℕ) → k < 3 → q < 22 → Vec Ideal S1x256 .f32} {cb : (q : ℕ) → q < 22 → Vec Ideal S1x256 .f32}
  {wd : Vec Ideal S1x2816x1024 .bf16} {gl : Vec Ideal S1x1024 .f32}
  (R : Reads d j g1 sh sc g2 xc mix wp bp gf w cw cb wd gl)

include R

theorem midRow_eq (r : Fin 528) (s : Fin 2048) (h : s.val + 8 = 512 * j + r) : midRow g1 xc mix wp bp r = Ffn.midAt d s := by
  funext k
  simp only [midRow, Ffn.midAt, Ffn.mid, R.g1, R.bp, R.wp, R.xc _ _ s (show s.val + 16 = 512 * j + (8 + r.val) by omega),
    R.mix _ _ s (show s.val + 16 = 512 * j + (8 + r.val) by omega)]

theorem hidRow_eq (r : Fin 528) (s : Fin 2048) (h : s.val + 8 = 512 * j + r) : hidRow g1 sh sc xc mix wp bp gf r = Ffn.hidAt d s := by
  rw [hidRow, midRow_eq R r s h]
  simp only [Ffn.hidAt, R.sh, R.sc, R.gf]

/-- A row of the tile's up product is a row of the padded one. -/
theorem prod_eq (r : Fin 528) (i : ℕ) (h : i + 7 = 512 * j + r) (q : ℕ) (hq : q < 22) (c : Fin 256) :
    prod (hidA j g1 sh sc xc mix wp bp gf) (hidB j g1 sh sc xc mix wp bp gf) (w q hq) r c = Ffn.padded d i ⟨256 * q + c, by omega⟩ := by
  have hj := R.lt
  unfold prod Ffn.padded
  simp only [rows_at _ _ _ _ _ _ _ _ _ hj, R.w]
  by_cases ho : outside j r
  · rw [dif_neg (by unfold outside at ho; omega)]
    simp only [if_pos ho, zero_mul, Finset.sum_const_zero]
  · have hs : 1 ≤ i ∧ i - 1 < 2048 := by unfold outside at ho; omega
    rw [dif_pos hs]
    simp only [if_neg ho]
    rw [hidRow_eq R r ⟨i - 1, hs.2⟩ (by dsimp only; omega)]

/-- The gated tile is the reference's gated rows. -/
theorem gated_eq (r : Fin 512) (s : Fin 2048) (h : s.val = 512 * j + r) (q : Fin 2816) :
    gatedAt (hidA j g1 sh sc xc mix wp bp gf) (hidB j g1 sh sc xc mix wp bp gf) w cw cb (ix2 r q) = Ffn.actAt d s q := by
  have hc : ∀ (p : ℕ) (hp : p < 2), convOf (hidA j g1 sh sc xc mix wp bp gf) (hidB j g1 sh sc xc mix wp bp gf) w cw cb (q.val / 256) p (by omega) hp r ⟨q.val % 256, by omega⟩
      = Ffn.convAt d s ⟨2816 * p + q, by omega⟩ := by
    intro p hp
    have e : ∀ h', (⟨256 * (q.val / 256 + 11 * p) + q.val % 256, h'⟩ : Fin 5632) = ⟨2816 * p + q, by omega⟩ := fun _ => Fin.ext (by dsimp only; omega)
    unfold convOf Ffn.convAt
    rw [prod_eq R _ s.val (by dsimp only; omega), prod_eq R _ (1 + s.val) (by dsimp only; omega), prod_eq R _ (2 + s.val) (by dsimp only; omega)]
    have c0 := R.cw 0 (q.val / 256 + 11 * p) (by omega) ⟨q.val % 256, by omega⟩
    have c1 := R.cw 1 (q.val / 256 + 11 * p) (by omega) ⟨q.val % 256, by omega⟩
    have c2 := R.cw 2 (q.val / 256 + 11 * p) (by omega) ⟨q.val % 256, by omega⟩
    simp only [e] at c0 c1 c2
    simp only [e, R.cb]
    exact congrArg₂ (fun a b => Ffn.taps a b _ _ _ _ _) c0 c1 |>.trans (congrArg (fun a => Ffn.taps _ _ a _ _ _ _) c2)
  have h0 := hc 0 (by omega)
  have h1 := hc 1 (by omega)
  simp only [Nat.mul_zero, Nat.zero_add, Nat.mul_one] at h0 h1
  exact congrArg₂ Ffn.gate h0 h1

omit R in
/-- A block of rows of the output tile, placed. -/
theorem emb_rows (o : ℕ) (ho : ∀ a, ![0, o, 0] a + S1x256x1024.size a ≤ S1x512x1024.size a) (a : Fin 1) (r : Fin 256) (k : Fin 1024) (hr : o + r < 512) :
    (Rect.unit (s := S1x512x1024) ![0, o, 0] S1x256x1024.size ho).emb (ix3 a r k) = ix3 0 ⟨o + r, hr⟩ k := by
  have e0 : ∀ c, ((Rect.unit (s := S1x512x1024) ![0, o, 0] S1x256x1024.size ho).emb (ix3 a r k) c : ℕ) = ![0, o, 0] c + (ix3 a r k : S1x256x1024.Idx) c := fun c =>
    Rect.idx_unit_val _ _ _ _ c
  funext c
  apply Fin.ext
  rw [e0]
  match c with
  | 0 => change 0 + a.val = 0; omega
  | 1 => rfl
  | 2 => exact Nat.zero_add _

/-- The output tile: row `r` of tile `j` is the layer's output at position `512 j + r`. -/
theorem tile_at (z : Memref sig .tc .vmem S2x2x528x256 .f32) (act : Memref sig .tc .vmem S512x2816 .bf16) (y : S1x512x1024.Idx) (s : Fin 2048)
    (h : s.val = 512 * j + (y 1).val) :
    View.canon (Val := Elt Ideal) (tileStores z act j g1 sh sc g2 xc mix wp bp gf w cw cb wd gl) y = Ffn.outAt d s (y 2) := by
  have hj := R.lt
  have hy : (y 1 : ℕ) < 512 := (y 1).isLt
  have hk : (y 2 : ℕ) < 1024 := (y 2).isLt
  have h00 : (y 0 : ℕ) < 1 := (y 0).isLt
  let G : S1x512x1024.Idx → EReal := fun u => Ffn.outAt d ⟨512 * j + (u 1 : ℕ), by have : (u 1 : ℕ) < 512 := (u 1).isLt; omega⟩ (u 2)
  have hG : Ffn.outAt d s (y 2) = G y := by
    have : s = ⟨512 * j + (y 1 : ℕ), by omega⟩ := Fin.ext h
    rw [this]
  rw [hG]
  refine View.canon_append_of_piecesOf (Val := Elt Ideal) (e := .f32) G [] (tileStores z act j g1 sh sc g2 xc mix wp bp gf w cw cb wd gl) ⟨fun x => ?_, fun x => ?_, trivial⟩ y ?_
  · change S1x256x1024.Idx at x
    idx_vars x
    rw [emb_rows 256 _ _ _ _ (by omega), outB_at]
    change _ = Ffn.outAt d ⟨512 * j + (256 + x1.val), by omega⟩ x2
    simp only [mids_at, act_at _ _ _ _ _ _ _ _ _ _ _ (show 256 + x1.val < 512 by omega), R.g2, R.gl, R.wd,
      midRow_eq R ⟨264 + x1.val, by omega⟩ ⟨512 * j + (256 + x1.val), by omega⟩ (by dsimp only; omega),
      gated_eq R ⟨256 + x1.val, by omega⟩ ⟨512 * j + (256 + x1.val), by omega⟩ rfl]
    rfl
  · change S1x256x1024.Idx at x
    idx_vars x
    rw [emb_rows 0 _ _ _ _ (by omega), outA_at]
    change _ = Ffn.outAt d ⟨512 * j + (0 + x1.val), by omega⟩ x2
    simp only [mids_at, act_at _ _ _ _ _ _ _ _ _ _ _ (show 0 + x1.val < 512 by omega), R.g2, R.gl, R.wd,
      midRow_eq R ⟨8 + x1.val, by omega⟩ ⟨512 * j + (0 + x1.val), by omega⟩ (by dsimp only; omega),
      gated_eq R ⟨0 + x1.val, by omega⟩ ⟨512 * j + (0 + x1.val), by omega⟩ rfl]
    rfl
  · by_cases h1 : (y 1 : ℕ) < 256
    · refine ⟨_, List.mem_cons_of_mem _ (List.mem_singleton.mpr rfl), ?_⟩
      rw [Rect.mem_set_unit]
      intro a
      match a with
      | 0 => change 0 ≤ (y 0 : ℕ) ∧ (y 0 : ℕ) < 0 + 1; omega
      | 1 => change 0 ≤ (y 1 : ℕ) ∧ (y 1 : ℕ) < 0 + 256; omega
      | 2 => change 0 ≤ (y 2 : ℕ) ∧ (y 2 : ℕ) < 0 + 1024; omega
    · refine ⟨_, List.mem_cons_self .., ?_⟩
      rw [Rect.mem_set_unit]
      intro a
      match a with
      | 0 => change 0 ≤ (y 0 : ℕ) ∧ (y 0 : ℕ) < 0 + 1; omega
      | 1 => change 256 ≤ (y 1 : ℕ) ∧ (y 1 : ℕ) < 256 + 256; omega
      | 2 => change 0 ≤ (y 2 : ℕ) ∧ (y 2 : ℕ) < 0 + 1024; omega

end

end Cert.Kernel2Ideal.Block

end
-- ==== Proof.FfnRef.lean ====
/- The feed-forward reference's result, read at an index: it is `Ffn.outAt` of the arguments' rows. -/
module

public import proofs.«01_k».proof.Proof.FfnMath
public import proofs.«01_k».proof.Proof.Gen.Reference2Ideal.Read

@[expose] public section

set_option maxRecDepth 16384

noncomputable section

namespace Cert.Reference2Ideal.Ref

open Cert.Reference2Ideal Cert.Reference2Ideal.Read Idealize.ShloMosaic

variable (x0 : S8x2048x1024.Idx → EReal) (x1 : S8x2048x1024.Idx → EReal) (x2 : S8x4x1024.Idx → EReal)
  (x3 : S1024x1024.Idx → EReal) (x4 x5 : S1024.Idx → EReal) (x6 : S2x1024x5632.Idx → EReal) (x7 : S3x5632.Idx → EReal)
  (x8 : S5632.Idx → EReal) (x9 : S2x2816x1024.Idx → EReal) (x10 : S1024.Idx → EReal)

/-- The arguments' rows for sequence `b`. -/
def data (b : Fin 8) : Ffn.Data where
  x s k := x0 (ix3 b s k)
  mix s k := x1 (ix3 b s k)
  md i k := x2 (ix3 b i k)
  wp j k := x3 (ix2 j k)
  bp k := x4 (ix1 k)
  gf k := x5 (ix1 k)
  wu k q := x6 (ix3 1 k q)
  cw i q := x7 (ix2 i q)
  cb q := x8 (ix1 q)
  wd q k := x9 (ix3 1 q k)
  gl k := x10 (ix1 k)

theorem v19_at (b : Fin 8) (s : Fin 2048) (k : Fin 1024) :
    val_main_v19 (F := Ideal) x0 x1 x2 x3 x4 (ix3 b s k) = Ffn.midAt (data x0 x1 x2 x3 x4 x5 x6 x7 x8 x9 x10 b) s k := by
  unfold Ffn.midAt Ffn.mid data
  pointwise [val_main_v19, val_main_v18, val_main_v17, val_main_v16, val_main_v15, val_main_v14, val_main_v13, val_main_v12, val_main_v2, val_main_v1, val_main_v0]

theorem v38_at (b : Fin 8) (s : Fin 2048) (k : Fin 1024) :
    val_main_v38 (F := Ideal) x0 x1 x2 x3 x4 x5 (ix3 b s k) = Ffn.hidAt (data x0 x1 x2 x3 x4 x5 x6 x7 x8 x9 x10 b) s k := by
  unfold Ffn.hidAt Ffn.hid Ffn.norm
  simp only [← v19_at x0 x1 x2 x3 x4 x5 x6 x7 x8 x9 x10]
  pointwise [val_main_v38, val_main_v37, val_main_v36, val_main_v35, val_main_v34, val_main_v33, val_main_cst_2, val_main_v32, val_main_v31, val_main_v30, val_main_v29, val_main_v28, val_main_v27, val_main_v26, val_main_v25, val_main_cst_1, val_main_v24, val_main_v23, val_main_cst_0, val_main_v22, val_main_v21, val_main_cst, val_main_v20, val_main_v5, val_main_v4, val_main_v3, val_main_v8, val_main_v7, val_main_v6, data]

theorem v43_at (b : Fin 8) (s : Fin 2050) (q : Fin 5632) :
    val_main_v43 (F := Ideal) x0 x1 x2 x3 x4 x5 x6 (ix3 b s q) = Ffn.padded (data x0 x1 x2 x3 x4 x5 x6 x7 x8 x9 x10 b) s q := by
  unfold Ffn.padded
  simp only [← v38_at x0 x1 x2 x3 x4 x5 x6 x7 x8 x9 x10]
  pointwise [val_main_v43, val_main_v42, val_main_v41, val_main_v40, val_main_v39, val_main_call0_v0, val_main_c, data]
  have e : FloatOps.sitofp (F := Ideal) FTy.f32 (0#32) = (0 : EReal) := by simp [FloatOps.sitofp]
  rw [e]

theorem v66_at (b : Fin 8) (s : Fin 2048) (q : Fin 5632) :
    val_main_v66 (F := Ideal) x0 x1 x2 x3 x4 x5 x6 x7 x8 (ix3 b s q) = Ffn.convAt (data x0 x1 x2 x3 x4 x5 x6 x7 x8 x9 x10 b) s q := by
  unfold Ffn.convAt Ffn.taps
  pointwise [val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44]
  simp only [v43_at x0 x1 x2 x3 x4 x5 x6 x7 x8 x9 x10]
  rfl

theorem v70_at (b : Fin 8) (s : Fin 2048) (q : Fin 2816) :
    val_main_v70 (F := Ideal) x0 x1 x2 x3 x4 x5 x6 x7 x8 (ix3 b s q) = Ffn.actAt (data x0 x1 x2 x3 x4 x5 x6 x7 x8 x9 x10 b) s q := by
  unfold Ffn.actAt Ffn.gate
  simp only [← v66_at x0 x1 x2 x3 x4 x5 x6 x7 x8 x9 x10]
  pointwise [val_main_v70, val_main_v69, val_main_v68, val_main_v67, val_main_call1_v5, val_main_call1_v4, val_main_call1_v3, val_main_call1_v2, val_main_call1_v1, val_main_call1_v0, val_main_call1_cst, val_main_call1_cst_0]
  simp only [zero_sub]

theorem v90_at (b : Fin 8) (s : Fin 2048) (k : Fin 1024) :
    val_main_v90 (F := Ideal) x0 x1 x2 x3 x4 x5 x6 x7 x8 x9 x10 (ix3 b s k) = Ffn.outAt (data x0 x1 x2 x3 x4 x5 x6 x7 x8 x9 x10 b) s k := by
  unfold Ffn.outAt Ffn.out Ffn.norm
  simp only [← v19_at x0 x1 x2 x3 x4 x5 x6 x7 x8 x9 x10, ← v70_at x0 x1 x2 x3 x4 x5 x6 x7 x8 x9 x10]
  pointwise [val_main_v90, val_main_v89, val_main_v88, val_main_v87, val_main_v86, val_main_v85, val_main_v84, val_main_v83, val_main_cst_5, val_main_v82, val_main_v81, val_main_cst_4, val_main_v80, val_main_v79, val_main_cst_3, val_main_v78, val_main_v77, val_main_v76, val_main_v75, val_main_v74, val_main_v73, val_main_v72, val_main_v71, val_main_v11, val_main_v10, val_main_v9, data]

end Cert.Reference2Ideal.Ref

end
-- ==== Proof.FfnArray.lean ====
/- The array the feed-forward launch leaves: the layer's output at every position of every sequence. -/
module

public import proofs.«01_k».proof.Proof.FfnPoint
public import proofs.«01_k».proof.Proof.FfnRef
public import proofs.«01_k».proof.Proof.Gen.Kernel2Ideal.Value

@[expose] public section

set_option maxRecDepth 16384

noncomputable section

namespace Cert.Kernel2Ideal.Block

open Cert.Kernel2Ideal Cert.Kernel2Ideal.Gen Idealize.ShloMosaic Idealize.ShloMosaic.TcCoe Idealize.SL.Sem

variable (m : (ℓ : Loc nD τ sig) → Buf (Elt Ideal) ℓ) (c : Dev nD) (t : Fin cfg0.N)

theorem idx : ∀ t : Fin grid0.N,
    win0_0.index t = ![(grid0.coords t 0).val, 32 * (grid0.coords t 1).val - 1, 0] ∧ win0_1.index t = ![(grid0.coords t 0).val, (grid0.coords t 1).val, 0]
    ∧ win0_2.index t = ![(grid0.coords t 0).val, min (32 * (grid0.coords t 1).val + 32) 127, 0]
    ∧ win0_3.index t = ![(grid0.coords t 0).val, 32 * (grid0.coords t 1).val - 1, 0] ∧ win0_4.index t = ![(grid0.coords t 0).val, (grid0.coords t 1).val, 0]
    ∧ win0_5.index t = ![(grid0.coords t 0).val, min (32 * (grid0.coords t 1).val + 32) 127, 0]
    ∧ win0_6.index t = ![(grid0.coords t 0).val, 0, 0] ∧ win0_7.index t = ![0, 0] ∧ win0_8.index t = ![0, 0] ∧ win0_9.index t = ![0, 0]
    ∧ win0_10.index t = ![1, 0, 0] ∧ win0_11.index t = ![0, 0] ∧ win0_12.index t = ![0, 0] ∧ win0_13.index t = ![1, 0, 0] ∧ win0_14.index t = ![0, 0]
    ∧ win0_15.index t = ![(grid0.coords t 0).val, (grid0.coords t 1).val, 0] := by
  decide +kernel

/-- The data of sequence `b`, read off the arguments. -/
def layer (b : Fin 8) : Ffn.Data :=
  Cert.Reference2Ideal.Ref.data (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) b

theorem seq_lt : ∀ t : Fin grid0.N, (grid0.coords t 0).val < 8 := by decide +kernel

theorem tile_lt : ∀ t : Fin grid0.N, (grid0.coords t 1).val < 4 := by decide +kernel

/-- The sequence of a grid point. -/
def seq : Fin 8 := ⟨(grid0.coords t 0).val, seq_lt t⟩

/-! The blocks a point finds, by elements of the arguments. -/

theorem blk0 (i : Fin 1) (r : Fin 16) (k : Fin 1024) (s : Fin 2048) (hs : s.val + 16 = 512 * (grid0.coords t 1).val + r) :
    iblk m c 0 t (ix3 i r k) = (layer m c (seq t)).x s k := by
  change _ = m ((c : Thread nD τ).loc main_arg0) (ix3 (seq t) s k)
  unfold seq
  blk_ext [iblk, V, idx t]

theorem blk1 (i : Fin 1) (r : Fin 512) (k : Fin 1024) (s : Fin 2048) (hs : s.val = 512 * (grid0.coords t 1).val + r) :
    iblk m c 1 t (ix3 i r k) = (layer m c (seq t)).x s k := by
  change _ = m ((c : Thread nD τ).loc main_arg0) (ix3 (seq t) s k)
  unfold seq
  blk_ext [iblk, V, idx t]

theorem blk2 (i : Fin 1) (r : Fin 16) (k : Fin 1024) (s : Fin 2048) (hs : s.val = 512 * (grid0.coords t 1).val + 512 + r) :
    iblk m c 2 t (ix3 i r k) = (layer m c (seq t)).x s k := by
  have hm : min (32 * (grid0.coords t 1).val + 32) 127 = 32 * (grid0.coords t 1).val + 32 := by omega
  change _ = m ((c : Thread nD τ).loc main_arg0) (ix3 (seq t) s k)
  unfold seq
  blk_ext [iblk, V, idx t]

theorem blk3 (i : Fin 1) (r : Fin 16) (k : Fin 1024) (s : Fin 2048) (hs : s.val + 16 = 512 * (grid0.coords t 1).val + r) :
    iblk m c 3 t (ix3 i r k) = (layer m c (seq t)).mix s k := by
  change _ = m ((c : Thread nD τ).loc main_arg1) (ix3 (seq t) s k)
  unfold seq
  blk_ext [iblk, V, idx t]

theorem blk4 (i : Fin 1) (r : Fin 512) (k : Fin 1024) (s : Fin 2048) (hs : s.val = 512 * (grid0.coords t 1).val + r) :
    iblk m c 4 t (ix3 i r k) = (layer m c (seq t)).mix s k := by
  change _ = m ((c : Thread nD τ).loc main_arg1) (ix3 (seq t) s k)
  unfold seq
  blk_ext [iblk, V, idx t]

theorem blk5 (i : Fin 1) (r : Fin 16) (k : Fin 1024) (s : Fin 2048) (hs : s.val = 512 * (grid0.coords t 1).val + 512 + r) :
    iblk m c 5 t (ix3 i r k) = (layer m c (seq t)).mix s k := by
  change _ = m ((c : Thread nD τ).loc main_arg1) (ix3 (seq t) s k)
  unfold seq
  blk_ext [iblk, V, idx t]

theorem blk6 (i : Fin 1) (r : Fin 4) (k : Fin 1024) : iblk m c 6 t (ix3 i r k) = (layer m c (seq t)).md r k := by
  change _ = m ((c : Thread nD τ).loc main_arg2) (ix3 (seq t) r k)
  unfold seq
  blk_ext [iblk, V, idx t]

theorem blk7 (i k : Fin 1024) : iblk m c 7 t (ix2 i k) = (layer m c (seq t)).wp i k := by
  change _ = m ((c : Thread nD τ).loc main_arg3) (ix2 i k)
  blk_ext [iblk, V, idx t]

theorem blk8 (i : Fin 1) (k : Fin 1024) : iblk m c 8 t (ix2 i k) = (layer m c (seq t)).bp k := by
  change _ = m ((c : Thread nD τ).loc main_arg4) (ix1 k)
  blk_ext! [iblk, V, idx t]

theorem blk9 (i : Fin 1) (k : Fin 1024) : iblk m c 9 t (ix2 i k) = (layer m c (seq t)).gf k := by
  change _ = m ((c : Thread nD τ).loc main_arg5) (ix1 k)
  blk_ext! [iblk, V, idx t]

theorem blk10 (i : Fin 1) (k : Fin 1024) (q : Fin 5632) : iblk m c 10 t (ix3 i k q) = (layer m c (seq t)).wu k q := by
  change _ = m ((c : Thread nD τ).loc main_arg6) (ix3 1 k q)
  blk_ext [iblk, V, idx t]

theorem blk11 (i : Fin 3) (q : Fin 5632) : iblk m c 11 t (ix2 i q) = (layer m c (seq t)).cw i q := by
  change _ = m ((c : Thread nD τ).loc main_arg7) (ix2 i q)
  blk_ext [iblk, V, idx t]

theorem blk12 (i : Fin 1) (q : Fin 5632) : iblk m c 12 t (ix2 i q) = (layer m c (seq t)).cb q := by
  change _ = m ((c : Thread nD τ).loc main_arg8) (ix1 q)
  blk_ext! [iblk, V, idx t]

theorem blk13 (i : Fin 1) (q : Fin 2816) (k : Fin 1024) : iblk m c 13 t (ix3 i q k) = (layer m c (seq t)).wd q k := by
  change _ = m ((c : Thread nD τ).loc main_arg9) (ix3 1 q k)
  blk_ext [iblk, V, idx t]

theorem blk14 (i : Fin 1) (k : Fin 1024) : iblk m c 14 t (ix2 i k) = (layer m c (seq t)).gl k := by
  change _ = m ((c : Thread nD τ).loc main_arg10) (ix1 k)
  blk_ext! [iblk, V, idx t]

/-- A load from a buffer holding `X`. -/
theorem load_at {s : Shape} {e : EltTy} {M : Memref sig .tc .vmem s e} {h : M.IsWhole} {X : s.Idx → Elt Ideal e} {off size : Fin s.rank → ℕ}
    {inb : ∀ a, off a + size a ≤ s.size a} {x : (Rect.unit off size inb).shape.Idx} (i : s.Idx) (hi : ∀ a, (i a : ℕ) = off a + x a) :
    View.readAt (Elt Ideal) M.view (Rect.unit off size inb).toLoadRect (h.unread X) x = X i := by
  rw [View.readAt_eq_ld, h.read_unread]
  exact View.ld_unit_apply_of X off size inb x i hi

variable {m c t}

/-- A row of the joined residual stream. -/
theorem joined_x (p x n) (hp : ∀ r k, p (ix3 0 r k) = iblk m c 0 t (ix3 0 r k)) (hx : ∀ r k, x (ix3 0 r k) = iblk m c 1 t (ix3 0 r k))
    (hn : ∀ r k, n (ix3 0 r k) = iblk m c 2 t (ix3 0 r k)) (r : ℕ) (hr : r < 544) (s : Fin 2048) (hs : s.val + 16 = 512 * (grid0.coords t 1).val + r) (k : Fin 1024) :
    joined (e := .f32) p x n (ix2 ⟨r, hr⟩ k) = (layer m c (seq t)).x s k := by
  rw [joined_at]
  split
  · rw [hp]; exact blk0 m c t _ _ _ s hs
  · split
    · rw [hx]; exact blk1 m c t _ _ _ s (by dsimp only at *; omega)
    · rw [hn]; exact blk2 m c t _ _ _ s (by dsimp only at *; omega)

/-- A row of the joined mixer output. -/
theorem joined_mix (p x n) (hp : ∀ r k, p (ix3 0 r k) = iblk m c 3 t (ix3 0 r k)) (hx : ∀ r k, x (ix3 0 r k) = iblk m c 4 t (ix3 0 r k))
    (hn : ∀ r k, n (ix3 0 r k) = iblk m c 5 t (ix3 0 r k)) (r : ℕ) (hr : r < 544) (s : Fin 2048) (hs : s.val + 16 = 512 * (grid0.coords t 1).val + r) (k : Fin 1024) :
    joined (e := .bf16) p x n (ix2 ⟨r, hr⟩ k) = (layer m c (seq t)).mix s k := by
  rw [joined_at]
  split
  · rw [hp]; exact blk3 m c t _ _ _ s hs
  · split
    · rw [hx]; exact blk4 m c t _ _ _ s (by dsimp only at *; omega)
    · rw [hn]; exact blk5 m c t _ _ _ s (by dsimp only at *; omega)

theorem modRow_at (r : Vec Ideal S1x1x1024 .f32) (k : Fin 1024) : modRow r (ix2 0 k) = r (ix3 0 0 k) := by
  pointwise [modRow]

variable (m c t)

set_option maxHeartbeats 4000000 in
/-- What a grid point leaves in its output block. -/
theorem out_at (y : S1x512x1024.Idx) (s : Fin 2048) (h : s.val = 512 * (grid0.coords t 1).val + (y 1).val) :
    outsAt0 m c t y = Ffn.outAt (layer m c (seq t)) s (y 2) := by
  unfold outsAt0 out0_A_15
  rw [View.read_writes_junk_eq_canon, stores_eq]
  refine tile_at (d := layer m c (seq t)) (j := (grid0.coords t 1).val) ?_ _ _ y s h
  constructor
  case lt => exact tile_lt t
  case g1 => intro k; rw [modRow_at]; exact (load_at (ix3 0 0 k) (by intro a; fin_cases a <;> simp)).trans (blk6 m c t 0 0 k)
  case sh => intro k; rw [modRow_at]; exact (load_at (ix3 0 1 k) (by intro a; fin_cases a <;> simp)).trans (blk6 m c t 0 1 k)
  case sc => intro k; rw [modRow_at]; exact (load_at (ix3 0 2 k) (by intro a; fin_cases a <;> simp)).trans (blk6 m c t 0 2 k)
  case g2 => intro k; rw [modRow_at]; exact (load_at (ix3 0 3 k) (by intro a; fin_cases a <;> simp)).trans (blk6 m c t 0 3 k)
  case xc =>
    refine joined_x _ _ _ (fun r k => ?_) (fun r k => ?_) (fun r k => ?_)
    · exact load_at (ix3 0 r k) (by intro a; fin_cases a <;> simp)
    · exact load_at (ix3 0 r k) (by intro a; fin_cases a <;> simp)
    · exact load_at (ix3 0 r k) (by intro a; fin_cases a <;> simp)
  case mix =>
    refine joined_mix _ _ _ (fun r k => ?_) (fun r k => ?_) (fun r k => ?_)
    · exact load_at (ix3 0 r k) (by intro a; fin_cases a <;> simp)
    · exact load_at (ix3 0 r k) (by intro a; fin_cases a <;> simp)
    · exact load_at (ix3 0 r k) (by intro a; fin_cases a <;> simp)
  case wp => intro i k; exact (load_at (ix2 i k) (by intro a; fin_cases a <;> simp)).trans (blk7 m c t i k)
  case bp => intro k; exact (load_at (ix2 0 k) (by intro a; fin_cases a <;> simp)).trans (blk8 m c t 0 k)
  case gf => intro k; exact (load_at (ix2 0 k) (by intro a; fin_cases a <;> simp)).trans (blk9 m c t 0 k)
  case w => intro q hq x e; exact (load_at (ix3 0 x ⟨256 * q + e, by omega⟩) (by intro a; fin_cases a <;> simp)).trans (blk10 m c t 0 x _)
  case cw => intro k q hq e; exact (load_at (ix2 k ⟨256 * q + e, by omega⟩) (by intro a; fin_cases a <;> simp)).trans (blk11 m c t k _)
  case cb => intro q hq e; exact (load_at (ix2 0 ⟨256 * q + e, by omega⟩) (by intro a; fin_cases a <;> simp)).trans (blk12 m c t 0 _)
  case wd => intro q k; exact (load_at (ix3 0 q k) (by intro a; fin_cases a <;> simp)).trans (blk13 m c t 0 q k)
  case gl => intro k; exact (load_at (ix2 0 k) (by intro a; fin_cases a <;> simp)).trans (blk14 m c t 0 k)

/-- The layer's output as an array. -/
def result (u : S8x2048x1024.Idx) : EReal := Ffn.outAt (layer m c (u 0)) (u 1) (u 2)

/-- Where an element of a grid point's output block lies in the array. -/
theorem emb_out (a : Fin 1) (r : Fin 512) (k : Fin 1024) (h : 512 * (grid0.coords t 1).val + r < 2048) :
    ((cfg0.win 15).blk t).view.emb (ix3 a r k) = ix3 (seq t) ⟨512 * (grid0.coords t 1).val + r, h⟩ k := by
  unfold seq
  blk_ext [idx t]

theorem written (y : S1x512x1024.Idx) : (dats m 0 c).after 15 t y = result m c (((cfg0.win 15).blk t).view.emb y) := by
  rw [after0_15]
  idx_vars y
  have hs := tile_lt t
  rw [emb_out t y0 y1 y2 (by omega)]
  exact out_at m c t (ix3 y0 y1 y2) ⟨512 * (grid0.coords t 1).val + y1, by omega⟩ rfl

/-- The array after the launch. -/
theorem array_eq : (dats m 0 c).arrAt 15 cfg0.N = result m c :=
  (dats m 0 c).arrAt_eq_of_covers 15 _ (by decide +kernel) fun t _ y => written m c t y

end Cert.Kernel2Ideal.Block

end
-- ==== Proof.FfnClaims.lean ====
/- The claims about the feed-forward launch: the frames, the idealization and the value. -/
module

public import proofs.«01_k».proof.Defs
public import proofs.«01_k».proof.Proof.FfnArray
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Reference2Ideal.Run
public import Idealize.ShloMosaic.Lib.Quiescent

@[expose] public section

set_option maxRecDepth 16384

noncomputable section

namespace Cert.Proof.FfnClaims

open Idealize.ShloMosaic Idealize.ShloMosaic.TcCoe Idealize.SL.Sem

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem preserves : Cert.preserves_Kernel2_Kernel2Ideal := trivial

/-- At every index the launch's array and the reference's result are the layer's output there. -/
theorem algebraic : Cert.algebraic_Kernel2Ideal_Reference2Ideal := by
  intro m ρ m' ρ' _ hagree
  refine ⟨fun c => Cert.Kernel2Ideal.Block.result m c,
    (θ_run Cert.Kernel2Ideal.defs _ _).mono (fun _ h c => ⟨(h c).1.trans (Cert.Kernel2Ideal.Block.array_eq m c), (h c).2⟩)
      (Cert.Kernel2Ideal.Value.run_blocks (F := Ideal) m ρ), ?_⟩
  refine (θ_run Cert.Reference2Ideal.defs _ _).mono (fun _ h c => ⟨(h c).1.trans ?_, (h c).2⟩)
    (Cert.Reference2Ideal.Value.run (F := Ideal) m' ρ')
  refine (Cert.Reference2Ideal.Read.val_main_v90_eq (F := Ideal) _).trans ?_
  obtain ⟨e0, e1, e2, e3, e4, e5, e6, e7, e8, e9, e10⟩ := hagree c
  have hd : ∀ b, Cert.Reference2Ideal.Ref.data (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) b = Cert.Kernel2Ideal.Block.layer m c b := by
    intro b
    rw [e0, e1, e2, e3, e4, e5, e6, e7, e8, e9, e10]
    rfl
  funext u
  idx_vars u
  exact (Cert.Reference2Ideal.Ref.v90_at _ _ _ _ _ _ _ _ _ _ _ u0 u1 u2).trans (congrArg (fun d => Ffn.outAt d u1 u2) (hd u0))

end Cert.Proof.FfnClaims

end
-- ==== Proof.HyStores.lean ====
/- What one grid point of the Hyena input launch stores, written with one function per step.

   The body computes the normalised row tile, multiplies it by twelve column blocks of the projection, each into its place
   of a scratch one block ahead of its use, takes a three-tap column convolution of each, and from three blocks makes a
   column block of either result.  Unit `n` is part `n % 3` of chunk `n / 3`: its columns begin at
   `1024 * (n % 3) + 256 * (n / 3)`.  `stores_vv` and `stores_x1` say that the run's stores are these. -/
module

public import proofs.«01_k».proof.Proof.Gen.Kernel3Ideal.Frame
public import Idealize.ShloMosaic.Lib.Pipeline.ValueKit

@[expose] public section

set_option maxRecDepth 16384

noncomputable section

namespace Cert.Kernel3Ideal.Block

open Cert.Kernel3Ideal Cert.Kernel3Ideal.Gen Idealize.ShloMosaic Idealize.ShloMosaic.TcCoe Idealize.SL.Sem

variable {F : FTy → Type} [FloatOps F]

/-- The normalised and modulated rows of the tile with its margins, zeroed outside the sequence (`j` is the tile's number). -/
def hidden (j : ℕ) (sh sc : Vec F S1x1x1024 .f32) (p : Vec F S1x16x1024 .f32) (x : Vec F S1x1024x1024 .f32) (n : Vec F S1x16x1024 .f32)
    (g : Vec F S1x1024 .f32) : FVec F S1040x1024 .bf16 :=
  k0_pay4 (BitVec.ofNat 32 j) (k0_pay3 sh sc p x n g) (iota .tc S1040x1 32 [0] (by decide)) (Scalar.cmpi .eq (BitVec.ofNat 32 j) 0#32) 1#32

theorem inbS (s p : ℕ) (hs : s < 2) (hp : p < 3) : ∀ a, ![s, p, 0, 0] a + S1x1x1040x256.size a ≤ S2x3x1040x256.size a := by
  intro a; fin_cases a <;> simp [S1x1x1040x256, S2x3x1040x256] <;> omega

theorem inbO (n : ℕ) (hn : n < 4) : ∀ a, ![0, 0, 256 * n] a + S1x1024x256.size a ≤ S1x1024x1024.size a := by
  intro a; fin_cases a <;> simp [S1x1024x256, S1x1024x1024] <;> omega

theorem inbP (n : ℕ) (hn : n < 12) : ∀ a, ![0, 1024 * (n % 3) + 256 * (n / 3)] a + S1024x256.size a ≤ S1024x3072.size a := by
  intro a; fin_cases a <;> simp [S1024x256, S1024x3072] <;> omega

theorem inbW (k n : ℕ) (hk : k < 3) (hn : n < 12) : ∀ a, ![k, 1024 * (n % 3) + 256 * (n / 3)] a + S1x256.size a ≤ S3x3072.size a := by
  intro a; fin_cases a <;> simp [S1x256, S3x3072] <;> omega

theorem inbC (n : ℕ) (hn : n < 12) : ∀ a, ![0, 1024 * (n % 3) + 256 * (n / 3)] a + S1x256.size a ≤ S1x3072.size a := by
  intro a; fin_cases a <;> simp [S1x256, S1x3072] <;> omega

/-- The store of unit `n`'s product into its place of the scratch. -/
def unitStore (n : ℕ) (h : FVec F S1040x1024 .bf16) (w : Vec F S1024x256 .bf16) : View.Piece (Elt F) S2x3x1040x256 .f32 :=
  ⟨Rect.unit ![(n / 3) % 2, n % 3, 0, 0] S1x1x1040x256.size (inbS _ _ (Nat.mod_lt _ (by omega)) (Nat.mod_lt _ (by omega))), k0_pay17 h w⟩

/-- The stores of the first `n` units, the last first. -/
def unitStores (h : FVec F S1040x1024 .bf16) (w : (n : ℕ) → n < 12 → Vec F S1024x256 .bf16) : (n : ℕ) → n ≤ 12 → List (View.Piece (Elt F) S2x3x1040x256 .f32)
  | 0, _ => []
  | n + 1, hn => unitStore n h (w n (by omega)) :: unitStores h w n (by omega)

/-- The stores before unit `n` is read: the next unit's product, if there is one, is already made. -/
def storesBefore (h : FVec F S1040x1024 .bf16) (w : (n : ℕ) → n < 12 → Vec F S1024x256 .bf16) (n : ℕ) (hn : n < 12) :
    List (View.Piece (Elt F) S2x3x1040x256 .f32) :=
  if hm : n + 2 ≤ 12 then unitStores h w (n + 2) hm else unitStores h w (n + 1) hn

/-- Unit `n`'s product, read back. -/
def unit (z : Memref sig .tc .vmem S2x3x1040x256 .f32) (h : FVec F S1040x1024 .bf16) (w : (n : ℕ) → n < 12 → Vec F S1024x256 .bf16)
    (n : ℕ) (hn : n < 12) : Vec F S1x1x1040x256 .f32 :=
  z.view.readCov (storesBefore h w n hn) (Rect.unit (s := S2x3x1040x256) ![(n / 3) % 2, n % 3, 0, 0] S1x1x1040x256.size
    (inbS _ _ (Nat.mod_lt _ (by omega)) (Nat.mod_lt _ (by omega)))).toLoadRect

/-- The convolution of unit `n` with its biases. -/
def conv (z : Memref sig .tc .vmem S2x3x1040x256 .f32) (j : ℕ) (h : FVec F S1040x1024 .bf16) (w : (n : ℕ) → n < 12 → Vec F S1024x256 .bf16)
    (b : (n : ℕ) → n < 12 → Vec F S1x256 .f32) (cw : (k n : ℕ) → k < 3 → n < 12 → Vec F S1x256 .f32) (cb : (n : ℕ) → n < 12 → Vec F S1x256 .f32)
    (n : ℕ) (hn : n < 12) : FVec F S1024x256 .f32 :=
  k0_pay33 (k0_pay5 (BitVec.ofNat 32 j)) (k0_pay6 (BitVec.ofNat 32 j)) (cw 0 n (by omega) hn) (cw 1 n (by omega) hn) (cw 2 n (by omega) hn) (b n hn)
    (unit z h w n hn) (cb n hn)

/-- A column block of the first result. -/
def product (v x2 : FVec F S1024x256 .f32) : FVec F S1x1024x256 .bf16 :=
  shapeCast S1x1024x256 (truncf .bf16 (mulf v x2) bitsLt_bf16_f32) shapeCasts_S1024x256_S1x1024x256

/-- The stores of the first `n` column blocks `f` of a result, the last first. -/
def colStores (f : (n : ℕ) → n < 4 → FVec F S1x1024x256 .bf16) : (n : ℕ) → n ≤ 4 → List (View.Piece (Elt F) S1x1024x1024 .bf16)
  | 0, _ => []
  | n + 1, hn => ⟨Rect.unit ![0, 0, 256 * n] S1x1024x256.size (inbO n (by omega)), f n (by omega)⟩ :: colStores f n (by omega)

/-- The stores of the first result. -/
def vvStores (z : Memref sig .tc .vmem S2x3x1040x256 .f32) (j : ℕ) (h : FVec F S1040x1024 .bf16) (w : (n : ℕ) → n < 12 → Vec F S1024x256 .bf16)
    (b : (n : ℕ) → n < 12 → Vec F S1x256 .f32) (cw : (k n : ℕ) → k < 3 → n < 12 → Vec F S1x256 .f32) (cb : (n : ℕ) → n < 12 → Vec F S1x256 .f32) :
    List (View.Piece (Elt F) S1x1024x1024 .bf16) :=
  colStores (fun n hn => product (conv z j h w b cw cb (3 * n + 2) (by omega)) (conv z j h w b cw cb (3 * n + 1) (by omega))) 4 (by omega)

/-- The stores of the second result. -/
def x1Stores (z : Memref sig .tc .vmem S2x3x1040x256 .f32) (j : ℕ) (h : FVec F S1040x1024 .bf16) (w : (n : ℕ) → n < 12 → Vec F S1024x256 .bf16)
    (b : (n : ℕ) → n < 12 → Vec F S1x256 .f32) (cw : (k n : ℕ) → k < 3 → n < 12 → Vec F S1x256 .f32) (cb : (n : ℕ) → n < 12 → Vec F S1x256 .f32) :
    List (View.Piece (Elt F) S1x1024x1024 .bf16) :=
  colStores (fun n hn => k0_pay2 (conv z j h w b cw cb (3 * n) (by omega))) 4 (by omega)

section

variable (c : Dev nD) (i : grid0.Coords) (arg2 : Memref sig .tc .vmem S1x16x1024 .f32) (h2 : arg2.IsWhole) (arg3 : Memref sig .tc .vmem S1x1024x1024 .f32) (h3 : arg3.IsWhole) (arg4 : Memref sig .tc .vmem S1x16x1024 .f32) (h4 : arg4.IsWhole) (arg5 : Memref sig .tc .vmem S1x2x1024 .f32) (h5 : arg5.IsWhole) (arg6 : Memref sig .tc .vmem S1x1024 .f32) (h6 : arg6.IsWhole) (arg7 : Memref sig .tc .vmem S1024x3072 .bf16) (h7 : arg7.IsWhole) (arg8 : Memref sig .tc .vmem S1x3072 .f32) (h8 : arg8.IsWhole) (arg9 : Memref sig .tc .vmem S3x3072 .f32) (h9 : arg9.IsWhole) (arg10 : Memref sig .tc .vmem S1x3072 .f32) (h10 : arg10.IsWhole) (arg11 : Memref sig .tc .vmem S1x1024x1024 .bf16) (h11 : arg11.IsWhole) (arg12 : Memref sig .tc .vmem S1x1024x1024 .bf16) (h12 : arg12.IsWhole) (arg13 : Memref sig .tc .vmem S2x3x1040x256 .f32) (h13 : arg13.IsWhole)
  (x0 : Vec F S1x16x1024 .f32) (x1 : Vec F S1x1024x1024 .f32) (x2 : Vec F S1x16x1024 .f32) (x3 : Vec F S1x2x1024 .f32) (x4 : Vec F S1x1024 .f32) (x5 : Vec F S1024x3072 .bf16) (x6 : Vec F S1x3072 .f32) (x7 : Vec F S3x3072 .f32) (x8 : Vec F S1x3072 .f32)

/-- The tile's rows, from what the point's buffers hold. -/
def hiddenOf : FVec F S1040x1024 .bf16 :=
  hidden (i 1).val
    (View.readAt (Elt F) arg5.view (Rect.unit (s := S1x2x1024) ![0, 0, 0] S1x1x1024.size (by decide)).toLoadRect (h5.unread x3)) (View.readAt (Elt F) arg5.view (Rect.unit (s := S1x2x1024) ![0, 1, 0] S1x1x1024.size (by decide)).toLoadRect (h5.unread x3))
    (View.readAt (Elt F) arg2.view (Rect.unit (s := S1x16x1024) ![0, 0, 0] S1x16x1024.size (by decide)).toLoadRect (h2.unread x0)) (View.readAt (Elt F) arg3.view (Rect.unit (s := S1x1024x1024) ![0, 0, 0] S1x1024x1024.size (by decide)).toLoadRect (h3.unread x1)) (View.readAt (Elt F) arg4.view (Rect.unit (s := S1x16x1024) ![0, 0, 0] S1x16x1024.size (by decide)).toLoadRect (h4.unread x2))
    (View.readAt (Elt F) arg6.view (Rect.unit (s := S1x1024) ![0, 0] S1x1024.size (by decide)).toLoadRect (h6.unread x4))

set_option maxHeartbeats 2000000 in
/-- The stores into the first result that the run of the body found are these. -/
theorem stores_vv :
    (kernelRun0_A c i arg2 h2 arg3 h3 arg4 h4 arg5 h5 arg6 h6 arg7 h7 arg8 h8 arg9 h9 arg10 h10 arg11 h11 arg12 h12 arg13 h13 x0 x1 x2 x3 x4 x5 x6 x7 x8).1 =
      vvStores arg13 (i 1).val (hiddenOf i arg2 h2 arg3 h3 arg4 h4 arg5 h5 arg6 h6 x0 x1 x2 x3 x4)
        (fun n hn => View.readAt (Elt F) arg7.view (Rect.unit (s := S1024x3072) ![0, 1024 * (n % 3) + 256 * (n / 3)] S1024x256.size (inbP n hn)).toLoadRect (h7.unread x5))
        (fun n hn => View.readAt (Elt F) arg8.view (Rect.unit (s := S1x3072) ![0, 1024 * (n % 3) + 256 * (n / 3)] S1x256.size (inbC n hn)).toLoadRect (h8.unread x6))
        (fun k n hk hn => View.readAt (Elt F) arg9.view (Rect.unit (s := S3x3072) ![k, 1024 * (n % 3) + 256 * (n / 3)] S1x256.size (inbW k n hk hn)).toLoadRect (h9.unread x7))
        (fun n hn => View.readAt (Elt F) arg10.view (Rect.unit (s := S1x3072) ![0, 1024 * (n % 3) + 256 * (n / 3)] S1x256.size (inbC n hn)).toLoadRect (h10.unread x8)) :=
  rfl

set_option maxHeartbeats 2000000 in
/-- The stores into the second result that the run of the body found are these. -/
theorem stores_x1 :
    (kernelRun0_A c i arg2 h2 arg3 h3 arg4 h4 arg5 h5 arg6 h6 arg7 h7 arg8 h8 arg9 h9 arg10 h10 arg11 h11 arg12 h12 arg13 h13 x0 x1 x2 x3 x4 x5 x6 x7 x8).2.1 =
      x1Stores arg13 (i 1).val (hiddenOf i arg2 h2 arg3 h3 arg4 h4 arg5 h5 arg6 h6 x0 x1 x2 x3 x4)
        (fun n hn => View.readAt (Elt F) arg7.view (Rect.unit (s := S1024x3072) ![0, 1024 * (n % 3) + 256 * (n / 3)] S1024x256.size (inbP n hn)).toLoadRect (h7.unread x5))
        (fun n hn => View.readAt (Elt F) arg8.view (Rect.unit (s := S1x3072) ![0, 1024 * (n % 3) + 256 * (n / 3)] S1x256.size (inbC n hn)).toLoadRect (h8.unread x6))
        (fun k n hk hn => View.readAt (Elt F) arg9.view (Rect.unit (s := S3x3072) ![k, 1024 * (n % 3) + 256 * (n / 3)] S1x256.size (inbW k n hk hn)).toLoadRect (h9.unread x7))
        (fun n hn => View.readAt (Elt F) arg10.view (Rect.unit (s := S1x3072) ![0, 1024 * (n % 3) + 256 * (n / 3)] S1x256.size (inbC n hn)).toLoadRect (h10.unread x8)) :=
  rfl

end

end Cert.Kernel3Ideal.Block

end
-- ==== Proof.HyMath.lean ====
/- The Hyena mixer's input projection over the extended reals, row by row: the normalised and modulated row, its product
   with the projection and a bias, three taps along the sequence, and the product of two of the three thirds.

   The launch adds the bias after the taps: `late` is its form of a convolved element, which keeps the bias apart from
   the products and takes off what it would have added from the rows before and after the sequence. -/
module

public import proofs.«01_k».proof.Proof.FfnMath

@[expose] public section

noncomputable section

namespace Cert.Hy

open Idealize.ShloMosaic

/-- What the projection is given for one sequence. -/
structure Data where
  x : Fin 2048 → Fin 1024 → EReal
  md : Fin 2 → Fin 1024 → EReal
  g : Fin 1024 → EReal
  w : Fin 1024 → Fin 3072 → EReal
  b : Fin 3072 → EReal
  cw : Fin 3 → Fin 3072 → EReal
  cb : Fin 3072 → EReal

/-- The projection's bias and the taps are real numbers. -/
structure Data.Finite (d : Data) : Prop where
  b : ∀ q, d.b q ≠ ⊤ ∧ d.b q ≠ ⊥
  cw : ∀ i q, d.cw i q ≠ ⊤ ∧ d.cw i q ≠ ⊥

variable (d : Data)

/-- The normalised and modulated row at position `s`. -/
def hidAt (s : Fin 2048) : Fin 1024 → EReal := Ffn.hid d.g (d.md 1) (d.md 0) (d.x s)

/-- The projected rows with their bias, padded by one row of zeros at either end: row `s` belongs to position `s - 1`. -/
def padded (s : ℕ) (q : Fin 3072) : EReal :=
  if h : 1 ≤ s ∧ s - 1 < 2048 then ∑ k, hidAt d ⟨s - 1, h.2⟩ k * d.w k q + d.b q else 0

/-- The padded rows without the bias. -/
def bare (s : ℕ) (q : Fin 3072) : EReal :=
  if h : 1 ≤ s ∧ s - 1 < 2048 then ∑ k, hidAt d ⟨s - 1, h.2⟩ k * d.w k q else 0

/-- The convolved row. -/
def convAt (s : Fin 2048) (q : Fin 3072) : EReal :=
  Ffn.taps (d.cw 0 q) (d.cw 1 q) (d.cw 2 q) (d.cb q) (padded d s q) (padded d (1 + s) q) (padded d (2 + s) q)

/-- The first result: the third third times the second. -/
def vvAt (s : Fin 2048) (k : Fin 1024) : EReal := convAt d s ⟨2048 + k, by omega⟩ * convAt d s ⟨1024 + k, by omega⟩

/-- The second result: the first third. -/
def x1At (s : Fin 2048) (k : Fin 1024) : EReal := convAt d s ⟨k, by omega⟩

/-- Three taps of rows without their bias, with the bias added afterwards. -/
def late (w0 w1 w2 b cb z0 z1 z2 : EReal) : EReal := z0 * w0 + z1 * w1 + z2 * w2 + (cb + b * (w0 + w1 + w2))

/-- A real factor distributes over the sum of anything and a real. -/
theorem add_mul_real (z : EReal) (b w : ℝ) : (z + b) * w = z * w + ((b * w : ℝ) : EReal) := by
  induction z with
  | bot =>
    rcases lt_trichotomy w 0 with h | h | h
    · rw [EReal.bot_add, EReal.bot_mul_coe_of_neg h, EReal.top_add_coe]
    · subst h; simp
    · rw [EReal.bot_add, EReal.bot_mul_coe_of_pos h, EReal.bot_add]
  | top =>
    rcases lt_trichotomy w 0 with h | h | h
    · rw [EReal.top_add_coe, EReal.top_mul_coe_of_neg h, EReal.bot_add]
    · subst h; simp
    · rw [EReal.top_add_coe, EReal.top_mul_coe_of_pos h, EReal.top_add_coe]
  | coe a =>
    rw [← EReal.coe_add, ← EReal.coe_mul, ← EReal.coe_mul, ← EReal.coe_add, add_mul]

section

variable (w0 w1 w2 b : ℝ) (cb z0 z1 z2 : EReal)

theorem bias_split : (b : EReal) * ((w0 : EReal) + w1 + w2) = ((b * w0 : ℝ) : EReal) + ((b * w1 : ℝ) : EReal) + ((b * w2 : ℝ) : EReal) := by
  rw [← EReal.coe_add, ← EReal.coe_add, ← EReal.coe_mul, ← EReal.coe_add, ← EReal.coe_add]
  congr 1
  ring

theorem late_inner : late w0 w1 w2 b cb z0 z1 z2 = Ffn.taps w0 w1 w2 cb (z0 + b) (z1 + b) (z2 + b) := by
  unfold late Ffn.taps
  rw [bias_split, add_mul_real, add_mul_real, add_mul_real]
  ac_rfl

theorem real_cancel (r : ℝ) : (r : EReal) + -(r : EReal) = 0 := by
  rw [← EReal.coe_neg, ← EReal.coe_add, add_neg_cancel, EReal.coe_zero]

theorem late_first : late w0 w1 w2 b cb 0 z1 z2 - 1 * ((b : EReal) * w0) = Ffn.taps w0 w1 w2 cb 0 (z1 + b) (z2 + b) := by
  unfold late Ffn.taps
  rw [bias_split, add_mul_real, add_mul_real, one_mul, zero_mul, zero_add, zero_add, ← EReal.coe_mul, sub_eq_add_neg]
  have e : z1 * w1 + z2 * w2 + (cb + (((b * w0 : ℝ) : EReal) + ((b * w1 : ℝ) : EReal) + ((b * w2 : ℝ) : EReal))) + -((b * w0 : ℝ) : EReal)
      = z1 * w1 + ((b * w1 : ℝ) : EReal) + (z2 * w2 + ((b * w2 : ℝ) : EReal)) + cb + (((b * w0 : ℝ) : EReal) + -((b * w0 : ℝ) : EReal)) := by ac_rfl
  rw [e, real_cancel, add_zero]

theorem late_last : late w0 w1 w2 b cb z0 z1 0 - 1 * ((b : EReal) * w2) = Ffn.taps w0 w1 w2 cb (z0 + b) (z1 + b) 0 := by
  unfold late Ffn.taps
  rw [bias_split, add_mul_real, add_mul_real, one_mul, zero_mul, add_zero, add_zero, ← EReal.coe_mul, sub_eq_add_neg]
  have e : z0 * w0 + z1 * w1 + (cb + (((b * w0 : ℝ) : EReal) + ((b * w1 : ℝ) : EReal) + ((b * w2 : ℝ) : EReal))) + -((b * w2 : ℝ) : EReal)
      = z0 * w0 + ((b * w0 : ℝ) : EReal) + (z1 * w1 + ((b * w1 : ℝ) : EReal)) + cb + (((b * w2 : ℝ) : EReal) + -((b * w2 : ℝ) : EReal)) := by ac_rfl
  rw [e, real_cancel, add_zero]

end

/-- The launch's form of the convolved element at position `s`. -/
def lateAt (s : Fin 2048) (q : Fin 3072) : EReal :=
  late (d.cw 0 q) (d.cw 1 q) (d.cw 2 q) (d.b q) (d.cb q) (bare d s q) (bare d (1 + s) q) (bare d (2 + s) q)

theorem padded_inner (s : ℕ) (h : 1 ≤ s ∧ s - 1 < 2048) (q : Fin 3072) : padded d s q = bare d s q + d.b q := by
  unfold padded bare
  rw [dif_pos h, dif_pos h]

theorem padded_outer (s : ℕ) (h : ¬(1 ≤ s ∧ s - 1 < 2048)) (q : Fin 3072) : padded d s q = 0 ∧ bare d s q = 0 := by
  unfold padded bare
  rw [dif_neg h, dif_neg h]
  exact ⟨rfl, rfl⟩

variable {d}

/-- With a finite bias and finite taps the bias may be added late: before position 0 and after position 2047 there is
    none, so it is taken off there. -/
theorem convAt_eq (hd : d.Finite) (s : Fin 2048) (q : Fin 3072) :
    convAt d s q = if s.val = 0 then lateAt d s q - 1 * (d.b q * d.cw 0 q)
      else if s.val = 2047 then lateAt d s q - 1 * (d.b q * d.cw 2 q) else lateAt d s q := by
  unfold convAt lateAt
  have hb := hd.b q
  have h0 := hd.cw 0 q; have h1 := hd.cw 1 q; have h2 := hd.cw 2 q
  rw [padded_inner d (1 + s) (by omega)]
  rw [← EReal.coe_toReal hb.1 hb.2, ← EReal.coe_toReal h0.1 h0.2, ← EReal.coe_toReal h1.1 h1.2, ← EReal.coe_toReal h2.1 h2.2]
  split
  · rw [padded_inner d (2 + s) (by omega), (padded_outer d s (by omega) q).1, (padded_outer d s (by omega) q).2,
      ← EReal.coe_toReal hb.1 hb.2, EReal.toReal_coe, late_first]
  · split
    · rw [padded_inner d s (by omega), (padded_outer d (2 + s) (by omega) q).1, (padded_outer d (2 + s) (by omega) q).2,
        ← EReal.coe_toReal hb.1 hb.2, EReal.toReal_coe, late_last]
    · rw [padded_inner d s (by omega), padded_inner d (2 + s) (by omega), ← EReal.coe_toReal hb.1 hb.2, EReal.toReal_coe, late_inner]

end Cert.Hy

end
-- ==== Proof.HyPoint.lean ====
/- The column blocks of the Hyena input launch at an index: what the scratch holds where it is read, the convolution of
   one block in the launch's form, and the two results' tiles by rows of the reference's mathematics. -/
module

public import proofs.«01_k».proof.Proof.HyStores
public import proofs.«01_k».proof.Proof.HyMath
public import Idealize.ShloMosaic.Lib.Pointwise
public import Idealize.ShloMosaic.Lib.Pipeline.ReadBack

@[expose] public section

set_option maxRecDepth 16384

noncomputable section

namespace Cert.Kernel3Ideal.Block

open Cert.Kernel3Ideal Cert.Kernel3Ideal.Gen Idealize.ShloMosaic Idealize.ShloMosaic.TcCoe Idealize.SL.Sem

/-! ## The scratch -/

/-- The tile's rows times a column block of the projection. -/
def prod (h : FVec Ideal S1040x1024 .bf16) (w : Vec Ideal S1024x256 .bf16) (r : Fin 1040) (q : Fin 256) : EReal :=
  ∑ k, h (ix2 r k) * w (ix2 k q)

theorem product_at (h : FVec Ideal S1040x1024 .bf16) (w : Vec Ideal S1024x256 .bf16) (a b : Fin 1) (r : Fin 1040) (q : Fin 256) :
    k0_pay17 (F := Ideal) h w (ix4 a b r q) = prod h w r q := by
  unfold prod
  unfold_payloads
  pointwise []

variable (h : FVec Ideal S1040x1024 .bf16) (w : (n : ℕ) → n < 12 → Vec Ideal S1024x256 .bf16)

theorem unitStore_mem (n : ℕ) (v : Vec Ideal S1024x256 .bf16) (y : S2x3x1040x256.Idx) :
    y ∈ (unitStore n h v).1.set ↔ (y 0 : ℕ) = n / 3 % 2 ∧ (y 1 : ℕ) = n % 3 := by
  unfold unitStore
  rw [Rect.mem_set_unit]
  constructor
  · intro hm
    have h0 := hm 0; have h1 := hm 1
    change n / 3 % 2 ≤ (y 0 : ℕ) ∧ (y 0 : ℕ) < n / 3 % 2 + 1 at h0
    change n % 3 ≤ (y 1 : ℕ) ∧ (y 1 : ℕ) < n % 3 + 1 at h1
    omega
  · rintro ⟨h0, h1⟩ a
    have h2 : (y 2 : ℕ) < 1040 := (y 2).isLt
    have h3 : (y 3 : ℕ) < 256 := (y 3).isLt
    match a with
    | 0 => change n / 3 % 2 ≤ (y 0 : ℕ) ∧ (y 0 : ℕ) < n / 3 % 2 + 1; omega
    | 1 => change n % 3 ≤ (y 1 : ℕ) ∧ (y 1 : ℕ) < n % 3 + 1; omega
    | 2 => change 0 ≤ (y 2 : ℕ) ∧ (y 2 : ℕ) < 0 + 1040; omega
    | 3 => change 0 ≤ (y 3 : ℕ) ∧ (y 3 : ℕ) < 0 + 256; omega

theorem unitStore_eq (n : ℕ) (v : Vec Ideal S1024x256 .bf16) (x : (unitStore n h v).1.shape.Idx) :
    (unitStore n h v).2 x = prod h v ((unitStore n h v).1.emb x 2) ((unitStore n h v).1.emb x 3) := by
  have e0 : ∀ a, ((unitStore n h v).1.emb x a : ℕ) = ![n / 3 % 2, n % 3, 0, 0] a + x a := fun a =>
    Rect.idx_unit_val _ _ (inbS _ _ (Nat.mod_lt _ (by omega)) (Nat.mod_lt _ (by omega))) x a
  generalize (unitStore n h v).1.emb x = y at e0
  change S1x1x1040x256.Idx at x
  change k0_pay17 h v x = _
  idx_vars x
  have e2 : (y 2 : ℕ) = 0 + x2.val := e0 2
  have e3 : (y 3 : ℕ) = 0 + x3.val := e0 3
  have h2 : y 2 = x2 := Fin.ext (by simpa using e2)
  have h3 : y 3 = x3 := Fin.ext (by simpa using e3)
  rw [product_at, h2, h3]

/-- After unit `n` is stored, its place holds its product. -/
theorem canon_unitStores (n : ℕ) (hn : n < 12) (y : S2x3x1040x256.Idx) (h0 : (y 0 : ℕ) = n / 3 % 2) (h1 : (y 1 : ℕ) = n % 3) :
    View.canon (Val := Elt Ideal) (unitStores h w (n + 1) hn) y = prod h (w n hn) (y 2) (y 3) := by
  rw [unitStores]
  exact View.canon_append_of_piecesOf (fun y : S2x3x1040x256.Idx => prod h (w n hn) (y 2) (y 3)) (unitStores h w n (by omega)) [unitStore n h (w n hn)]
    ⟨unitStore_eq h n (w n hn), trivial⟩ y ⟨_, List.mem_singleton.mpr rfl, (unitStore_mem h n _ y).mpr ⟨h0, h1⟩⟩

/-- The next unit goes elsewhere. -/
theorem canon_storesBefore (n : ℕ) (hn : n < 12) (y : S2x3x1040x256.Idx) (h0 : (y 0 : ℕ) = n / 3 % 2) (h1 : (y 1 : ℕ) = n % 3) :
    View.canon (Val := Elt Ideal) (storesBefore h w n hn) y = prod h (w n hn) (y 2) (y 3) := by
  unfold storesBefore
  split
  · rw [unitStores, View.canon_cons_of_not_mem _ _ (by rw [unitStore_mem]; omega)]
    exact canon_unitStores h w n hn y h0 h1
  · exact canon_unitStores h w n hn y h0 h1

theorem unit_at (z : Memref sig .tc .vmem S2x3x1040x256 .f32) (n : ℕ) (hn : n < 12) (a b : Fin 1) (r : Fin 1040) (q : Fin 256) :
    unit z h w n hn (ix4 a b r q) = prod h (w n hn) r q := by
  unfold unit
  rw [View.readCov_eq_canon']
  beta_reduce
  have e0 : ∀ c, ((Rect.unit (s := S2x3x1040x256) ![n / 3 % 2, n % 3, 0, 0] S1x1x1040x256.size
      (inbS _ _ (Nat.mod_lt _ (by omega)) (Nat.mod_lt _ (by omega)))).idx (ix4 a b r q) c : ℕ)
      = ![n / 3 % 2, n % 3, 0, 0] c + (ix4 a b r q : S1x1x1040x256.Idx) c := fun c => Rect.idx_unit_val _ _ _ _ c
  generalize (Rect.unit (s := S2x3x1040x256) ![n / 3 % 2, n % 3, 0, 0] S1x1x1040x256.size
      (inbS _ _ (Nat.mod_lt _ (by omega)) (Nat.mod_lt _ (by omega)))).idx (ix4 a b r q) = y at e0
  have e1 : (y 0 : ℕ) = n / 3 % 2 + a.val := e0 0
  have e2 : (y 1 : ℕ) = n % 3 + b.val := e0 1
  have e3 : (y 2 : ℕ) = 0 + r.val := e0 2
  have e4 : (y 3 : ℕ) = 0 + q.val := e0 3
  rw [canon_storesBefore h w n hn y (by omega) (by omega)]
  have h2 : y 2 = r := Fin.ext (by simpa using e3)
  have h3 : y 3 = q := Fin.ext (by simpa using e4)
  rw [h2, h3]

/-! ## One block's convolution -/

theorem edge_bit : ∀ (j : Fin 2) (r : Fin 8),
    (((IntOp.andi (Scalar.cmpi .eq (BitVec.ofNat 32 j) 0#32) (IntOp.cmpi .eq (BitVec.ofNat 32 r) 0#32) : BitVec 1).setWidth 32)
        = if j.val = 0 ∧ r.val = 0 then 1#32 else 0#32)
    ∧ (((IntOp.andi (Scalar.cmpi .eq (BitVec.ofNat 32 j) 1#32) (IntOp.cmpi .eq (BitVec.ofNat 32 r) 7#32) : BitVec 1).setWidth 32)
        = if j.val = 1 ∧ r.val = 7 then 1#32 else 0#32) := by
  decide +kernel

theorem sitofp_bit (p : Prop) [Decidable p] : FloatOps.sitofp (F := Ideal) FTy.f32 (if p then 1#32 else 0#32) = if p then (1 : EReal) else 0 := by
  split <;> simp [FloatOps.sitofp]

theorem first_at (j : ℕ) (hj : j < 2) (r : Fin 8) (o : Fin 1) :
    k0_pay5 (F := Ideal) (BitVec.ofNat 32 j) (ix2 r o) = if j = 0 ∧ r.val = 0 then (1 : EReal) else 0 := by
  unfold_payloads
  pointwise []
  exact (congrArg (FloatOps.sitofp (F := Ideal) FTy.f32) (edge_bit ⟨j, hj⟩ r).1).trans (sitofp_bit _)

theorem last_at (j : ℕ) (hj : j < 2) (r : Fin 8) (o : Fin 1) :
    k0_pay6 (F := Ideal) (BitVec.ofNat 32 j) (ix2 r o) = if j = 1 ∧ r.val = 7 then (1 : EReal) else 0 := by
  unfold_payloads
  pointwise []
  exact (congrArg (FloatOps.sitofp (F := Ideal) FTy.f32) (edge_bit ⟨j, hj⟩ r).2).trans (sitofp_bit _)

theorem taps_at (e0 e7 : FVec Ideal S8x1 .f32) (w0 w1 w2 b : Vec Ideal S1x256 .f32) (z : Vec Ideal S1x1x1040x256 .f32) (cb : Vec Ideal S1x256 .f32)
    (r : Fin 1024) (q : Fin 256) (L : EReal)
    (hL : L = Hy.late (w0 (ix2 0 q)) (w1 (ix2 0 q)) (w2 (ix2 0 q)) (b (ix2 0 q)) (cb (ix2 0 q))
      (z (ix4 0 0 ⟨7 + r, by omega⟩ q)) (z (ix4 0 0 ⟨8 + r, by omega⟩ q)) (z (ix4 0 0 ⟨9 + r, by omega⟩ q))) :
    k0_pay33 (F := Ideal) e0 e7 w0 w1 w2 b z cb (ix2 r q) =
      if h : r.val < 8 then L - e0 (ix2 ⟨r, h⟩ 0) * (b (ix2 0 q) * w0 (ix2 0 q))
      else if h : r.val < 1016 then L else L - e7 (ix2 ⟨r - 1016, by omega⟩ 0) * (b (ix2 0 q) * w2 (ix2 0 q)) := by
  subst hL
  unfold Hy.late
  unfold_payloads
  pointwise []
  by_cases h8 : r.val < 8
  · simp only [dif_pos h8, show (8 + r.val + 1040 - 1) % 1040 = 7 + r.val by omega, show (8 + r.val + 1040 - 1039) % 1040 = 9 + r.val by omega]
  · by_cases hm : r.val < 1016
    · simp only [dif_neg h8, dif_pos hm, dif_pos (show r.val - 8 < 1008 by omega), show (8 + (8 + (r.val - 8)) + 1040 - 1) % 1040 = 7 + r.val by omega,
        show 8 + (8 + (r.val - 8)) = 8 + r.val by omega, show (8 + (8 + (r.val - 8)) + 1040 - 1039) % 1040 = 9 + r.val by omega,
        show (8 + r.val + 1040 - 1) % 1040 = 7 + r.val by omega, show (8 + r.val + 1040 - 1039) % 1040 = 9 + r.val by omega]
    · simp only [dif_neg h8, dif_neg hm, dif_neg (show ¬ r.val - 8 < 1008 by omega), show 8 + (1016 + (r.val - 8 - 1008)) = 8 + r.val by omega,
        show r.val - 8 - 1008 = r.val - 1016 by omega, show (8 + (1016 + (r.val - 1016)) + 1040 - 1) % 1040 = 7 + r.val by omega,
        show (8 + (1016 + (r.val - 1016)) + 1040 - 1039) % 1040 = 9 + r.val by omega, show 8 + (1016 + (r.val - 1016)) = 8 + r.val by omega]
      simp only [show (8 + r.val + 1040 - 1) % 1040 = 7 + r.val by omega, show (8 + r.val + 1040 - 1039) % 1040 = 9 + r.val by omega]

/-! ## The tile's rows -/

/-- A row of the tile with its margins of eight rows. -/
def tileRow (p : Vec Ideal S1x16x1024 .f32) (x : Vec Ideal S1x1024x1024 .f32) (n : Vec Ideal S1x16x1024 .f32) (r : Fin 1040) (k : Fin 1024) : EReal :=
  if h : r.val < 8 then p (ix3 0 ⟨8 + r, by omega⟩ k) else if h' : r.val - 8 < 1024 then x (ix3 0 ⟨r - 8, h'⟩ k) else n (ix3 0 ⟨r - 8 - 1024, by omega⟩ k)

/-- Whether row `r` of tile `j` lies outside the sequence. -/
def outside (j r : ℕ) : Prop := (j = 0 ∧ r < 8) ∨ (j = 1 ∧ 1032 ≤ r)

instance (j r : ℕ) : Decidable (outside j r) := inferInstanceAs (Decidable (_ ∨ _))

/-- The mask's bit at a row. -/
theorem mask_bit : ∀ (j : Fin 2) (r : Fin 1040),
    (IntOp.xori (IntOp.ori (IntOp.andi (Scalar.cmpi .eq (BitVec.ofNat 32 j) 0#32) (IntOp.cmpi .slt (BitVec.ofNat 32 r) 8#32))
      (IntOp.andi (Scalar.cmpi .eq (BitVec.ofNat 32 j) 1#32) (IntOp.cmpi .sge (BitVec.ofNat 32 r) 1032#32))) 1#1 : BitVec 1)
      = if outside j r then 0#1 else 1#1 := by
  decide +kernel

theorem masked (j r : ℕ) (hj : j < 2) (hr : r < 1040) (x : EReal) :
    Scalar.select (IntOp.xori (IntOp.ori (IntOp.andi (Scalar.cmpi .eq (BitVec.ofNat 32 j) 0#32) (IntOp.cmpi .slt (BitVec.ofNat 32 r) 8#32))
      (IntOp.andi (Scalar.cmpi .eq (BitVec.ofNat 32 j) 1#32) (IntOp.cmpi .sge (BitVec.ofNat 32 r) 1032#32))) 1#1 : BitVec 1) x 0
      = if outside j r then 0 else x := by
  rw [mask_bit ⟨j, hj⟩ ⟨r, hr⟩]
  dsimp only
  split <;> rfl

theorem hidden_at (j : ℕ) (hj : j < 2) (sh sc : Vec Ideal S1x1x1024 .f32) (p : Vec Ideal S1x16x1024 .f32) (x : Vec Ideal S1x1024x1024 .f32)
    (n : Vec Ideal S1x16x1024 .f32) (g : Vec Ideal S1x1024 .f32) (r : Fin 1040) (k : Fin 1024) :
    hidden j sh sc p x n g (ix2 r k) = if outside j r then 0
      else Ffn.hid (fun k => g (ix2 0 k)) (fun k => sc (ix3 0 0 k)) (fun k => sh (ix3 0 0 k)) (tileRow p x n r) k := by
  unfold hidden; unfold_payloads
  pointwise []
  exact masked j r hj r.isLt _

/-! ## The tile of a result -/

/-- The column that unit `n` begins at. -/
theorem col_lt (n : ℕ) (hn : n < 12) (q : Fin 256) : 1024 * (n % 3) + 256 * (n / 3) + q.val < 3072 := by omega

/-- What a grid point's inputs are, in terms of the layer's data `d` and the tile's number `j`. -/
structure Reads (d : Hy.Data) (j : ℕ) (sh sc : Vec Ideal S1x1x1024 .f32) (p : Vec Ideal S1x16x1024 .f32) (x : Vec Ideal S1x1024x1024 .f32)
    (n : Vec Ideal S1x16x1024 .f32) (g : Vec Ideal S1x1024 .f32) (w : (n : ℕ) → n < 12 → Vec Ideal S1024x256 .bf16)
    (b : (n : ℕ) → n < 12 → Vec Ideal S1x256 .f32) (cw : (k n : ℕ) → k < 3 → n < 12 → Vec Ideal S1x256 .f32) (cb : (n : ℕ) → n < 12 → Vec Ideal S1x256 .f32) : Prop where
  lt : j < 2
  sh : ∀ k, sh (ix3 0 0 k) = d.md 0 k
  sc : ∀ k, sc (ix3 0 0 k) = d.md 1 k
  row : ∀ (r : Fin 1040) (s : Fin 2048) (_ : s.val + 8 = 1024 * j + r), tileRow p x n r = d.x s
  g : ∀ k, g (ix2 0 k) = d.g k
  w : ∀ n hn k (q : Fin 256), w n hn (ix2 k q) = d.w k ⟨1024 * (n % 3) + 256 * (n / 3) + q, col_lt n hn q⟩
  b : ∀ n hn (q : Fin 256), b n hn (ix2 0 q) = d.b ⟨1024 * (n % 3) + 256 * (n / 3) + q, col_lt n hn q⟩
  cw : ∀ (k : Fin 3) n hn (q : Fin 256), cw k n k.isLt hn (ix2 0 q) = d.cw k ⟨1024 * (n % 3) + 256 * (n / 3) + q, col_lt n hn q⟩
  cb : ∀ n hn (q : Fin 256), cb n hn (ix2 0 q) = d.cb ⟨1024 * (n % 3) + 256 * (n / 3) + q, col_lt n hn q⟩

section

variable {d : Hy.Data} {j : ℕ} {sh sc : Vec Ideal S1x1x1024 .f32} {p : Vec Ideal S1x16x1024 .f32} {x : Vec Ideal S1x1024x1024 .f32}
  {n : Vec Ideal S1x16x1024 .f32} {g : Vec Ideal S1x1024 .f32} {w : (n : ℕ) → n < 12 → Vec Ideal S1024x256 .bf16}
  {b : (n : ℕ) → n < 12 → Vec Ideal S1x256 .f32} {cw : (k n : ℕ) → k < 3 → n < 12 → Vec Ideal S1x256 .f32} {cb : (n : ℕ) → n < 12 → Vec Ideal S1x256 .f32}
  (R : Reads d j sh sc p x n g w b cw cb) (hd : d.Finite) (z : Memref sig .tc .vmem S2x3x1040x256 .f32)

include R

/-- A row of a unit's product is a row of the padded one. -/
theorem prod_eq (r : Fin 1040) (i : ℕ) (h : i + 7 = 1024 * j + r) (m : ℕ) (hm : m < 12) (q : Fin 256) :
    prod (hidden j sh sc p x n g) (w m hm) r q = Hy.bare d i ⟨1024 * (m % 3) + 256 * (m / 3) + q, col_lt m hm q⟩ := by
  have hj := R.lt
  unfold prod Hy.bare
  simp only [hidden_at _ hj, R.w]
  by_cases ho : outside j r
  · rw [dif_neg (by unfold outside at ho; omega)]
    simp only [if_pos ho, zero_mul, Finset.sum_const_zero]
  · have hs : 1 ≤ i ∧ i - 1 < 2048 := by unfold outside at ho; omega
    rw [dif_pos hs]
    simp only [if_neg ho, R.row r ⟨i - 1, hs.2⟩ (by dsimp only; omega), R.g, R.sc, R.sh]
    rfl

include hd

/-- A unit's convolution is a column block of the reference's. -/
theorem conv_eq (r : Fin 1024) (s : Fin 2048) (h : s.val = 1024 * j + r) (m : ℕ) (hm : m < 12) (q : Fin 256) :
    conv z j (hidden j sh sc p x n g) w b cw cb m hm (ix2 r q) = Hy.convAt d s ⟨1024 * (m % 3) + 256 * (m / 3) + q, col_lt m hm q⟩ := by
  have hj := R.lt
  have c0 := R.cw 0 m hm q
  have c1 := R.cw 1 m hm q
  have c2 := R.cw 2 m hm q
  have hL : Hy.lateAt d s ⟨1024 * (m % 3) + 256 * (m / 3) + q, col_lt m hm q⟩ =
      Hy.late (cw 0 m (by omega) hm (ix2 0 q)) (cw 1 m (by omega) hm (ix2 0 q)) (cw 2 m (by omega) hm (ix2 0 q)) (b m hm (ix2 0 q)) (cb m hm (ix2 0 q))
        (unit z (hidden j sh sc p x n g) w m hm (ix4 0 0 ⟨7 + r, by omega⟩ q)) (unit z (hidden j sh sc p x n g) w m hm (ix4 0 0 ⟨8 + r, by omega⟩ q))
        (unit z (hidden j sh sc p x n g) w m hm (ix4 0 0 ⟨9 + r, by omega⟩ q)) := by
    rw [unit_at, unit_at, unit_at, prod_eq R _ s.val (by dsimp only; omega), prod_eq R _ (1 + s.val) (by dsimp only; omega), prod_eq R _ (2 + s.val) (by dsimp only; omega),
      R.b, R.cb]
    unfold Hy.lateAt
    exact congrArg₂ (fun a b => Hy.late a b _ _ _ _ _ _) c0.symm c1.symm |>.trans (congrArg (fun a => Hy.late _ _ a _ _ _ _ _) c2.symm)
  have e0 : cw 0 m (by omega) hm (ix2 0 q) = d.cw 0 ⟨1024 * (m % 3) + 256 * (m / 3) + q, col_lt m hm q⟩ := c0
  have e2 : cw 2 m (by omega) hm (ix2 0 q) = d.cw 2 ⟨1024 * (m % 3) + 256 * (m / 3) + q, col_lt m hm q⟩ := c2
  rw [conv, taps_at _ _ _ _ _ _ _ _ r q _ hL, Hy.convAt_eq hd, R.b, e0, e2]
  simp only [first_at j hj, last_at j hj]
  by_cases h8 : r.val < 8
  · rw [dif_pos h8]
    by_cases h0 : s.val = 0
    · rw [if_pos h0, if_pos (by omega)]
    · rw [if_neg h0, if_neg (show ¬ s.val = 2047 by omega), if_neg (by omega), zero_mul, sub_zero]
  · rw [dif_neg h8, if_neg (show ¬ s.val = 0 by omega)]
    by_cases hm' : r.val < 1016
    · rw [dif_pos hm', if_neg (show ¬ s.val = 2047 by omega)]
    · rw [dif_neg hm']
      by_cases h0 : s.val = 2047
      · rw [if_pos h0, if_pos (by omega)]
      · rw [if_neg h0, if_neg (by omega), zero_mul, sub_zero]

omit R hd in
/-- Column blocks stored side by side. -/
theorem canon_colStores (f : (n : ℕ) → n < 4 → FVec Ideal S1x1024x256 .bf16) (G : S1x1024x1024.Idx → EReal)
    (hG : ∀ (n : ℕ) (hn : n < 4) (a : Fin 1) (r : Fin 1024) (q : Fin 256), f n hn (ix3 a r q) = G (ix3 0 r ⟨256 * n + q, by omega⟩))
    (n : ℕ) (hn : n ≤ 4) (y : S1x1024x1024.Idx) (hy : (y 2 : ℕ) < 256 * n) :
    View.canon (Val := Elt Ideal) (colStores f n hn) y = G y := by
  induction n with
  | zero => omega
  | succ n ih =>
    by_cases h : (y 2 : ℕ) < 256 * n
    · rw [colStores, View.canon_cons_of_not_mem]
      · exact ih (by omega) h
      · rw [Rect.mem_set_unit]
        intro hm
        have := hm 2
        change 256 * n ≤ (y 2 : ℕ) ∧ _ at this
        omega
    · rw [colStores]
      refine View.canon_append_of_piecesOf G (colStores f n (by omega))
        [⟨Rect.unit ![0, 0, 256 * n] S1x1024x256.size (inbO n (by omega)), f n (by omega)⟩] ⟨fun x => ?_, trivial⟩ y ⟨_, List.mem_singleton.mpr rfl, ?_⟩
      · have e0 : ∀ c, ((Rect.unit (s := S1x1024x1024) ![0, 0, 256 * n] S1x1024x256.size (inbO n (by omega))).emb x c : ℕ) = ![0, 0, 256 * n] c + x c := fun c =>
          Rect.idx_unit_val _ _ _ _ c
        change S1x1024x256.Idx at x
        idx_vars x
        change f n _ (ix3 x0 x1 x2) = _
        rw [hG]
        refine congrArg G (funext fun c => Fin.ext ?_)
        rw [e0]
        match c with
        | 0 => change 0 = 0 + x0.val; omega
        | 1 => exact (Nat.zero_add _).symm
        | 2 => rfl
      · rw [Rect.mem_set_unit]
        have h0 : (y 0 : ℕ) < 1 := (y 0).isLt
        have h1 : (y 1 : ℕ) < 1024 := (y 1).isLt
        intro a
        match a with
        | 0 => change 0 ≤ (y 0 : ℕ) ∧ (y 0 : ℕ) < 0 + 1; omega
        | 1 => change 0 ≤ (y 1 : ℕ) ∧ (y 1 : ℕ) < 0 + 1024; omega
        | 2 => change 256 * n ≤ (y 2 : ℕ) ∧ (y 2 : ℕ) < 256 * n + 256; omega

omit R hd in
theorem gate_at (v x2 : FVec Ideal S1024x256 .f32) (a : Fin 1) (r : Fin 1024) (q : Fin 256) : product v x2 (ix3 a r q) = v (ix2 r q) * x2 (ix2 r q) := by
  pointwise [product]

omit R hd in
theorem first_third_at (v : FVec Ideal S1024x256 .f32) (a : Fin 1) (r : Fin 1024) (q : Fin 256) : k0_pay2 (F := Ideal) v (ix3 a r q) = v (ix2 r q) := by
  unfold_payloads
  pointwise []

/-- The first result's tile: row `r` of tile `j` is position `1024 j + r`. -/
theorem vv_tile (y : S1x1024x1024.Idx) (s : Fin 2048) (h : s.val = 1024 * j + (y 1).val) :
    View.canon (Val := Elt Ideal) (vvStores z j (hidden j sh sc p x n g) w b cw cb) y = Hy.vvAt d s (y 2) := by
  have hj := R.lt
  have hy : (y 1 : ℕ) < 1024 := (y 1).isLt
  have hk : (y 2 : ℕ) < 1024 := (y 2).isLt
  let G : S1x1024x1024.Idx → EReal := fun u => Hy.vvAt d ⟨1024 * j + (u 1 : ℕ), by have : (u 1 : ℕ) < 1024 := (u 1).isLt; omega⟩ (u 2)
  have e : s = ⟨1024 * j + (y 1 : ℕ), by omega⟩ := Fin.ext h
  rw [e]
  refine canon_colStores _ G (fun m hm a r q => ?_) 4 (by omega) y (by omega)
  rw [gate_at, conv_eq R hd z r ⟨1024 * j + r, by omega⟩ rfl, conv_eq R hd z r ⟨1024 * j + r, by omega⟩ rfl]
  change _ = Hy.convAt d _ ⟨2048 + (256 * m + q.val), _⟩ * Hy.convAt d _ ⟨1024 + (256 * m + q.val), _⟩
  simp only [show 1024 * ((3 * m + 2) % 3) + 256 * ((3 * m + 2) / 3) + q.val = 2048 + (256 * m + q.val) by omega,
    show 1024 * ((3 * m + 1) % 3) + 256 * ((3 * m + 1) / 3) + q.val = 1024 + (256 * m + q.val) by omega]
  rfl

/-- The second result's tile. -/
theorem x1_tile (y : S1x1024x1024.Idx) (s : Fin 2048) (h : s.val = 1024 * j + (y 1).val) :
    View.canon (Val := Elt Ideal) (x1Stores z j (hidden j sh sc p x n g) w b cw cb) y = Hy.x1At d s (y 2) := by
  have hj := R.lt
  have hy : (y 1 : ℕ) < 1024 := (y 1).isLt
  have hk : (y 2 : ℕ) < 1024 := (y 2).isLt
  let G : S1x1024x1024.Idx → EReal := fun u => Hy.x1At d ⟨1024 * j + (u 1 : ℕ), by have : (u 1 : ℕ) < 1024 := (u 1).isLt; omega⟩ (u 2)
  have e : s = ⟨1024 * j + (y 1 : ℕ), by omega⟩ := Fin.ext h
  rw [e]
  refine canon_colStores _ G (fun m hm a r q => ?_) 4 (by omega) y (by omega)
  rw [first_third_at, conv_eq R hd z r ⟨1024 * j + r, by omega⟩ rfl]
  change _ = Hy.convAt d _ ⟨256 * m + q.val, _⟩
  simp only [show 1024 * ((3 * m) % 3) + 256 * ((3 * m) / 3) + q.val = 256 * m + q.val by omega]
  rfl

end

end Cert.Kernel3Ideal.Block

end
-- ==== Proof.HyRef.lean ====
/- The input projection's reference, read at an index: its results are `Hy.vvAt` and `Hy.x1At` of the arguments' rows. -/
module

public import proofs.«01_k».proof.Proof.HyMath
public import proofs.«01_k».proof.Proof.Gen.Reference3Ideal.Read

@[expose] public section

set_option maxRecDepth 16384

noncomputable section

namespace Cert.Reference3Ideal.Ref

open Cert.Reference3Ideal Cert.Reference3Ideal.Read Idealize.ShloMosaic

variable (x0 : S8x2048x1024.Idx → EReal) (x1 : S8x2x1024.Idx → EReal) (x2 : S1024.Idx → EReal) (x3 : S1024x3072.Idx → EReal)
  (x4 : S3072.Idx → EReal) (x5 : S3x3072.Idx → EReal) (x6 : S3072.Idx → EReal)

/-- The arguments' rows for sequence `b`. -/
def data (b : Fin 8) : Hy.Data where
  x s k := x0 (ix3 b s k)
  md i k := x1 (ix3 b i k)
  g k := x2 (ix1 k)
  w k q := x3 (ix2 k q)
  b q := x4 (ix1 q)
  cw i q := x5 (ix2 i q)
  cb q := x6 (ix1 q)

theorem v24_at (b : Fin 8) (s : Fin 2048) (k : Fin 1024) :
    val_main_v24 (F := Ideal) x0 x1 x2 (ix3 b s k) = Hy.hidAt (data x0 x1 x2 x3 x4 x5 x6 b) s k := by
  unfold Hy.hidAt Ffn.hid Ffn.norm
  pointwise [val_main_v24, val_main_v23, val_main_v22, val_main_v21, val_main_v20, val_main_v19, val_main_v18, val_main_v17, val_main_v16, val_main_cst_2, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0, data]

theorem v29_at (b : Fin 8) (s : Fin 2050) (q : Fin 3072) :
    val_main_v29 (F := Ideal) x0 x1 x2 x3 x4 (ix3 b s q) = Hy.padded (data x0 x1 x2 x3 x4 x5 x6 b) s q := by
  unfold Hy.padded
  simp only [← v24_at x0 x1 x2 x3 x4 x5 x6]
  pointwise [val_main_v29, val_main_v28, val_main_v27, val_main_v26, val_main_v25, val_main_call0_v0, val_main_c, data]
  have e : FloatOps.sitofp (F := Ideal) FTy.f32 (0#32) = (0 : EReal) := by simp [FloatOps.sitofp]
  rw [e]

theorem v52_at (b : Fin 8) (s : Fin 2048) (q : Fin 3072) :
    val_main_v52 (F := Ideal) x0 x1 x2 x3 x4 x5 x6 (ix3 b s q) = Hy.convAt (data x0 x1 x2 x3 x4 x5 x6 b) s q := by
  unfold Hy.convAt Ffn.taps
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30]
  simp only [v29_at x0 x1 x2 x3 x4 x5 x6]
  rfl

theorem v57_at (b : Fin 8) (s : Fin 2048) (k : Fin 1024) :
    val_main_v57 (F := Ideal) x0 x1 x2 x3 x4 x5 x6 (ix3 b s k) = Hy.vvAt (data x0 x1 x2 x3 x4 x5 x6 b) s k := by
  unfold Hy.vvAt
  simp only [← v52_at x0 x1 x2 x3 x4 x5 x6]
  pointwise [val_main_v57, val_main_v56, val_main_v55, val_main_v54]

theorem v58_at (b : Fin 8) (s : Fin 2048) (k : Fin 1024) :
    val_main_v58 (F := Ideal) x0 x1 x2 x3 x4 x5 x6 (ix3 b s k) = Hy.x1At (data x0 x1 x2 x3 x4 x5 x6 b) s k := by
  unfold Hy.x1At
  simp only [← v52_at x0 x1 x2 x3 x4 x5 x6]
  pointwise [val_main_v58, val_main_v53]

end Cert.Reference3Ideal.Ref

end
-- ==== Proof.HyArray.lean ====
/- The arrays the launch leaves: the layer's two results at every position of every sequence. -/
module

public import proofs.«01_k».proof.Proof.HyPoint
public import proofs.«01_k».proof.Proof.HyRef
public import proofs.«01_k».proof.Proof.Gen.Kernel3Ideal.Value

@[expose] public section

set_option maxRecDepth 16384

noncomputable section

namespace Cert.Kernel3Ideal.Block

open Cert.Kernel3Ideal Cert.Kernel3Ideal.Gen Idealize.ShloMosaic Idealize.ShloMosaic.TcCoe Idealize.SL.Sem

variable (m : (ℓ : Loc nD τ sig) → Buf (Elt Ideal) ℓ) (c : Dev nD) (t : Fin cfg0.N)

theorem idx : ∀ t : Fin grid0.N,
    win0_0.index t = ![(grid0.coords t 0).val, 64 * (grid0.coords t 1).val - 1, 0] ∧ win0_1.index t = ![(grid0.coords t 0).val, (grid0.coords t 1).val, 0]
    ∧ win0_2.index t = ![(grid0.coords t 0).val, min (64 * (grid0.coords t 1).val + 64) 127, 0]
    ∧ win0_3.index t = ![(grid0.coords t 0).val, 0, 0] ∧ win0_4.index t = ![0, 0] ∧ win0_5.index t = ![0, 0] ∧ win0_6.index t = ![0, 0]
    ∧ win0_7.index t = ![0, 0] ∧ win0_8.index t = ![0, 0]
    ∧ win0_9.index t = ![(grid0.coords t 0).val, (grid0.coords t 1).val, 0] ∧ win0_10.index t = ![(grid0.coords t 0).val, (grid0.coords t 1).val, 0] := by
  decide +kernel

/-- The data of sequence `b`, read off the arguments. -/
def layer (b : Fin 8) : Hy.Data :=
  Cert.Reference3Ideal.Ref.data (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) b

theorem seq_lt : ∀ t : Fin grid0.N, (grid0.coords t 0).val < 8 := by decide +kernel

theorem tile_lt : ∀ t : Fin grid0.N, (grid0.coords t 1).val < 2 := by decide +kernel

/-- The sequence of a grid point. -/
def seq : Fin 8 := ⟨(grid0.coords t 0).val, seq_lt t⟩

/-! The blocks a point finds, by elements of the arguments. -/

theorem blk0 (i : Fin 1) (r : Fin 16) (k : Fin 1024) (s : Fin 2048) (hs : s.val + 16 = 1024 * (grid0.coords t 1).val + r) :
    iblk m c 0 t (ix3 i r k) = (layer m c (seq t)).x s k := by
  change _ = m ((c : Thread nD τ).loc main_arg0) (ix3 (seq t) s k)
  unfold seq
  blk_ext [iblk, V, idx t]

theorem blk1 (i : Fin 1) (r : Fin 1024) (k : Fin 1024) (s : Fin 2048) (hs : s.val = 1024 * (grid0.coords t 1).val + r) :
    iblk m c 1 t (ix3 i r k) = (layer m c (seq t)).x s k := by
  change _ = m ((c : Thread nD τ).loc main_arg0) (ix3 (seq t) s k)
  unfold seq
  blk_ext [iblk, V, idx t]

theorem blk2 (i : Fin 1) (r : Fin 16) (k : Fin 1024) (s : Fin 2048) (hs : s.val = 1024 * (grid0.coords t 1).val + 1024 + r) :
    iblk m c 2 t (ix3 i r k) = (layer m c (seq t)).x s k := by
  have hm : min (64 * (grid0.coords t 1).val + 64) 127 = 64 * (grid0.coords t 1).val + 64 := by omega
  change _ = m ((c : Thread nD τ).loc main_arg0) (ix3 (seq t) s k)
  unfold seq
  blk_ext [iblk, V, idx t]

theorem blk3 (i : Fin 1) (r : Fin 2) (k : Fin 1024) : iblk m c 3 t (ix3 i r k) = (layer m c (seq t)).md r k := by
  change _ = m ((c : Thread nD τ).loc main_arg1) (ix3 (seq t) r k)
  unfold seq
  blk_ext [iblk, V, idx t]

theorem blk4 (i : Fin 1) (k : Fin 1024) : iblk m c 4 t (ix2 i k) = (layer m c (seq t)).g k := by
  change _ = m ((c : Thread nD τ).loc main_arg2) (ix1 k)
  blk_ext! [iblk, V, idx t]

theorem blk5 (k : Fin 1024) (q : Fin 3072) : iblk m c 5 t (ix2 k q) = (layer m c (seq t)).w k q := by
  change _ = m ((c : Thread nD τ).loc main_arg3) (ix2 k q)
  blk_ext! [iblk, V, idx t]

theorem blk6 (i : Fin 1) (q : Fin 3072) : iblk m c 6 t (ix2 i q) = (layer m c (seq t)).b q := by
  change _ = m ((c : Thread nD τ).loc main_arg4) (ix1 q)
  blk_ext! [iblk, V, idx t]

theorem blk7 (i : Fin 3) (q : Fin 3072) : iblk m c 7 t (ix2 i q) = (layer m c (seq t)).cw i q := by
  change _ = m ((c : Thread nD τ).loc main_arg5) (ix2 i q)
  blk_ext [iblk, V, idx t]

theorem blk8 (i : Fin 1) (q : Fin 3072) : iblk m c 8 t (ix2 i q) = (layer m c (seq t)).cb q := by
  change _ = m ((c : Thread nD τ).loc main_arg6) (ix1 q)
  blk_ext! [iblk, V, idx t]

/-- A load from a buffer holding `X`. -/
theorem load_at {s : Shape} {e : EltTy} {M : Memref sig .tc .vmem s e} {h : M.IsWhole} {X : s.Idx → Elt Ideal e} {off size : Fin s.rank → ℕ}
    {inb : ∀ a, off a + size a ≤ s.size a} {x : (Rect.unit off size inb).shape.Idx} (i : s.Idx) (hi : ∀ a, (i a : ℕ) = off a + x a) :
    View.readAt (Elt Ideal) M.view (Rect.unit off size inb).toLoadRect (h.unread X) x = X i := by
  rw [View.readAt_eq_ld, h.read_unread]
  exact View.ld_unit_apply_of X off size inb x i hi

section

variable (a2 : Memref sig .tc .vmem S1x16x1024 .f32) (h2 : a2.IsWhole) (a3 : Memref sig .tc .vmem S1x1024x1024 .f32) (h3 : a3.IsWhole) (a4 : Memref sig .tc .vmem S1x16x1024 .f32) (h4 : a4.IsWhole) (a5 : Memref sig .tc .vmem S1x2x1024 .f32) (h5 : a5.IsWhole) (a6 : Memref sig .tc .vmem S1x1024 .f32) (h6 : a6.IsWhole) (a7 : Memref sig .tc .vmem S1024x3072 .bf16) (h7 : a7.IsWhole) (a8 : Memref sig .tc .vmem S1x3072 .f32) (h8 : a8.IsWhole) (a9 : Memref sig .tc .vmem S3x3072 .f32) (h9 : a9.IsWhole) (a10 : Memref sig .tc .vmem S1x3072 .f32) (h10 : a10.IsWhole)

set_option maxHeartbeats 4000000 in
/-- What a grid point loads from its buffers is the layer's data. -/
theorem reads_at : Reads (layer m c (seq t)) (grid0.coords t 1).val
    (View.readAt (Elt Ideal) a5.view (Rect.unit (s := S1x2x1024) ![0, 0, 0] S1x1x1024.size (by decide)).toLoadRect (h5.unread (iblk m c 3 t)))
    (View.readAt (Elt Ideal) a5.view (Rect.unit (s := S1x2x1024) ![0, 1, 0] S1x1x1024.size (by decide)).toLoadRect (h5.unread (iblk m c 3 t)))
    (View.readAt (Elt Ideal) a2.view (Rect.unit (s := S1x16x1024) ![0, 0, 0] S1x16x1024.size (by decide)).toLoadRect (h2.unread (iblk m c 0 t)))
    (View.readAt (Elt Ideal) a3.view (Rect.unit (s := S1x1024x1024) ![0, 0, 0] S1x1024x1024.size (by decide)).toLoadRect (h3.unread (iblk m c 1 t)))
    (View.readAt (Elt Ideal) a4.view (Rect.unit (s := S1x16x1024) ![0, 0, 0] S1x16x1024.size (by decide)).toLoadRect (h4.unread (iblk m c 2 t)))
    (View.readAt (Elt Ideal) a6.view (Rect.unit (s := S1x1024) ![0, 0] S1x1024.size (by decide)).toLoadRect (h6.unread (iblk m c 4 t)))
    (fun n hn => View.readAt (Elt Ideal) a7.view (Rect.unit (s := S1024x3072) ![0, 1024 * (n % 3) + 256 * (n / 3)] S1024x256.size (inbP n hn)).toLoadRect (h7.unread (iblk m c 5 t)))
    (fun n hn => View.readAt (Elt Ideal) a8.view (Rect.unit (s := S1x3072) ![0, 1024 * (n % 3) + 256 * (n / 3)] S1x256.size (inbC n hn)).toLoadRect (h8.unread (iblk m c 6 t)))
    (fun k n hk hn => View.readAt (Elt Ideal) a9.view (Rect.unit (s := S3x3072) ![k, 1024 * (n % 3) + 256 * (n / 3)] S1x256.size (inbW k n hk hn)).toLoadRect (h9.unread (iblk m c 7 t)))
    (fun n hn => View.readAt (Elt Ideal) a10.view (Rect.unit (s := S1x3072) ![0, 1024 * (n % 3) + 256 * (n / 3)] S1x256.size (inbC n hn)).toLoadRect (h10.unread (iblk m c 8 t))) := by
  constructor
  case lt => exact tile_lt t
  case sh => intro k; exact (load_at (ix3 0 0 k) (by intro a; fin_cases a <;> simp)).trans (blk3 m c t 0 0 k)
  case sc => intro k; exact (load_at (ix3 0 1 k) (by intro a; fin_cases a <;> simp)).trans (blk3 m c t 0 1 k)
  case row =>
    intro r s hs
    funext k
    unfold tileRow
    split
    · exact (load_at (ix3 0 ⟨8 + r, by omega⟩ k) (by intro a; fin_cases a <;> simp)).trans (blk0 m c t _ _ _ s (by dsimp only; omega))
    · split
      · exact (load_at (ix3 0 ⟨r - 8, by omega⟩ k) (by intro a; fin_cases a <;> simp)).trans (blk1 m c t _ _ _ s (by dsimp only; omega))
      · exact (load_at (ix3 0 ⟨r - 8 - 1024, by omega⟩ k) (by intro a; fin_cases a <;> simp)).trans (blk2 m c t _ _ _ s (by dsimp only; omega))
  case g => intro k; exact (load_at (ix2 0 k) (by intro a; fin_cases a <;> simp)).trans (blk4 m c t 0 k)
  case w => intro n hn k q; exact (load_at (ix2 k ⟨_, col_lt n hn q⟩) (by intro a; fin_cases a <;> simp)).trans (blk5 m c t k _)
  case b => intro n hn q; exact (load_at (ix2 0 ⟨_, col_lt n hn q⟩) (by intro a; fin_cases a <;> simp)).trans (blk6 m c t 0 _)
  case cw => intro k n hn q; exact (load_at (ix2 k ⟨_, col_lt n hn q⟩) (by intro a; fin_cases a <;> simp)).trans (blk7 m c t k _)
  case cb => intro n hn q; exact (load_at (ix2 0 ⟨_, col_lt n hn q⟩) (by intro a; fin_cases a <;> simp)).trans (blk8 m c t 0 _)

end

section

variable (hd : ∀ b, (layer m c b).Finite)

include hd

/-- What a grid point leaves in the first result's block. -/
theorem vv_at (y : S1x1024x1024.Idx) (s : Fin 2048) (h : s.val = 1024 * (grid0.coords t 1).val + (y 1).val) :
    (outsAt0 m c t).1 y = Hy.vvAt (layer m c (seq t)) s (y 2) := by
  unfold outsAt0 out0_A_9
  dsimp only
  rw [View.read_writes_junk_eq_canon, stores_vv]
  exact vv_tile (reads_at m c t _ _ _ _ _ _ _ _ _ _ _ _ _ _ _ _ _ _) (hd _) _ y s h

/-- What a grid point leaves in the second result's block. -/
theorem x1_at (y : S1x1024x1024.Idx) (s : Fin 2048) (h : s.val = 1024 * (grid0.coords t 1).val + (y 1).val) :
    (outsAt0 m c t).2 y = Hy.x1At (layer m c (seq t)) s (y 2) := by
  unfold outsAt0 out0_A_10
  dsimp only
  rw [View.read_writes_junk_eq_canon, stores_x1]
  exact x1_tile (reads_at m c t _ _ _ _ _ _ _ _ _ _ _ _ _ _ _ _ _ _) (hd _) _ y s h

end

/-- The first result as an array. -/
def vvResult (u : S8x2048x1024.Idx) : EReal := Hy.vvAt (layer m c (u 0)) (u 1) (u 2)

/-- The second result as an array. -/
def x1Result (u : S8x2048x1024.Idx) : EReal := Hy.x1At (layer m c (u 0)) (u 1) (u 2)

/-- Where an element of a grid point's block of the first result lies in the array. -/
theorem emb_vv (a : Fin 1) (r : Fin 1024) (k : Fin 1024) (h : 1024 * (grid0.coords t 1).val + r < 2048) :
    ((cfg0.win 9).blk t).view.emb (ix3 a r k) = ix3 (seq t) ⟨1024 * (grid0.coords t 1).val + r, h⟩ k := by
  unfold seq
  blk_ext [idx t]

/-- Where an element of a grid point's block of the second result lies in the array. -/
theorem emb_x1 (a : Fin 1) (r : Fin 1024) (k : Fin 1024) (h : 1024 * (grid0.coords t 1).val + r < 2048) :
    ((cfg0.win 10).blk t).view.emb (ix3 a r k) = ix3 (seq t) ⟨1024 * (grid0.coords t 1).val + r, h⟩ k := by
  unfold seq
  blk_ext [idx t]

variable (hd : ∀ b, (layer m c b).Finite)

include hd

theorem written_vv (y : S1x1024x1024.Idx) : (dats m 0 c).after 9 t y = vvResult m c (((cfg0.win 9).blk t).view.emb y) := by
  rw [after0_9]
  idx_vars y
  have hs := tile_lt t
  rw [emb_vv t y0 y1 y2 (by omega)]
  exact vv_at m c t hd (ix3 y0 y1 y2) ⟨1024 * (grid0.coords t 1).val + y1, by omega⟩ rfl

theorem written_x1 (y : S1x1024x1024.Idx) : (dats m 0 c).after 10 t y = x1Result m c (((cfg0.win 10).blk t).view.emb y) := by
  rw [after0_10]
  idx_vars y
  have hs := tile_lt t
  rw [emb_x1 t y0 y1 y2 (by omega)]
  exact x1_at m c t hd (ix3 y0 y1 y2) ⟨1024 * (grid0.coords t 1).val + y1, by omega⟩ rfl

/-- The first result after the launch. -/
theorem vv_eq : (dats m 0 c).arrAt 9 cfg0.N = vvResult m c :=
  (dats m 0 c).arrAt_eq_of_covers 9 _ (by decide +kernel) fun t _ y => written_vv m c t hd y

/-- The second result after the launch. -/
theorem x1_eq : (dats m 0 c).arrAt 10 cfg0.N = x1Result m c :=
  (dats m 0 c).arrAt_eq_of_covers 10 _ (by decide +kernel) fun t _ y => written_x1 m c t hd y

end Cert.Kernel3Ideal.Block

end
-- ==== Proof.HyClaims.lean ====
/- The claims about the launch before the long convolution: the frames, the idealization and the values. -/
module

public import proofs.«01_k».proof.Defs
public import proofs.«01_k».proof.Proof.AttnClaims
public import proofs.«01_k».proof.Proof.HyArray
public import proofs.«01_k».proof.Proof.Gen.Kernel3
public import proofs.«01_k».proof.Proof.Gen.Kernel3.Frame
public import proofs.«01_k».proof.Proof.Gen.Kernel3Ideal
public import proofs.«01_k».proof.Proof.Gen.Pre_finite_taps
public import proofs.«01_k».proof.Proof.Gen.Reference3Ideal
public import proofs.«01_k».proof.Proof.Gen.Reference3Ideal.Run
public import Idealize.ShloMosaic.Lib.Quiescent
public import Idealize.ShloMosaic.Lib.ReduceAll

@[expose] public section

set_option maxRecDepth 16384

noncomputable section

namespace Cert.Proof.HyClaims

open Idealize.ShloMosaic Idealize.ShloMosaic.TcCoe Idealize.SL.Sem

theorem frame_p : Cert.quiescent_Kernel3 := fun m ρ _ => Cert.Kernel3.Gen.frame m ρ

theorem frame_pi : Cert.quiescent_Kernel3Ideal := fun m ρ _ => Cert.Kernel3Ideal.Gen.frame m ρ

theorem frame_pi_finite : Cert.quiescent_Kernel3Ideal_pre_finite_taps := fun m ρ _ => Cert.Kernel3Ideal.Gen.frame m ρ

theorem frame_ri : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

theorem frame_ri_finite : Cert.quiescent_Reference3Ideal_pre_finite_taps := fun m ρ _ => frame_ri m ρ trivial

theorem preserves : Cert.preserves_Kernel3_Kernel3Ideal := trivial

/-- The precondition says that the projection's bias and the taps are real numbers. -/
theorem data_finite (x0 x1 x2 x3 x4 x5 x6) (h : Cert.Pre_finite_taps.fn (F := Ideal) x0 x1 x2 x3 x4 x5 x6 = fun _ => 1#1) (b : Fin 8) :
    (Cert.Reference3Ideal.Ref.data x0 x1 x2 x3 x4 x5 x6 b).Finite := by
  have e := congrFun h (fun a => a.elim0)
  simp only [Cert.Pre_finite_taps.fn] at e
  obtain ⟨e4, e5⟩ := AttnClaims.andi_one e
  haveI : Subsingleton Cert.Pre_finite_taps.S_.Idx := ⟨fun a b => funext fun d => d.elim0⟩
  exact ⟨fun q => AttnClaims.abs_lt_inf (Host.reduce_andi_all _ _ _ _ _ e4 (ix1 q)), fun i q => AttnClaims.abs_lt_inf (Host.reduce_andi_all _ _ _ _ _ e5 (ix2 i q))⟩

/-- At every index the launch's arrays and the reference's results are the layer's results there. -/
theorem algebraic : Cert.algebraic_Kernel3Ideal_Reference3Ideal_pre_finite_taps := by
  intro m ρ m' ρ' hpre hagree
  have hf : ∀ c b, (Cert.Kernel3Ideal.Block.layer m c b).Finite := fun c b => data_finite _ _ _ _ _ _ _ (hpre c) b
  refine ⟨fun c => Cert.Kernel3Ideal.Block.vvResult m c, fun c => Cert.Kernel3Ideal.Block.x1Result m c,
    (θ_run Cert.Kernel3Ideal.defs _ _).mono
      (fun _ h c => ⟨(h c).1.trans (Cert.Kernel3Ideal.Block.vv_eq m c (hf c)), (h c).2.1.trans (Cert.Kernel3Ideal.Block.x1_eq m c (hf c)), (h c).2.2⟩)
      (Cert.Kernel3Ideal.Value.run_blocks (F := Ideal) m ρ), ?_⟩
  have hd : ∀ c : Dev Cert.Reference3Ideal.nD, ∀ b, Cert.Reference3Ideal.Ref.data (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) b = Cert.Kernel3Ideal.Block.layer m c b := by
    intro c b
    obtain ⟨e0, e1, e2, e3, e4, e5, e6⟩ := hagree c
    rw [e0, e1, e2, e3, e4, e5, e6]
    rfl
  refine (θ_run Cert.Reference3Ideal.defs _ _).mono (fun _ h c => ⟨(h c).1.trans ?_, (h c).2.1.trans ?_, (h c).2.2⟩)
    (Cert.Reference3Ideal.Value.run (F := Ideal) m' ρ')
  · refine (Cert.Reference3Ideal.Read.val_main_v57_eq (F := Ideal) _ _).trans ?_
    funext u
    idx_vars u
    exact (Cert.Reference3Ideal.Ref.v57_at _ _ _ _ _ _ _ u0 u1 u2).trans (congrArg (fun d => Hy.vvAt d u1 u2) (hd c u0))
  · refine (Cert.Reference3Ideal.Read.val_main_v58_eq (F := Ideal) _ _).trans ?_
    funext u
    idx_vars u
    exact (Cert.Reference3Ideal.Ref.v58_at _ _ _ _ _ _ _ u0 u1 u2).trans (congrArg (fun d => Hy.x1At d u1 u2) (hd c u0))

end Cert.Proof.HyClaims

end
-- ==== Proof.MlaMath.lean ====
/- The latent-attention projection over the extended reals, row by row: the normalised and modulated row, the query latent
   and its queries, the key and value latent with its keys and values, and the shared rotary key.

   The launch turns a query by exchanging its rows and changing the sine's sign, and takes the turned key from turned
   columns of the matrix: `turned_query` and `turned_key` say that these are the reference's rotations. -/
module

public import proofs.«01_k».proof.Proof.FfnMath
public import proofs.«01_k».proof.Proof.AttnMath

@[expose] public section

noncomputable section

namespace Cert.Mla

open Idealize.ShloMosaic

/-- The root-mean-square normalisation of a row whose length has the constant `N`. -/
def norm {n : ℕ} (N : BitVec 32) (x g : Fin n → EReal) (k : Fin n) : EReal :=
  x k * Ideal.rsqrt (Ideal.div (∑ j, x j * x j) (Ideal.ofBits FTy.f32 N) + Ideal.ofBits FTy.f32 897988541#32) * g k

/-- What the projection is given for one sequence: the residual stream, the modulation, the weights, and the cosines and
    sines of the positions. -/
structure Data where
  x : Fin 2048 → Fin 1024 → EReal
  md : Fin 2 → Fin 1024 → EReal
  g : Fin 1024 → EReal
  wdq : Fin 1024 → Fin 512 → EReal
  gq : Fin 512 → EReal
  wuq : Fin 512 → Fin 1536 → EReal
  wkv : Fin 1024 → Fin 288 → EReal
  gkv : Fin 256 → EReal
  wuk : Fin 256 → Fin 1024 → EReal
  wuv : Fin 256 → Fin 1024 → EReal
  cs : Fin 2048 → Fin 32 → EReal
  sn : Fin 2048 → Fin 32 → EReal

/-- The quarters of a row exchanged in pairs, the first of each pair negated. -/
def rot (v : Fin 32 → EReal) (j : Fin 32) : EReal :=
  if h : j.val < 8 then -v ⟨8 + j, by omega⟩ else if h' : j.val - 8 < 8 then v ⟨j - 8, by omega⟩
  else if h'' : j.val - 8 - 8 < 8 then -v ⟨24 + (j - 8 - 8), by omega⟩ else v ⟨16 + (j - 8 - 8 - 8), by omega⟩

/-- The quarters of a row exchanged in pairs. -/
def swap (v : Fin 32 → EReal) (j : Fin 32) : EReal :=
  if h : j.val < 8 then v ⟨8 + j, by omega⟩ else if h' : j.val - 8 < 8 then v ⟨j - 8, by omega⟩
  else if h'' : j.val - 8 - 8 < 8 then v ⟨24 + (j - 8 - 8), by omega⟩ else v ⟨16 + (j - 8 - 8 - 8), by omega⟩

/-- A row turned by its position. -/
def rope (cs sn v : Fin 32 → EReal) (j : Fin 32) : EReal := v j * cs j + rot v j * sn j

variable (d : Data)

/-- The normalised and modulated row at position `s`. -/
def hidAt (s : Fin 2048) : Fin 1024 → EReal := Ffn.hid d.g (d.md 1) (d.md 0) (d.x s)

/-- The query latent before its normalisation. -/
def dqAt (s : Fin 2048) (k : Fin 512) : EReal := ∑ j, hidAt d s j * d.wdq j k

/-- All heads' queries before the rotation. -/
def uqAt (s : Fin 2048) (q : Fin 1536) : EReal := ∑ k, norm 1140850688#32 (dqAt d s) d.gq k * d.wuq k q

/-- A head's rows that the rotation turns. -/
def qpAt (s : Fin 2048) (h : Fin 16) (j : Fin 32) : EReal := uqAt d s ⟨h * 96 + (64 + j), by omega⟩

/-- The key and value latent with the shared rotary key. -/
def dkvAt (s : Fin 2048) (k : Fin 288) : EReal := ∑ j, hidAt d s j * d.wkv j k

/-- The normalised key and value latent. -/
def ckvAt (s : Fin 2048) : Fin 256 → EReal := norm 1132462080#32 (fun k => dkvAt d s ⟨k, by omega⟩) d.gkv

/-- The queries: of each head 64 rows as they are, 32 turned, all scaled, and 32 of zeros. -/
def qAt (h : Fin 16) (i : Fin 128) (s : Fin 2048) : EReal :=
  if hi : i.val < 96 then
    (if hj : i.val < 64 then uqAt d s ⟨h * 96 + i, by omega⟩ else rope (d.cs s) (d.sn s) (qpAt d s h) ⟨i - 64, by omega⟩)
      * Ideal.ofBits FTy.f32 1041680192#32
  else 0

/-- The keys: of each head 64 of its own, 32 of the shared rotary key, and 32 of zeros. -/
def kAt (h : Fin 16) (s : Fin 2048) (i : Fin 128) : EReal :=
  if hi : i.val < 96 then
    if hj : i.val < 64 then ∑ k, ckvAt d s k * d.wuk k ⟨h * 64 + i, by omega⟩
    else rope (d.cs s) (d.sn s) (fun j => dkvAt d s ⟨256 + j, by omega⟩) ⟨i - 64, by omega⟩
  else 0

/-- The values. -/
def vAt (h : Fin 16) (i : Fin 64) (s : Fin 2048) : EReal := ∑ k, ckvAt d s k * d.wuv k ⟨h * 64 + i, by omega⟩

/-! ## The rotation of the queries -/

/-- The sine's sign: negative in the first quarter of each pair. -/
def sgn (j : Fin 32) : EReal :=
  if j.val < 8 then -1 else if j.val - 8 < 8 then 1 else if j.val - 8 - 8 < 8 then -1 else 1

theorem scale_real : ∃ c : ℝ, 0 ≤ c ∧ Ideal.ofBits FTy.f32 1041680192#32 = (c : EReal) := by
  refine ⟨9881408 * ((2 : ℝ) ^ 26)⁻¹, by norm_num, ?_⟩
  rw [EReal.coe_mul]
  simp [Ideal.ofBits, Ideal.ieee]

theorem rot_mul (v : Fin 32 → EReal) (j : Fin 32) (s : EReal) : rot v j * s = swap v j * (s * sgn j) := by
  unfold rot swap sgn
  split_ifs <;> simp [EReal.neg_mul, mul_neg]

theorem swap_mul (v : Fin 32 → EReal) (j : Fin 32) (c : EReal) : swap (fun j => v j * c) j = swap v j * c := by
  unfold swap
  split_ifs <;> rfl

/-- The launch scales before it turns, exchanges rows, and puts the sign on the sine. -/
theorem turned_query (cs sn v : Fin 32 → EReal) (j : Fin 32) :
    v j * Ideal.ofBits FTy.f32 1041680192#32 * cs j + swap (fun j => v j * Ideal.ofBits FTy.f32 1041680192#32) j * (sn j * sgn j)
      = rope cs sn v j * Ideal.ofBits FTy.f32 1041680192#32 := by
  obtain ⟨c, hc, e⟩ := scale_real
  rw [e, swap_mul]
  unfold rope
  rw [mul_comm (v j * cs j + _), EReal.left_distrib_of_nonneg_of_ne_top (EReal.coe_nonneg.mpr hc) (EReal.coe_ne_top c), rot_mul]
  congr 1 <;> ac_rfl

/-! ## The rotation of the key -/

/-- A number that is neither infinity. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem square_nonneg (x : EReal) : 0 ≤ x * x := by
  induction x with
  | bot => simp
  | top => simp
  | coe r => rw [← EReal.coe_mul]; exact_mod_cast mul_self_nonneg r

/-- The square of a number that is not real is infinite. -/
theorem square_top {x : EReal} (h : ¬ IsReal x) : x * x = ⊤ := by
  induction x with
  | bot => simp
  | top => simp
  | coe r => exact absurd ⟨r, rfl⟩ h

/-- A sum of squares of which one is infinite is infinite. -/
theorem squares_top {n : ℕ} {f : Fin n → EReal} {k : Fin n} (h : ¬ IsReal (f k)) : ∑ j, f j * f j = ⊤ :=
  top_le_iff.mp ((square_top h).ge.trans (Finset.single_le_sum (f := fun j => f j * f j) (fun j _ => square_nonneg _) (Finset.mem_univ k)))

theorem rsqrt_real (n : ℕ) (f : Fin n → EReal) (hf : ∀ k, IsReal (f k)) :
    IsReal (Ideal.rsqrt (Ideal.div (∑ j, f j * f j) (Ideal.ofBits FTy.f32 1149239296#32) + Ideal.ofBits FTy.f32 897988541#32)) := by
  choose a ha using hf
  have e1 : Ideal.ofBits FTy.f32 1149239296#32 = ((1024 : ℝ) : EReal) := by
    simp [Ideal.ofBits, Ideal.ieee]
    rw [← EReal.coe_mul]
    norm_num
  have e2 : ∃ c : ℝ, 0 < c ∧ Ideal.ofBits FTy.f32 897988541#32 = (c : EReal) := by
    refine ⟨8796093 * ((2 : ℝ) ^ 43)⁻¹, by positivity, ?_⟩
    rw [EReal.coe_mul]
    simp [Ideal.ofBits, Ideal.ieee]
  obtain ⟨c, hc, e2⟩ := e2
  have h0 : 0 ≤ ∑ j, a j * a j := Finset.sum_nonneg fun j _ => mul_self_nonneg _
  have hp : 0 < (∑ j, a j * a j) * (1 / 1024) + c := add_pos_of_nonneg_of_pos (mul_nonneg h0 (by norm_num)) hc
  simp only [ha, ← EReal.coe_mul]
  rw [Attn.coe_sum, e1, e2, Ideal.div_coe (by norm_num), ← EReal.coe_mul, ← EReal.coe_add, Ideal.rsqrt_coe, if_neg (not_lt.mpr hp.le), if_neg hp.ne']
  exact ⟨_, rfl⟩

/-- A row that is not of real numbers has an infinite mean square, and its norm is zero; so a norm is real whatever the row is. -/
theorem normed_real (n : ℕ) (f : Fin n → EReal) (k : Fin n) :
    IsReal (f k * Ideal.rsqrt (Ideal.div (∑ j, f j * f j) (Ideal.ofBits FTy.f32 1149239296#32) + Ideal.ofBits FTy.f32 897988541#32)) := by
  by_cases hf : ∀ k, IsReal (f k)
  · exact (hf k).mul (rsqrt_real n f hf)
  · obtain ⟨i, hi⟩ := not_forall.mp hf
    have e1 : Ideal.ofBits FTy.f32 1149239296#32 = ((1024 : ℝ) : EReal) := by
      simp [Ideal.ofBits, Ideal.ieee]
      rw [← EReal.coe_mul]
      norm_num
    have e2 : ∃ c : ℝ, Ideal.ofBits FTy.f32 897988541#32 = (c : EReal) := by
      refine ⟨8796093 * ((2 : ℝ) ^ 43)⁻¹, ?_⟩
      rw [EReal.coe_mul]
      simp [Ideal.ofBits, Ideal.ieee]
    obtain ⟨c, e2⟩ := e2
    rw [squares_top hi, e1, e2, Ideal.div_coe (by norm_num), EReal.top_mul_coe_of_pos (by norm_num), EReal.top_add_coe, Ideal.rsqrt_top, mul_zero]
    exact ⟨0, rfl⟩

/-- The modulation of one sequence, the input norm's gain and the columns of the rotary key are real numbers. -/
structure Data.Finite (d : Data) : Prop where
  md : ∀ i k, IsReal (d.md i k)
  g : ∀ k, IsReal (d.g k)
  wkv : ∀ k (q : Fin 32), IsReal (d.wkv k ⟨256 + q, by omega⟩)

theorem hid_real {d : Data} (hd : d.Finite) (s : Fin 2048) (k : Fin 1024) : IsReal (hidAt d s k) := by
  unfold hidAt Ffn.hid Ffn.norm
  exact (((normed_real 1024 _ k).mul (hd.g k)).mul (IsReal.add ⟨1, rfl⟩ (hd.md 1 k))).add (hd.md 0 k)

theorem sum_neg {n : ℕ} (a b : Fin n → EReal) (ha : ∀ k, IsReal (a k)) (hb : ∀ k, IsReal (b k)) : ∑ k, a k * -b k = -∑ k, a k * b k := by
  choose a' ha using ha
  choose b' hb using hb
  simp only [ha, hb, ← EReal.coe_neg, ← EReal.coe_mul]
  rw [Attn.coe_sum, Attn.coe_sum, ← EReal.coe_neg]
  congr 1
  simp only [mul_neg, Finset.sum_neg_distrib]

/-- The product with turned columns is the turned product. -/
theorem turned_key {d : Data} (hd : d.Finite) (s : Fin 2048) (j : Fin 32) :
    ∑ k, hidAt d s k * rot (fun j => d.wkv k ⟨256 + j, by omega⟩) j = rot (fun j => dkvAt d s ⟨256 + j, by omega⟩) j := by
  unfold rot dkvAt
  split_ifs
  · exact sum_neg _ _ (hid_real hd s) (fun k => hd.wkv k ⟨8 + j, by omega⟩)
  · rfl
  · exact sum_neg _ _ (hid_real hd s) (fun k => hd.wkv k ⟨24 + (j - 8 - 8), by omega⟩)
  · rfl

end Cert.Mla

end
-- ==== Proof.MlaRef.lean ====
/- The latent-attention projection's reference, read at an index: its results are `Mla.qAt`, `Mla.kAt` and `Mla.vAt` of the
   arguments' rows. -/
module

public import proofs.«01_k».proof.Proof.MlaMath
public import proofs.«01_k».proof.Proof.Gen.Reference4Ideal.Read

@[expose] public section

set_option maxRecDepth 16384

noncomputable section

namespace Cert.Reference4Ideal.Ref

open Cert.Reference4Ideal Cert.Reference4Ideal.Read Idealize.ShloMosaic

variable (x0 : S8x2048x1024.Idx → EReal) (x1 : S8x2x1024.Idx → EReal) (x2 : S1024.Idx → EReal) (x3 : S1024x512.Idx → EReal) (x4 : S512.Idx → EReal) (x5 : S512x1536.Idx → EReal) (x6 : S1024x288.Idx → EReal) (x7 : S256.Idx → EReal) (x8 : S256x1024.Idx → EReal) (x9 : S256x1024.Idx → EReal)

/-- The arguments' rows for sequence `b`, with the cosines and sines that the reference computes. -/
def data (b : Fin 8) : Mla.Data where
  x s k := x0 (ix3 b s k)
  md i k := x1 (ix3 b i k)
  g k := x2 (ix1 k)
  wdq k q := x3 (ix2 k q)
  gq k := x4 (ix1 k)
  wuq k q := x5 (ix2 k q)
  wkv k q := x6 (ix2 k q)
  gkv k := x7 (ix1 k)
  wuk k q := x8 (ix2 k q)
  wuv k q := x9 (ix2 k q)
  cs s j := val_main_v28 (F := Ideal) (ix2 s j)
  sn s j := val_main_v29 (F := Ideal) (ix2 s j)

theorem v54_at (b : Fin 8) (s : Fin 2048) (k : Fin 1024) :
    val_main_v54 (F := Ideal) x0 x1 x2 (ix3 b s k) = Mla.hidAt (data x0 x1 x2 x3 x4 x5 x6 x7 x8 x9 b) s k := by
  unfold Mla.hidAt Ffn.hid Ffn.norm
  pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_cst_3, val_main_cst_4, val_main_cst_5, val_main_cst_6, data]

theorem v55_at (b : Fin 8) (s : Fin 2048) (k : Fin 512) :
    val_main_v55 (F := Ideal) x0 x1 x2 x3 (ix3 b s k) = Mla.dqAt (data x0 x1 x2 x3 x4 x5 x6 x7 x8 x9 b) s k := by
  unfold Mla.dqAt
  simp only [← v54_at x0 x1 x2 x3 x4 x5 x6 x7 x8 x9]
  pointwise [val_main_v55, data]

theorem v69_at (b : Fin 8) (s : Fin 2048) (q : Fin 1536) :
    val_main_v69 (F := Ideal) x0 x1 x2 x3 x4 x5 (ix3 b s q) = Mla.uqAt (data x0 x1 x2 x3 x4 x5 x6 x7 x8 x9 b) s q := by
  unfold Mla.uqAt Mla.norm
  simp only [← v55_at x0 x1 x2 x3 x4 x5 x6 x7 x8 x9]
  pointwise [val_main_v69, val_main_v68, val_main_v67, val_main_v66, val_main_v65, val_main_v64, val_main_v63, val_main_v62, val_main_v61, val_main_v60, val_main_v59, val_main_v58, val_main_v57, val_main_v56, val_main_cst_7, val_main_cst_8, val_main_cst_9, data]

theorem v88_at (b : Fin 8) (s : Fin 2048) (k : Fin 288) :
    val_main_v88 (F := Ideal) x0 x1 x2 x6 (ix3 b s k) = Mla.dkvAt (data x0 x1 x2 x3 x4 x5 x6 x7 x8 x9 b) s k := by
  unfold Mla.dkvAt
  simp only [← v54_at x0 x1 x2 x3 x4 x5 x6 x7 x8 x9]
  pointwise [val_main_v88, data]

theorem v102_at (b : Fin 8) (s : Fin 2048) (k : Fin 256) :
    val_main_v102 (F := Ideal) x0 x1 x2 x6 x7 (ix3 b s k) = Mla.ckvAt (data x0 x1 x2 x3 x4 x5 x6 x7 x8 x9 b) s k := by
  unfold Mla.ckvAt Mla.norm
  simp only [← v88_at x0 x1 x2 x3 x4 x5 x6 x7 x8 x9]
  pointwise [val_main_v102, val_main_v101, val_main_v100, val_main_v99, val_main_v98, val_main_v97, val_main_v96, val_main_v95, val_main_v94, val_main_v93, val_main_v92, val_main_v91, val_main_v90, val_main_v89, val_main_cst_10, val_main_cst_11, val_main_cst_12, data]

theorem sitofp_zero : FloatOps.sitofp (F := Ideal) FTy.f32 (0#32) = (0 : EReal) := by simp [FloatOps.sitofp]

theorem v134_at (b : Fin 8) (h : Fin 16) (i : Fin 64) (s : Fin 2048) :
    val_main_v134 (F := Ideal) x0 x1 x2 x6 x7 x9 (ix4 b h i s) = Mla.vAt (data x0 x1 x2 x3 x4 x5 x6 x7 x8 x9 b) h i s := by
  unfold Mla.vAt
  simp only [← v102_at x0 x1 x2 x3 x4 x5 x6 x7 x8 x9]
  pointwise [val_main_v134, val_main_v133, val_main_v121, val_main_v120, data]

theorem v129_at (b : Fin 8) (h : Fin 16) (i : Fin 128) (s : Fin 2048) :
    val_main_v129 (F := Ideal) x0 x1 x2 x3 x4 x5 (ix4 b h i s) = Mla.qAt (data x0 x1 x2 x3 x4 x5 x6 x7 x8 x9 b) h i s := by
  unfold Mla.qAt Mla.rope Mla.rot Mla.qpAt
  simp only [← v69_at x0 x1 x2 x3 x4 x5 x6 x7 x8 x9]
  pointwise [val_main_v129, val_main_v128, val_main_v127, val_main_v126, val_main_v125, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_cst_13, val_main_call0_v0, val_main_c, data]
  exact dite_congr rfl (fun _ => rfl) fun _ => sitofp_zero

theorem v132_at (b : Fin 8) (h : Fin 16) (s : Fin 2048) (i : Fin 128) :
    val_main_v132 (F := Ideal) x0 x1 x2 x6 x7 x8 (ix4 b h s i) = Mla.kAt (data x0 x1 x2 x3 x4 x5 x6 x7 x8 x9 b) h s i := by
  unfold Mla.kAt Mla.rope Mla.rot
  simp only [← v102_at x0 x1 x2 x3 x4 x5 x6 x7 x8 x9, ← v88_at x0 x1 x2 x3 x4 x5 x6 x7 x8 x9]
  pointwise [val_main_v132, val_main_v131, val_main_v130, val_main_v124, val_main_v123, val_main_v122, val_main_v119, val_main_v118, val_main_v117, val_main_v116, val_main_v115, val_main_v114, val_main_v113, val_main_v112, val_main_v111, val_main_v110, val_main_v109, val_main_v108, val_main_v107, val_main_v106, val_main_v105, val_main_v104, val_main_v103, val_main_call1_v0, val_main_c_14, data]
  exact dite_congr rfl (fun _ => rfl) fun _ => sitofp_zero

end Cert.Reference4Ideal.Ref

end
-- ==== Proof.MlaHost.lean ====
/- What the host computes for the latent-attention launch, at an index: the packed matrix, the padded key matrix, the
   transposed matrices, and the tables of cosines and sines, which are the reference's. -/
module

public import proofs.«01_k».proof.Proof.MlaRef
public import proofs.«01_k».proof.Proof.Gen.Reference4Ideal.Read
public import proofs.«01_k».proof.Proof.Gen.Kernel4Ideal.Value
public import Idealize.ShloMosaic.Lib.Pointwise

@[expose] public section

set_option maxRecDepth 16384

noncomputable section

namespace Cert.Kernel4Ideal.Block

open Cert.Kernel4Ideal Cert.Kernel4Ideal.Gen Idealize.ShloMosaic Idealize.ShloMosaic.TcCoe Idealize.SL.Sem

/-- The zero that the host pads with. -/
def padZero : Vec Ideal S_ .f32 := sitofp (F := Ideal) .f32 (constantI S_ 32 0#32)

/-- The columns of the shared rotary key. -/
def peCols (w : Vec Ideal S1024x288 .f32) : Vec Ideal S1024x32 .f32 := extractStridedSlice S1024x32 ![0, 256] w slices_S1024x288_S1024x32_0_256

/-- These columns turned. -/
def rotCols (w : Vec Ideal S1024x288 .f32) : Vec Ideal S1024x32 .f32 :=
  concatenate S1024x32 1 [⟨S1024x8, Host.negf (F := Ideal) (φ := .f32) (extractStridedSlice S1024x8 ![0, 8] (peCols w) slices_S1024x32_S1024x8_0_8)⟩,
    ⟨S1024x8, extractStridedSlice S1024x8 ![0, 0] (peCols w) slices_S1024x32_S1024x8_0_0⟩,
    ⟨S1024x8, Host.negf (F := Ideal) (φ := .f32) (extractStridedSlice S1024x8 ![0, 24] (peCols w) slices_S1024x32_S1024x8_0_24)⟩,
    ⟨S1024x8, extractStridedSlice S1024x8 ![0, 16] (peCols w) slices_S1024x32_S1024x8_0_16⟩] concatenates_S1024x8_S1024x8_S1024x8_S1024x8_S1024x32_d1

/-- Columns put into lanes 64 to 95 of 128. -/
def lanes (w : Vec Ideal S1024x32 .f32) : Vec Ideal S1024x128 .f32 :=
  pad S1024x128 ![0, 64] ![0, 32] ![0, 0] w padZero pads_S1024x32_S1024x128_000_64320 h_S_

/-- The packed matrix. -/
def packedMatrix (wq : Vec Ideal S1024x512 .f32) (w : Vec Ideal S1024x288 .f32) : Vec Ideal S1024x1024 .bf16 :=
  truncf (F := Ideal) .bf16 (concatenate S1024x1024 1 [⟨S1024x512, wq⟩, ⟨S1024x256, extractStridedSlice S1024x256 ![0, 0] w slices_S1024x288_S1024x256_0_0⟩,
    ⟨S1024x128, lanes (peCols w)⟩, ⟨S1024x128, lanes (rotCols w)⟩] concatenates_S1024x512_S1024x256_S1024x128_S1024x128_S1024x1024_d1) bitsLt_bf16_f32

/-- The key matrix with each head's columns padded to 128. -/
def keyMatrix (w : Vec Ideal S256x1024 .f32) : Vec Ideal S256x2048 .bf16 :=
  truncf (F := Ideal) .bf16 (shapeCast S256x2048 (pad S256x16x128 ![0, 0, 0] ![0, 0, 64] ![0, 0, 0] (shapeCast S256x16x64 w shapeCasts_S256x1024_S256x16x64) padZero
    pads_S256x16x64_S256x16x128_000_000_0640 h_S_) shapeCasts_S256x16x128_S256x2048) bitsLt_bf16_f32

/-- A table put into lanes 64 to 95 of 128. -/
def table (w : Vec Ideal S2048x32 .f32) : Vec Ideal S2048x128 .f32 :=
  pad S2048x128 ![0, 64] ![0, 32] ![0, 0] w padZero pads_S2048x32_S2048x128_000_64320 h_S_

/-- The sines with the rotation's signs, transposed. -/
def signed (w : Vec Ideal S2048x32 .f32) : Vec Ideal S32x2048 .f32 :=
  transpose S32x2048 [1, 0] (mulf (F := Ideal) (φ := .f32) w (broadcastInDim S2048x32 ![0, 1] bcast_S1x32_S2048x32_0_1
    (broadcastInDim S1x32 ![1] bcast_S32_S1x32_1 (fun i => FloatOps.ofBits (F := Ideal) .f32 (lit0 (S32.rowMajor i)))))) transposes_S2048x32_S32x2048_1_0

section

variable (m : (ℓ : Loc nD τ sig) → Buf (Elt Ideal) ℓ) (c : Dev nD)

theorem cos_eq : V m c main_v49 = Cert.Reference4Ideal.Read.val_main_v28 (F := Ideal) := rfl

theorem sin_eq : V m c main_v50 = Cert.Reference4Ideal.Read.val_main_v29 (F := Ideal) := rfl

theorem packed_matrix_eq : V m c main_v12 = packedMatrix (m ((c : Thread nD τ).loc main_arg3)) (m ((c : Thread nD τ).loc main_arg6)) := rfl

theorem key_matrix_eq : V m c main_v18 = keyMatrix (m ((c : Thread nD τ).loc main_arg8)) := rfl

theorem cos_lanes_eq : V m c main_v54 = table (Cert.Reference4Ideal.Read.val_main_v28 (F := Ideal)) := rfl

theorem sin_lanes_eq : V m c main_v55 = table (Cert.Reference4Ideal.Read.val_main_v29 (F := Ideal)) := rfl

theorem cos_rows_eq : V m c main_v56 = transpose S32x2048 [1, 0] (Cert.Reference4Ideal.Read.val_main_v28 (F := Ideal)) transposes_S2048x32_S32x2048_1_0 := rfl

theorem sin_rows_eq : V m c main_v60 = signed (Cert.Reference4Ideal.Read.val_main_v29 (F := Ideal)) := rfl

end

theorem neg_one_f32 : Ideal.ofBits .f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]; norm_num

theorem sign_words : ∀ j : Fin 32, lit0 (S32.rowMajor (ix1 j)) =
    if j.val < 8 then 0xBF800000#32 else if j.val - 8 < 8 then 0x3F800000#32 else if j.val - 8 - 8 < 8 then 0xBF800000#32 else 0x3F800000#32 := by
  decide +kernel

theorem sign_at (j : Fin 32) : Ideal.ofBits .f32 (lit0 (S32.rowMajor (ix1 j))) = Mla.sgn j := by
  rw [sign_words, Mla.sgn]
  split_ifs
  · exact neg_one_f32
  · exact Ideal.ofBits_one_f32
  · exact neg_one_f32
  · exact Ideal.ofBits_one_f32

theorem signed_at (w : Vec Ideal S2048x32 .f32) (j : Fin 32) (s : Fin 2048) : signed w (ix2 j s) = w (ix2 s j) * Mla.sgn j := by
  rw [← sign_at]
  pointwise [signed]

/-- A row of 32 put into lanes 64 to 95 of a row of 128. -/
def laneRow (v : Fin 32 → EReal) (q : Fin 128) : EReal := if h : 64 ≤ q.val ∧ q.val - 64 < 32 then v ⟨q.val - 64, h.2⟩ else 0

theorem laneRow_in (v : Fin 32 → EReal) (q : Fin 32) (h : 64 + q.val < 128) : laneRow v ⟨64 + q, h⟩ = v q :=
  (dif_pos ⟨Nat.le_add_right _ _, by dsimp only; omega⟩).trans (congrArg v (Fin.ext (Nat.add_sub_cancel_left _ _)))

theorem laneRow_out (v : Fin 32 → EReal) (q : Fin 128) (h : q.val < 64 ∨ 96 ≤ q.val) : laneRow v q = 0 := dif_neg (by omega)

theorem table_at (w : Vec Ideal S2048x32 .f32) (s : Fin 2048) (q : Fin 128) : table w (ix2 s q) = laneRow (fun j => w (ix2 s j)) q := by
  pointwise [table, padZero]
  exact dite_congr rfl (fun _ => rfl) fun _ => Cert.Reference4Ideal.Ref.sitofp_zero

theorem keyMatrix_at (w : Vec Ideal S256x1024 .f32) (k : Fin 256) (q : Fin 2048) :
    keyMatrix w (ix2 k q) = if h : q.val / 128 < 16 ∧ q.val % 128 < 64 then w (ix2 k ⟨q.val / 128 * 64 + q.val % 128, by omega⟩) else 0 := by
  pointwise [keyMatrix, padZero]
  exact dite_congr rfl (fun _ => rfl) fun _ => Cert.Reference4Ideal.Ref.sitofp_zero

theorem key_in (w : Vec Ideal S256x1024 .f32) (k : Fin 256) (h : Fin 16) (i : Fin 64) (hq : 128 * h.val + i.val < 2048) (hr : h.val * 64 + i.val < 1024) :
    keyMatrix w (ix2 k ⟨128 * h + i, hq⟩) = w (ix2 k ⟨h * 64 + i, hr⟩) := by
  refine (keyMatrix_at w k _).trans ((dif_pos ⟨by dsimp only; omega, by dsimp only; omega⟩).trans ?_)
  exact congrArg (fun r => w (ix2 k r)) (Fin.ext (by dsimp only; omega))

theorem key_out (w : Vec Ideal S256x1024 .f32) (k : Fin 256) (h : Fin 16) (i : Fin 128) (hi : 64 ≤ i.val) (hq : 128 * h.val + i.val < 2048) :
    keyMatrix w (ix2 k ⟨128 * h + i, hq⟩) = (0 : EReal) :=
  (keyMatrix_at w k _).trans (dif_neg (by dsimp only; omega))

theorem packedMatrix_at (wq : Vec Ideal S1024x512 .f32) (w : Vec Ideal S1024x288 .f32) (k : Fin 1024) (q : Fin 1024) :
    packedMatrix wq w (ix2 k q) = if h : q.val < 512 then wq (ix2 k ⟨q, h⟩) else if h' : q.val - 512 < 256 then w (ix2 k ⟨q.val - 512, by omega⟩)
      else if h'' : q.val - 512 - 256 < 128 then laneRow (fun j => w (ix2 k ⟨256 + j, by omega⟩)) ⟨q.val - 512 - 256, h''⟩
      else laneRow (Mla.rot fun j => w (ix2 k ⟨256 + j, by omega⟩)) ⟨q.val - 512 - 256 - 128, by omega⟩ := by
  pointwise [packedMatrix, lanes, rotCols, peCols, padZero]
  exact dite_congr rfl (fun _ => rfl) fun _ => dite_congr rfl (fun _ => rfl) fun _ => dite_congr rfl
    (fun _ => dite_congr rfl (fun _ => rfl) fun _ => Cert.Reference4Ideal.Ref.sitofp_zero)
    fun _ => dite_congr rfl (fun _ => rfl) fun _ => Cert.Reference4Ideal.Ref.sitofp_zero

section

variable (wq : Vec Ideal S1024x512 .f32) (w : Vec Ideal S1024x288 .f32) (k : Fin 1024)

theorem packed_query (q : Fin 512) (h : q.val < 1024) : packedMatrix wq w (ix2 k ⟨q, h⟩) = wq (ix2 k q) :=
  (packedMatrix_at wq w k _).trans (dif_pos q.isLt)

theorem packed_latent (q : Fin 256) (h : 512 + q.val < 1024) (h' : q.val < 288) : packedMatrix wq w (ix2 k ⟨512 + q, h⟩) = w (ix2 k ⟨q, h'⟩) := by
  refine (packedMatrix_at wq w k _).trans ((dif_neg (by dsimp only; omega)).trans ((dif_pos (by dsimp only; omega)).trans ?_))
  exact congrArg (fun r => w (ix2 k r)) (Fin.ext (by dsimp only; omega))

theorem packed_pe (q : Fin 128) (h : 768 + q.val < 1024) :
    packedMatrix wq w (ix2 k ⟨768 + q, h⟩) = laneRow (fun j => w (ix2 k ⟨256 + j, by omega⟩)) q := by
  refine (packedMatrix_at wq w k _).trans ((dif_neg (by dsimp only; omega)).trans ((dif_neg (by dsimp only; omega)).trans
    ((dif_pos (by dsimp only; omega)).trans ?_)))
  exact congrArg (laneRow _) (Fin.ext (by dsimp only; omega))

theorem packed_rot (q : Fin 128) (h : 896 + q.val < 1024) :
    packedMatrix wq w (ix2 k ⟨896 + q, h⟩) = laneRow (Mla.rot fun j => w (ix2 k ⟨256 + j, by omega⟩)) q := by
  refine (packedMatrix_at wq w k _).trans ((dif_neg (by dsimp only; omega)).trans ((dif_neg (by dsimp only; omega)).trans
    ((dif_neg (by dsimp only; omega)).trans ?_)))
  exact congrArg (laneRow _) (Fin.ext (by dsimp only; omega))

end

end Cert.Kernel4Ideal.Block

end
-- ==== Proof.MlaStores.lean ====
/- What one grid point of the latent-attention projection stores, written with one function per head.

   The body multiplies the normalised row tile by one packed matrix.  Its columns are the query latent, the key and value
   latent, and the shared rotary key twice, plain and rotated.  From these it makes the three results head by head: the
   queries and the values transposed, the keys by rows.  `stores_q`, `stores_k` and `stores_v` say that the run's stores
   are these. -/
module

public import proofs.«01_k».proof.Proof.Gen.Kernel4Ideal.Frame
public import Idealize.ShloMosaic.Lib.Pipeline.ValueKit

@[expose] public section

set_option maxRecDepth 16384

noncomputable section

namespace Cert.Kernel4Ideal.Block

open Cert.Kernel4Ideal Cert.Kernel4Ideal.Gen Idealize.ShloMosaic Idealize.ShloMosaic.TcCoe Idealize.SL.Sem

variable {F : FTy → Type} [FloatOps F]

theorem inbK (h : ℕ) (hh : h < 16) : ∀ a, ![0, h, 0, 0] a + S1x1x512x128.size a ≤ S1x16x512x128.size a := by
  intro a; fin_cases a <;> simp [S1x1x512x128, S1x16x512x128]; omega

theorem inbV (h : ℕ) (hh : h < 16) : ∀ a, ![0, h, 0, 0] a + S1x1x64x512.size a ≤ S1x16x64x512.size a := by
  intro a; fin_cases a <;> simp [S1x1x64x512, S1x16x64x512]; omega

theorem inbN (h : ℕ) (hh : h < 16) : ∀ a, ![0, h, 0, 0] a + S1x1x64x512.size a ≤ S1x16x128x512.size a := by
  intro a; fin_cases a <;> simp [S1x1x64x512, S1x16x128x512]; omega

theorem inbR (h r : ℕ) (hh : h < 16) (hr : r ≤ 96) : ∀ a, ![0, h, r, 0] a + S1x1x32x512.size a ≤ S1x16x128x512.size a := by
  intro a; fin_cases a <;> simp [S1x1x32x512, S1x16x128x512] <;> omega

theorem slicesK (h : ℕ) (hh : h < 16) : S512x2048.Slices ![0, 128 * h] S512x128 :=
  ⟨rfl, fun a => by fin_cases a <;> simp [S512x2048, S512x128]; omega⟩

theorem slicesV (h : ℕ) (hh : h < 16) : S1024x512.Slices ![64 * h, 0] S64x512 :=
  ⟨rfl, fun a => by fin_cases a <;> simp [S1024x512, S64x512]; omega⟩

theorem slicesN (h : ℕ) (hh : h < 16) : S1536x512.Slices ![96 * h, 0] S64x512 :=
  ⟨rfl, fun a => by fin_cases a <;> simp [S1536x512, S64x512]; omega⟩

theorem slicesR (h : ℕ) (hh : h < 16) : S1536x512.Slices ![96 * h + 64, 0] S32x512 :=
  ⟨rfl, fun a => by fin_cases a <;> simp [S1536x512, S32x512]; omega⟩

/-- The key and value latent of the tile, before its normalisation. -/
def latent (y : FVec F S512x1024 .f32) : FVec F S512x256 .f32 :=
  extractStridedSlice S512x256 ![0, 512] y slices_S512x1024_o0_512_S512x256

/-- The sums of its rows' squares. -/
def squares (z : FVec F S512x256 .f32) : FVec F S512x1 .f32 :=
  shapeCast S512x1 (multiReduction .add [1] S512 (mulf z z) 0x00000000#32 reduces_S512x256_S512 (.inl rfl) rfl) shapeCasts_S512_S512x1

/-- All heads' keys without a position. -/
def keys (y : FVec F S512x1024 .f32) (g : Vec F S1x256 .f32) (w : Vec F S256x2048 .bf16) : FVec F S512x2048 .f32 :=
  k0_pay10 (latent y) (k0_pay6 g) (squares (latent y)) (Scalar.ofBits .f32 0x43800000#32) w

/-- All heads' values, transposed. -/
def values (y : FVec F S512x1024 .f32) (g : Vec F S1x256 .f32) (w : Vec F S1024x256 .bf16) : FVec F S1024x512 .f32 :=
  k0_pay11 (latent y) (k0_pay6 g) (squares (latent y)) (Scalar.ofBits .f32 0x43800000#32) w

/-- A head's keys: its columns of the product `p`, and the shared rotary key `r`. -/
def kHead (p : FVec F S512x2048 .f32) (r : FVec F S512x128 .f32) (h : ℕ) (hh : h < 16) : FVec F S1x1x512x128 .bf16 :=
  shapeCast S1x1x512x128 (truncf .bf16 (addf (extractStridedSlice S512x128 ![0, 128 * h] p (slicesK h hh)) r) bitsLt_bf16_f32) shapeCasts_S512x128_S1x1x512x128

/-- A head's values: its rows of the product `p`. -/
def vHead (p : FVec F S1024x512 .f32) (h : ℕ) (hh : h < 16) : FVec F S1x1x64x512 .bf16 :=
  shapeCast S1x1x64x512 (truncf .bf16 (extractStridedSlice S64x512 ![64 * h, 0] p (slicesV h hh)) bitsLt_bf16_f32) shapeCasts_S64x512_S1x1x64x512

/-- A head's queries without a position: the first 64 of its rows of the product `p`. -/
def nopeHead (p : FVec F S1536x512 .f32) (h : ℕ) (hh : h < 16) : FVec F S1x1x64x512 .bf16 :=
  shapeCast S1x1x64x512 (truncf .bf16 (extractStridedSlice S64x512 ![96 * h, 0] p (slicesN h hh)) bitsLt_bf16_f32) shapeCasts_S64x512_S1x1x64x512

/-- Rows exchanged in the pairs of blocks of eight that the rotary embedding turns. -/
def swap (q : FVec F S32x512 .f32) : FVec F S32x512 .f32 :=
  concatenate S32x512 0 [⟨S8x512, extractStridedSlice S8x512 ![8, 0] q slices_S32x512_o8_0_S8x512⟩, ⟨S8x512, extractStridedSlice S8x512 ![0, 0] q slices_S32x512_o0_0_S8x512⟩,
    ⟨S8x512, extractStridedSlice S8x512 ![24, 0] q slices_S32x512_o24_0_S8x512⟩, ⟨S8x512, extractStridedSlice S8x512 ![16, 0] q slices_S32x512_o16_0_S8x512⟩] concatenates_S8x512_S8x512_S8x512_S8x512_S32x512_d0

/-- A head's queries turned by the position. -/
def ropeHead (p : FVec F S1536x512 .f32) (cs sn : Vec F S32x512 .f32) (h : ℕ) (hh : h < 16) : FVec F S1x1x32x512 .bf16 :=
  k0_pay57 (k0_pay50 cs) (k0_pay51 sn) (extractStridedSlice S32x512 ![96 * h + 64, 0] p (slicesR h hh))
    (swap (extractStridedSlice S32x512 ![96 * h + 64, 0] p (slicesR h hh)))

/-- The stores of the first `n` heads' keys, the last first. -/
def kStores (f : (h : ℕ) → h < 16 → FVec F S1x1x512x128 .bf16) : (n : ℕ) → n ≤ 16 → List (View.Piece (Elt F) S1x16x512x128 .bf16)
  | 0, _ => []
  | n + 1, hn => ⟨Rect.unit ![0, n, 0, 0] S1x1x512x128.size (inbK n (by omega)), f n (by omega)⟩ :: kStores f n (by omega)

/-- The stores of the first `n` heads' values, the last first. -/
def vStores (f : (h : ℕ) → h < 16 → FVec F S1x1x64x512 .bf16) : (n : ℕ) → n ≤ 16 → List (View.Piece (Elt F) S1x16x64x512 .bf16)
  | 0, _ => []
  | n + 1, hn => ⟨Rect.unit ![0, n, 0, 0] S1x1x64x512.size (inbV n (by omega)), f n (by omega)⟩ :: vStores f n (by omega)

/-- The stores of the first `n` heads' queries, the last first: three for a head. -/
def qStores (f : (h : ℕ) → h < 16 → FVec F S1x1x64x512 .bf16) (g : (h : ℕ) → h < 16 → FVec F S1x1x32x512 .bf16) :
    (n : ℕ) → n ≤ 16 → List (View.Piece (Elt F) S1x16x128x512 .bf16)
  | 0, _ => []
  | n + 1, hn => ⟨Rect.unit ![0, n, 96, 0] S1x1x32x512.size (inbR n 96 (by omega) (by omega)), k0_pay58 k0_pay52⟩
      :: ⟨Rect.unit ![0, n, 64, 0] S1x1x32x512.size (inbR n 64 (by omega) (by omega)), g n (by omega)⟩
      :: ⟨Rect.unit ![0, n, 0, 0] S1x1x64x512.size (inbN n (by omega)), f n (by omega)⟩ :: qStores f g n (by omega)

section

variable (c : Dev nD) (i : grid0.Coords) (a2 : Memref sig .tc .vmem S1x512x1024 .f32) (h2 : a2.IsWhole) (a3 : Memref sig .tc .vmem S1x2x1024 .f32) (h3 : a3.IsWhole) (a4 : Memref sig .tc .vmem S1x1024 .f32) (h4 : a4.IsWhole) (a5 : Memref sig .tc .vmem S1024x1024 .bf16) (h5 : a5.IsWhole) (a6 : Memref sig .tc .vmem S1x512 .f32) (h6 : a6.IsWhole) (a7 : Memref sig .tc .vmem S1536x512 .bf16) (h7 : a7.IsWhole) (a8 : Memref sig .tc .vmem S1x256 .f32) (h8 : a8.IsWhole) (a9 : Memref sig .tc .vmem S256x2048 .bf16) (h9 : a9.IsWhole) (a10 : Memref sig .tc .vmem S1024x256 .bf16) (h10 : a10.IsWhole) (a11 : Memref sig .tc .vmem S512x128 .f32) (h11 : a11.IsWhole) (a12 : Memref sig .tc .vmem S512x128 .f32) (h12 : a12.IsWhole) (a13 : Memref sig .tc .vmem S32x512 .f32) (h13 : a13.IsWhole) (a14 : Memref sig .tc .vmem S32x512 .f32) (h14 : a14.IsWhole) (a15 : Memref sig .tc .vmem S1x16x128x512 .bf16) (h15 : a15.IsWhole) (a16 : Memref sig .tc .vmem S1x16x512x128 .bf16) (h16 : a16.IsWhole) (a17 : Memref sig .tc .vmem S1x16x64x512 .bf16) (h17 : a17.IsWhole)
  (x0 : Vec F S1x512x1024 .f32) (x1 : Vec F S1x2x1024 .f32) (x2 : Vec F S1x1024 .f32) (x3 : Vec F S1024x1024 .bf16) (x4 : Vec F S1x512 .f32) (x5 : Vec F S1536x512 .bf16) (x6 : Vec F S1x256 .f32) (x7 : Vec F S256x2048 .bf16) (x8 : Vec F S1024x256 .bf16) (x9 : Vec F S512x128 .f32) (x10 : Vec F S512x128 .f32) (x11 : Vec F S32x512 .f32) (x12 : Vec F S32x512 .f32)

/-- The tile's rows times the packed matrix, from what the point's buffers hold. -/
def packed : FVec F S512x1024 .f32 :=
  k0_pay4 (View.readAt (Elt F) a2.view (Rect.unit (s := S1x512x1024) ![0, 0, 0] S1x512x1024.size (by decide)).toLoadRect (h2.unread x0)) (View.readAt (Elt F) a4.view (Rect.unit (s := S1x1024) ![0, 0] S1x1024.size (by decide)).toLoadRect (h4.unread x2)) (View.readAt (Elt F) a3.view (Rect.unit (s := S1x2x1024) ![0, 1, 0] S1x1x1024.size (by decide)).toLoadRect (h3.unread x1)) (View.readAt (Elt F) a3.view (Rect.unit (s := S1x2x1024) ![0, 0, 0] S1x1x1024.size (by decide)).toLoadRect (h3.unread x1)) (View.readAt (Elt F) a5.view (Rect.unit (s := S1024x1024) ![0, 0] S1024x1024.size (by decide)).toLoadRect (h5.unread x3))

set_option maxHeartbeats 2000000 in
/-- The stores of the queries that the run of the body found are these. -/
theorem stores_q :
    (kernelRun0_A c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12).1 =
      (let p := k0_pay49 (packed a2 h2 a3 h3 a4 h4 a5 h5 x0 x1 x2 x3) (View.readAt (Elt F) a6.view (Rect.unit (s := S1x512) ![0, 0] S1x512.size (by decide)).toLoadRect (h6.unread x4))
          (View.readAt (Elt F) a7.view (Rect.unit (s := S1536x512) ![0, 0] S1536x512.size (by decide)).toLoadRect (h7.unread x5))
       qStores (nopeHead p) (ropeHead p (View.readAt (Elt F) a13.view (Rect.unit (s := S32x512) ![0, 0] S32x512.size (by decide)).toLoadRect (h13.unread x11))
          (View.readAt (Elt F) a14.view (Rect.unit (s := S32x512) ![0, 0] S32x512.size (by decide)).toLoadRect (h14.unread x12))) 16 (by omega)) :=
  rfl

set_option maxHeartbeats 2000000 in
/-- The stores of the keys that the run of the body found are these. -/
theorem stores_k :
    (kernelRun0_A c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12).2.1 =
      (let y := packed a2 h2 a3 h3 a4 h4 a5 h5 x0 x1 x2 x3
       kStores (kHead (keys y (View.readAt (Elt F) a8.view (Rect.unit (s := S1x256) ![0, 0] S1x256.size (by decide)).toLoadRect (h8.unread x6))
          (View.readAt (Elt F) a9.view (Rect.unit (s := S256x2048) ![0, 0] S256x2048.size (by decide)).toLoadRect (h9.unread x7)))
          (k0_pay9 y (View.readAt (Elt F) a11.view (Rect.unit (s := S512x128) ![0, 0] S512x128.size (by decide)).toLoadRect (h11.unread x9))
          (View.readAt (Elt F) a12.view (Rect.unit (s := S512x128) ![0, 0] S512x128.size (by decide)).toLoadRect (h12.unread x10)))) 16 (by omega)) :=
  rfl

set_option maxHeartbeats 2000000 in
/-- The stores of the values that the run of the body found are these. -/
theorem stores_v :
    (kernelRun0_A c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12).2.2.1 =
      vStores (vHead (values (packed a2 h2 a3 h3 a4 h4 a5 h5 x0 x1 x2 x3) (View.readAt (Elt F) a8.view (Rect.unit (s := S1x256) ![0, 0] S1x256.size (by decide)).toLoadRect (h8.unread x6))
        (View.readAt (Elt F) a10.view (Rect.unit (s := S1024x256) ![0, 0] S1024x256.size (by decide)).toLoadRect (h10.unread x8)))) 16 (by omega) :=
  rfl

end

end Cert.Kernel4Ideal.Block

end
-- ==== Proof.MlaPoint.lean ====
/- One grid point of the latent-attention projection at an index: the packed product's parts, the three results by heads,
   and the results' tiles by rows of the reference's mathematics. -/
module

public import proofs.«01_k».proof.Proof.MlaStores
public import proofs.«01_k».proof.Proof.MlaMath
public import Idealize.ShloMosaic.Lib.Pointwise
public import Idealize.ShloMosaic.Lib.Pipeline.ReadBack

@[expose] public section

set_option maxRecDepth 16384

noncomputable section

namespace Cert.Kernel4Ideal.Block

open Cert.Kernel4Ideal Cert.Kernel4Ideal.Gen Idealize.ShloMosaic Idealize.ShloMosaic.TcCoe Idealize.SL.Sem

/-! ## The steps at an index -/

theorem packed_at (X : Vec Ideal S1x512x1024 .f32) (g : Vec Ideal S1x1024 .f32) (sc sh : Vec Ideal S1x1x1024 .f32) (w : Vec Ideal S1024x1024 .bf16)
    (r : Fin 512) (q : Fin 1024) :
    k0_pay4 (F := Ideal) X g sc sh w (ix2 r q) =
      ∑ k, Ffn.hid (fun k => g (ix2 0 k)) (fun k => sc (ix3 0 0 k)) (fun k => sh (ix3 0 0 k)) (fun k => X (ix3 0 r k)) k * w (ix2 k q) := by
  unfold Ffn.hid Ffn.norm
  unfold_payloads
  pointwise []

theorem keys_at (y : FVec Ideal S512x1024 .f32) (g : Vec Ideal S1x256 .f32) (w : Vec Ideal S256x2048 .bf16) (r : Fin 512) (q : Fin 2048) :
    keys y g w (ix2 r q) = ∑ k, Mla.norm 1132462080#32 (fun k : Fin 256 => y (ix2 r ⟨512 + k, by omega⟩)) (fun k => g (ix2 0 k)) k * w (ix2 k q) := by
  unfold Mla.norm keys squares latent
  unfold_payloads
  pointwise []

theorem values_at (y : FVec Ideal S512x1024 .f32) (g : Vec Ideal S1x256 .f32) (w : Vec Ideal S1024x256 .bf16) (q : Fin 1024) (r : Fin 512) :
    values y g w (ix2 q r) = ∑ k, w (ix2 q k) * Mla.norm 1132462080#32 (fun k : Fin 256 => y (ix2 r ⟨512 + k, by omega⟩)) (fun k => g (ix2 0 k)) k := by
  unfold Mla.norm values squares latent
  unfold_payloads
  pointwise []

theorem queries_at (y : FVec Ideal S512x1024 .f32) (g : Vec Ideal S1x512 .f32) (w : Vec Ideal S1536x512 .bf16) (q : Fin 1536) (r : Fin 512) :
    k0_pay49 (F := Ideal) y g w (ix2 q r) =
      (∑ k, w (ix2 q k) * Mla.norm 1140850688#32 (fun k : Fin 512 => y (ix2 r ⟨k, by omega⟩)) (fun k => g (ix2 0 k)) k) * Ideal.ofBits FTy.f32 1041680192#32 := by
  unfold Mla.norm
  unfold_payloads
  pointwise []

theorem shared_at (y : FVec Ideal S512x1024 .f32) (cs sn : Vec Ideal S512x128 .f32) (r : Fin 512) (q : Fin 128) :
    k0_pay9 (F := Ideal) y cs sn (ix2 r q) = y (ix2 r ⟨768 + q, by omega⟩) * cs (ix2 r q) + y (ix2 r ⟨896 + q, by omega⟩) * sn (ix2 r q) := by
  unfold_payloads
  pointwise []

theorem kHead_at (p : FVec Ideal S512x2048 .f32) (z : FVec Ideal S512x128 .f32) (h : ℕ) (hh : h < 16) (a b : Fin 1) (r : Fin 512) (i : Fin 128) :
    kHead p z h hh (ix4 a b r i) = p (ix2 r ⟨128 * h + i, by omega⟩) + z (ix2 r i) := by
  pointwise [kHead]

theorem vHead_at (p : FVec Ideal S1024x512 .f32) (h : ℕ) (hh : h < 16) (a b : Fin 1) (i : Fin 64) (r : Fin 512) :
    vHead p h hh (ix4 a b i r) = p (ix2 ⟨64 * h + i, by omega⟩ r) := by
  pointwise [vHead]

theorem nopeHead_at (p : FVec Ideal S1536x512 .f32) (h : ℕ) (hh : h < 16) (a b : Fin 1) (i : Fin 64) (r : Fin 512) :
    nopeHead p h hh (ix4 a b i r) = p (ix2 ⟨96 * h + i, by omega⟩ r) := by
  pointwise [nopeHead]

theorem ropeHead_at (p : FVec Ideal S1536x512 .f32) (cs sn : Vec Ideal S32x512 .f32) (h : ℕ) (hh : h < 16) (a b : Fin 1) (j : Fin 32) (r : Fin 512) :
    ropeHead p cs sn h hh (ix4 a b j r) = p (ix2 ⟨96 * h + 64 + j, by omega⟩ r) * cs (ix2 j r)
      + Mla.swap (fun j => p (ix2 ⟨96 * h + 64 + j, by omega⟩ r)) j * sn (ix2 j r) := by
  unfold Mla.swap ropeHead swap
  unfold_payloads
  pointwise []

theorem zeros_at (a b : Fin 1) (j : Fin 32) (r : Fin 512) : k0_pay58 (F := Ideal) k0_pay52 (ix4 a b j r) = 0 := by
  unfold_payloads
  pointwise []

/-! ## The stores -/

theorem piece_eq {A C B : ℕ} (n o : ℕ) (hn : n < 16) (inb : ∀ a, ![0, n, o, 0] a + (⟨4, ![1, 1, C, B]⟩ : Shape).size a ≤ (⟨4, ![1, 16, A, B]⟩ : Shape).size a)
    (f : (⟨4, ![1, 1, C, B]⟩ : Shape).Idx → EReal) (G : Fin 16 → Fin A → Fin B → EReal)
    (hG : ∀ (a b : Fin 1) (r : Fin C) (q : Fin B) (hr : o + r < A), f (ix4 a b r q) = G ⟨n, hn⟩ ⟨o + r, hr⟩ q)
    (x : (Rect.unit (s := ⟨4, ![1, 16, A, B]⟩) ![0, n, o, 0] (⟨4, ![1, 1, C, B]⟩ : Shape).size inb).shape.Idx) :
    f x = (fun y : (⟨4, ![1, 16, A, B]⟩ : Shape).Idx => G (y 1) (y 2) (y 3)) ((Rect.unit (s := ⟨4, ![1, 16, A, B]⟩) ![0, n, o, 0] (⟨4, ![1, 1, C, B]⟩ : Shape).size inb).emb x) := by
  have e0 : ∀ a, ((Rect.unit (s := ⟨4, ![1, 16, A, B]⟩) ![0, n, o, 0] (⟨4, ![1, 1, C, B]⟩ : Shape).size inb).emb x a : ℕ) = ![0, n, o, 0] a + x a := fun a =>
    Rect.idx_unit_val _ _ _ _ a
  generalize (Rect.unit (s := ⟨4, ![1, 16, A, B]⟩) ![0, n, o, 0] (⟨4, ![1, 1, C, B]⟩ : Shape).size inb).emb x = y at e0
  change (⟨4, ![1, 1, C, B]⟩ : Shape).Idx at x
  have e1 : (y 1 : ℕ) = n + (x 1 : ℕ) := e0 1
  have e2 : (y 2 : ℕ) = o + (x 2 : ℕ) := e0 2
  have e3 : (y 3 : ℕ) = 0 + (x 3 : ℕ) := e0 3
  have l1 : (x 1 : ℕ) < 1 := (x 1).isLt
  have l2 : o + (x 2 : ℕ) < A := by rw [← e2]; exact (y 2).isLt
  have hx : x = ix4 (x 0 : Fin 1) (x 1 : Fin 1) (x 2 : Fin C) (x 3 : Fin B) := funext fun a => match a with | 0 => rfl | 1 => rfl | 2 => rfl | 3 => rfl
  have h1 : (y 1 : Fin 16) = ⟨n, hn⟩ := Fin.ext (by rw [e1]; dsimp only; omega)
  have h2 : (y 2 : Fin A) = ⟨o + (x 2 : ℕ), l2⟩ := Fin.ext e2
  have h3 : (y 3 : Fin B) = (x 3 : Fin B) := Fin.ext (e3.trans (Nat.zero_add _))
  refine (congrArg f hx).trans ((hG (x 0) (x 1) (x 2) (x 3) l2).trans ?_)
  change _ = G (y 1) (y 2) (y 3)
  rw [h1, h2, h3]
  rfl

theorem piece_mem {A C B : ℕ} (n o : ℕ) (inb : ∀ a, ![0, n, o, 0] a + (⟨4, ![1, 1, C, B]⟩ : Shape).size a ≤ (⟨4, ![1, 16, A, B]⟩ : Shape).size a)
    (y : (⟨4, ![1, 16, A, B]⟩ : Shape).Idx) (h1 : (y 1 : ℕ) = n) (h2 : o ≤ (y 2 : ℕ) ∧ (y 2 : ℕ) < o + C) :
    y ∈ (Rect.unit (s := ⟨4, ![1, 16, A, B]⟩) ![0, n, o, 0] (⟨4, ![1, 1, C, B]⟩ : Shape).size inb).set := by
  rw [Rect.mem_set_unit]
  have h0 : (y 0 : ℕ) < 1 := (y 0).isLt
  have h3 : (y 3 : ℕ) < B := (y 3).isLt
  intro a
  match a with
  | 0 => change 0 ≤ (y 0 : ℕ) ∧ (y 0 : ℕ) < 0 + 1; omega
  | 1 => change n ≤ (y 1 : ℕ) ∧ (y 1 : ℕ) < n + 1; omega
  | 2 => exact h2
  | 3 => change 0 ≤ (y 3 : ℕ) ∧ (y 3 : ℕ) < 0 + B; omega

/-- Heads of keys stored one after another. -/
theorem canon_kStores (f : (h : ℕ) → h < 16 → FVec Ideal S1x1x512x128 .bf16) (G : Fin 16 → Fin 512 → Fin 128 → EReal)
    (hG : ∀ (h : ℕ) (hh : h < 16) (a b : Fin 1) (r : Fin 512) (q : Fin 128), f h hh (ix4 a b r q) = G ⟨h, hh⟩ r q) (y : S1x16x512x128.Idx) :
    View.canon (Val := Elt Ideal) (kStores f 16 (by omega)) y = G (y 1) (y 2) (y 3) := by
  have pieces : ∀ n hn, View.PiecesOf (Val := Elt Ideal) (fun y : S1x16x512x128.Idx => G (y 1) (y 2) (y 3)) (kStores f n hn) := fun n => by
    induction n with
    | zero => exact fun _ => trivial
    | succ n ih => exact fun hn => ⟨piece_eq n 0 (by omega) (inbK n (by omega)) (f n (by omega)) G
        (fun a b r q hr => (hG n (by omega) a b r q).trans (by simp only [Nat.zero_add])), ih (by omega)⟩
  have mem : ∀ n hn, (y 1 : ℕ) < n → ∃ p ∈ kStores f n hn, y ∈ p.1.set := fun n => by
    induction n with
    | zero => exact fun _ h => absurd h (by omega)
    | succ n ih =>
      intro hn h
      by_cases h' : (y 1 : ℕ) < n
      · obtain ⟨p, hp, hy⟩ := ih (by omega) h'
        exact ⟨p, List.mem_cons_of_mem _ hp, hy⟩
      · have h2 : (y 2 : ℕ) < 512 := (y 2).isLt
        exact ⟨_, List.mem_cons_self, piece_mem n 0 (inbK n (by omega)) y (by omega) (by omega)⟩
  rw [← List.append_nil (kStores f 16 (by omega))]
  exact View.canon_append_of_piecesOf _ [] _ (pieces 16 _) y (mem 16 _ (y 1).isLt)

/-- Heads of values stored one after another. -/
theorem canon_vStores (f : (h : ℕ) → h < 16 → FVec Ideal S1x1x64x512 .bf16) (G : Fin 16 → Fin 64 → Fin 512 → EReal)
    (hG : ∀ (h : ℕ) (hh : h < 16) (a b : Fin 1) (r : Fin 64) (q : Fin 512), f h hh (ix4 a b r q) = G ⟨h, hh⟩ r q) (y : S1x16x64x512.Idx) :
    View.canon (Val := Elt Ideal) (vStores f 16 (by omega)) y = G (y 1) (y 2) (y 3) := by
  have pieces : ∀ n hn, View.PiecesOf (Val := Elt Ideal) (fun y : S1x16x64x512.Idx => G (y 1) (y 2) (y 3)) (vStores f n hn) := fun n => by
    induction n with
    | zero => exact fun _ => trivial
    | succ n ih => exact fun hn => ⟨piece_eq n 0 (by omega) (inbV n (by omega)) (f n (by omega)) G
        (fun a b r q hr => (hG n (by omega) a b r q).trans (by simp only [Nat.zero_add])), ih (by omega)⟩
  have mem : ∀ n hn, (y 1 : ℕ) < n → ∃ p ∈ vStores f n hn, y ∈ p.1.set := fun n => by
    induction n with
    | zero => exact fun _ h => absurd h (by omega)
    | succ n ih =>
      intro hn h
      by_cases h' : (y 1 : ℕ) < n
      · obtain ⟨p, hp, hy⟩ := ih (by omega) h'
        exact ⟨p, List.mem_cons_of_mem _ hp, hy⟩
      · have h2 : (y 2 : ℕ) < 64 := (y 2).isLt
        exact ⟨_, List.mem_cons_self, piece_mem n 0 (inbV n (by omega)) y (by omega) (by omega)⟩
  rw [← List.append_nil (vStores f 16 (by omega))]
  exact View.canon_append_of_piecesOf _ [] _ (pieces 16 _) y (mem 16 _ (y 1).isLt)

/-- Heads of queries stored one after another, each in three parts. -/
theorem canon_qStores (f : (h : ℕ) → h < 16 → FVec Ideal S1x1x64x512 .bf16) (g : (h : ℕ) → h < 16 → FVec Ideal S1x1x32x512 .bf16)
    (G : Fin 16 → Fin 128 → Fin 512 → EReal)
    (hf : ∀ (h : ℕ) (hh : h < 16) (a b : Fin 1) (i : Fin 64) (r : Fin 512), f h hh (ix4 a b i r) = G ⟨h, hh⟩ ⟨i, by omega⟩ r)
    (hg : ∀ (h : ℕ) (hh : h < 16) (a b : Fin 1) (j : Fin 32) (r : Fin 512), g h hh (ix4 a b j r) = G ⟨h, hh⟩ ⟨64 + j, by omega⟩ r)
    (hz : ∀ (h : ℕ) (hh : h < 16) (j : Fin 32) (r : Fin 512), 0 = G ⟨h, hh⟩ ⟨96 + j, by omega⟩ r) (y : S1x16x128x512.Idx) :
    View.canon (Val := Elt Ideal) (qStores f g 16 (by omega)) y = G (y 1) (y 2) (y 3) := by
  have pieces : ∀ n hn, View.PiecesOf (Val := Elt Ideal) (fun y : S1x16x128x512.Idx => G (y 1) (y 2) (y 3)) (qStores f g n hn) := fun n => by
    induction n with
    | zero => exact fun _ => trivial
    | succ n ih =>
      exact fun hn => ⟨piece_eq n 96 (by omega) (inbR n 96 (by omega) (by omega)) (k0_pay58 (F := Ideal) k0_pay52) G
          (fun a b r q hr => (zeros_at a b r q).trans (hz n (by omega) r q)),
        piece_eq n 64 (by omega) (inbR n 64 (by omega) (by omega)) (g n (by omega)) G (fun a b r q hr => hg n (by omega) a b r q),
        piece_eq n 0 (by omega) (inbN n (by omega)) (f n (by omega)) G
          (fun a b r q hr => (hf n (by omega) a b r q).trans (by simp only [Nat.zero_add])), ih (by omega)⟩
  have mem : ∀ n hn, (y 1 : ℕ) < n → ∃ p ∈ qStores f g n hn, y ∈ p.1.set := fun n => by
    induction n with
    | zero => exact fun _ h => absurd h (by omega)
    | succ n ih =>
      intro hn h
      by_cases h' : (y 1 : ℕ) < n
      · obtain ⟨p, hp, hy⟩ := ih (by omega) h'
        exact ⟨p, List.mem_cons_of_mem _ (List.mem_cons_of_mem _ (List.mem_cons_of_mem _ hp)), hy⟩
      · have h2 : (y 2 : ℕ) < 128 := (y 2).isLt
        by_cases c1 : (y 2 : ℕ) < 64
        · exact ⟨_, List.mem_cons_of_mem _ (List.mem_cons_of_mem _ List.mem_cons_self), piece_mem n 0 (inbN n (by omega)) y (by omega) (by omega)⟩
        · by_cases c2 : (y 2 : ℕ) < 96
          · exact ⟨_, List.mem_cons_of_mem _ List.mem_cons_self, piece_mem n 64 (inbR n 64 (by omega) (by omega)) y (by omega) (by omega)⟩
          · exact ⟨_, List.mem_cons_self, piece_mem n 96 (inbR n 96 (by omega) (by omega)) y (by omega) (by omega)⟩
  rw [← List.append_nil (qStores f g 16 (by omega))]
  exact View.canon_append_of_piecesOf _ [] _ (pieces 16 _) y (mem 16 _ (y 1).isLt)

/-! ## The tiles of the results -/

/-- What a grid point's inputs are, in terms of the layer's data `d` and the tile's number `j`. -/
structure Reads (d : Mla.Data) (j : ℕ) (X : Vec Ideal S1x512x1024 .f32) (g : Vec Ideal S1x1024 .f32) (sc sh : Vec Ideal S1x1x1024 .f32)
    (w : Vec Ideal S1024x1024 .bf16) (gq : Vec Ideal S1x512 .f32) (wq : Vec Ideal S1536x512 .bf16) (gkv : Vec Ideal S1x256 .f32)
    (wk : Vec Ideal S256x2048 .bf16) (wv : Vec Ideal S1024x256 .bf16) (ck sk : Vec Ideal S512x128 .f32) (cq sq : Vec Ideal S32x512 .f32) : Prop where
  lt : j < 4
  x : ∀ (r : Fin 512) (s : Fin 2048) (_ : s.val = 512 * j + r) k, X (ix3 0 r k) = d.x s k
  g : ∀ k, g (ix2 0 k) = d.g k
  sc : ∀ k, sc (ix3 0 0 k) = d.md 1 k
  sh : ∀ k, sh (ix3 0 0 k) = d.md 0 k
  wdq : ∀ k (q : Fin 512), w (ix2 k ⟨q, by omega⟩) = d.wdq k q
  wkv : ∀ k (q : Fin 256), w (ix2 k ⟨512 + q, by omega⟩) = d.wkv k ⟨q, by omega⟩
  wpe : ∀ k (q : Fin 32), w (ix2 k ⟨768 + (64 + q), by omega⟩) = d.wkv k ⟨256 + q, by omega⟩
  wpe0 : ∀ k (q : Fin 128), q.val < 64 ∨ 96 ≤ q.val → w (ix2 k ⟨768 + q, by omega⟩) = 0
  wrot : ∀ k (q : Fin 32), w (ix2 k ⟨896 + (64 + q), by omega⟩) = Mla.rot (fun j => d.wkv k ⟨256 + j, by omega⟩) q
  wrot0 : ∀ k (q : Fin 128), q.val < 64 ∨ 96 ≤ q.val → w (ix2 k ⟨896 + q, by omega⟩) = 0
  gq : ∀ k, gq (ix2 0 k) = d.gq k
  wq : ∀ q k, wq (ix2 q k) = d.wuq k q
  gkv : ∀ k, gkv (ix2 0 k) = d.gkv k
  wuk : ∀ k (h : Fin 16) (i : Fin 64), wk (ix2 k ⟨128 * h + i, by omega⟩) = d.wuk k ⟨h * 64 + i, by omega⟩
  wuk0 : ∀ k (h : Fin 16) (i : Fin 128), 64 ≤ i.val → wk (ix2 k ⟨128 * h + i, by omega⟩) = 0
  wv : ∀ q k, wv (ix2 q k) = d.wuv k q
  ck : ∀ (r : Fin 512) (s : Fin 2048) (_ : s.val = 512 * j + r) (q : Fin 32), ck (ix2 r ⟨64 + q, by omega⟩) = d.cs s q
  sk : ∀ (r : Fin 512) (s : Fin 2048) (_ : s.val = 512 * j + r) (q : Fin 32), sk (ix2 r ⟨64 + q, by omega⟩) = d.sn s q
  cq : ∀ (r : Fin 512) (s : Fin 2048) (_ : s.val = 512 * j + r) (q : Fin 32), cq (ix2 q r) = d.cs s q
  sq : ∀ (r : Fin 512) (s : Fin 2048) (_ : s.val = 512 * j + r) (q : Fin 32), sq (ix2 q r) = d.sn s q * Mla.sgn q

section

variable {d : Mla.Data} {j : ℕ} {X : Vec Ideal S1x512x1024 .f32} {g : Vec Ideal S1x1024 .f32} {sc sh : Vec Ideal S1x1x1024 .f32}
  {w : Vec Ideal S1024x1024 .bf16} {gq : Vec Ideal S1x512 .f32} {wq : Vec Ideal S1536x512 .bf16} {gkv : Vec Ideal S1x256 .f32}
  {wk : Vec Ideal S256x2048 .bf16} {wv : Vec Ideal S1024x256 .bf16} {ck sk : Vec Ideal S512x128 .f32} {cq sq : Vec Ideal S32x512 .f32}
  (R : Reads d j X g sc sh w gq wq gkv wk wv ck sk cq sq)

include R

section

variable (r : Fin 512) (s : Fin 2048) (hs : s.val = 512 * j + r)

include hs

theorem packed_eq (q : Fin 1024) : k0_pay4 (F := Ideal) X g sc sh w (ix2 r q) = ∑ k, Mla.hidAt d s k * w (ix2 k q) := by
  rw [packed_at]
  simp only [R.x r s hs, R.g, R.sc, R.sh]
  rfl

theorem query_latent_eq : (fun k : Fin 512 => k0_pay4 (F := Ideal) X g sc sh w (ix2 r ⟨k, by omega⟩)) = Mla.dqAt d s := by
  funext k
  rw [packed_eq R r s hs]
  simp only [R.wdq]
  rfl

theorem latent_eq : (fun k : Fin 256 => k0_pay4 (F := Ideal) X g sc sh w (ix2 r ⟨512 + k, by omega⟩)) = fun k : Fin 256 => Mla.dkvAt d s ⟨k, by omega⟩ := by
  funext k
  rw [packed_eq R r s hs]
  simp only [R.wkv]
  rfl

theorem gkv_eq : (fun k => gkv (ix2 0 k)) = d.gkv := funext R.gkv

theorem gq_eq : (fun k => gq (ix2 0 k)) = d.gq := funext R.gq

/-- All heads' queries, scaled. -/
theorem queries_eq (q : Fin 1536) :
    k0_pay49 (F := Ideal) (k0_pay4 X g sc sh w) gq wq (ix2 q r) = Mla.uqAt d s q * Ideal.ofBits FTy.f32 1041680192#32 := by
  rw [queries_at, query_latent_eq R r s hs, gq_eq R r s hs]
  simp only [R.wq, mul_comm (d.wuq _ _)]
  rfl

theorem values_eq (q : Fin 1024) : values (k0_pay4 X g sc sh w) gkv wv (ix2 q r) = ∑ k, Mla.ckvAt d s k * d.wuv k q := by
  rw [values_at, latent_eq R r s hs, gkv_eq R r s hs]
  simp only [R.wv, mul_comm (d.wuv _ _)]
  rfl

theorem keys_eq (q : Fin 2048) : keys (k0_pay4 X g sc sh w) gkv wk (ix2 r q) = ∑ k, Mla.ckvAt d s k * wk (ix2 k q) := by
  rw [keys_at, latent_eq R r s hs, gkv_eq R r s hs]
  rfl

/-- The shared part of the keys, outside its lanes. -/
theorem shared_zero (q : Fin 128) (hq : q.val < 64 ∨ 96 ≤ q.val) : k0_pay9 (F := Ideal) (k0_pay4 X g sc sh w) ck sk (ix2 r q) = 0 := by
  rw [shared_at, packed_eq R r s hs, packed_eq R r s hs]
  simp only [R.wpe0 _ q hq, R.wrot0 _ q hq, mul_zero, Finset.sum_const_zero, zero_mul, add_zero]

/-- The shared part of the keys, in its lanes. -/
theorem shared_eq (hd : d.Finite) (q : Fin 32) :
    k0_pay9 (F := Ideal) (k0_pay4 X g sc sh w) ck sk (ix2 r ⟨64 + q, by omega⟩)
      = Mla.rope (d.cs s) (d.sn s) (fun j => Mla.dkvAt d s ⟨256 + j, by omega⟩) q := by
  rw [shared_at, packed_eq R r s hs, packed_eq R r s hs]
  simp only [R.wpe, R.wrot, R.ck r s hs, R.sk r s hs]
  rw [Mla.turned_key hd]
  rfl

end

/-- The values' tile: column `r` of tile `j` is position `512 j + r`. -/
theorem v_tile (y : S1x16x64x512.Idx) (s : Fin 2048) (h : s.val = 512 * j + (y 3).val) :
    View.canon (Val := Elt Ideal) (vStores (vHead (values (k0_pay4 X g sc sh w) gkv wv)) 16 (by omega)) y = Mla.vAt d (y 1) (y 2) s := by
  have hj := R.lt
  have hy : (y 3 : ℕ) < 512 := (y 3).isLt
  rw [show s = ⟨512 * j + (y 3 : ℕ), by omega⟩ from Fin.ext h]
  refine canon_vStores _ (fun h i r => Mla.vAt d h i ⟨512 * j + r, by omega⟩) (fun h hh a b i r => ?_) y
  rw [vHead_at, values_eq R r ⟨512 * j + r, by omega⟩ rfl]
  simp only [mul_comm 64 h]
  rfl

/-- The queries' tile. -/
theorem q_tile (y : S1x16x128x512.Idx) (s : Fin 2048) (h : s.val = 512 * j + (y 3).val) :
    View.canon (Val := Elt Ideal) (qStores (nopeHead (k0_pay49 (k0_pay4 X g sc sh w) gq wq)) (ropeHead (k0_pay49 (k0_pay4 X g sc sh w) gq wq) cq sq) 16 (by omega)) y
      = Mla.qAt d (y 1) (y 2) s := by
  have hj := R.lt
  have hy : (y 3 : ℕ) < 512 := (y 3).isLt
  rw [show s = ⟨512 * j + (y 3 : ℕ), by omega⟩ from Fin.ext h]
  refine canon_qStores _ _ (fun h i r => Mla.qAt d h i ⟨512 * j + r, by omega⟩) (fun h hh a b i r => ?_) (fun h hh a b q r => ?_) (fun h hh q r => ?_) y
  · rw [nopeHead_at, queries_eq R r ⟨512 * j + r, by omega⟩ rfl]
    unfold Mla.qAt
    rw [dif_pos (by dsimp only; omega), dif_pos (by dsimp only; omega)]
    simp only [mul_comm 96 h]
  · rw [ropeHead_at]
    simp only [queries_eq R r ⟨512 * j + r, by omega⟩ rfl, R.cq r ⟨512 * j + r, by omega⟩ rfl, R.sq r ⟨512 * j + r, by omega⟩ rfl]
    rw [Mla.turned_query (d.cs _) (d.sn _) (fun q => Mla.uqAt d _ ⟨96 * h + 64 + q, by omega⟩) q]
    unfold Mla.qAt
    rw [dif_pos (by dsimp only; omega), dif_neg (by dsimp only; omega)]
    simp only [Nat.add_sub_cancel_left, mul_comm 96 h, Nat.add_assoc]
    rfl
  · unfold Mla.qAt
    rw [dif_neg (by dsimp only; omega)]

/-- The keys' tile. -/
theorem k_tile (hd : d.Finite) (y : S1x16x512x128.Idx) (s : Fin 2048) (h : s.val = 512 * j + (y 2).val) :
    View.canon (Val := Elt Ideal) (kStores (kHead (keys (k0_pay4 X g sc sh w) gkv wk) (k0_pay9 (k0_pay4 X g sc sh w) ck sk)) 16 (by omega)) y
      = Mla.kAt d (y 1) s (y 3) := by
  have hj := R.lt
  have hy : (y 2 : ℕ) < 512 := (y 2).isLt
  rw [show s = ⟨512 * j + (y 2 : ℕ), by omega⟩ from Fin.ext h]
  refine canon_kStores _ (fun h r i => Mla.kAt d h ⟨512 * j + r, by omega⟩ i) (fun h hh a b r i => ?_) y
  rw [kHead_at, keys_eq R r ⟨512 * j + r, by omega⟩ rfl]
  unfold Mla.kAt
  by_cases h1 : i.val < 64
  · rw [dif_pos (by omega), dif_pos h1, shared_zero R r ⟨512 * j + r, by omega⟩ rfl i (Or.inl h1), add_zero]
    exact Finset.sum_congr rfl fun k _ => congrArg _ (R.wuk k ⟨h, hh⟩ ⟨i, h1⟩)
  · have z : ∑ k, Mla.ckvAt d ⟨512 * j + r, by omega⟩ k * wk (ix2 k ⟨128 * h + i, by omega⟩) = 0 :=
      Finset.sum_eq_zero fun k _ => by rw [R.wuk0 k ⟨h, hh⟩ i (by omega), mul_zero]
    rw [z, zero_add]
    by_cases h2 : i.val < 96
    · rw [dif_pos h2, dif_neg h1, ← shared_eq R r ⟨512 * j + r, by omega⟩ rfl hd]
      congr 2
      exact Fin.ext (by dsimp only; omega)
    · rw [dif_neg h2, shared_zero R r ⟨512 * j + r, by omega⟩ rfl i (Or.inr (by omega))]

end

end Cert.Kernel4Ideal.Block

end
-- ==== Proof.MlaArray.lean ====
/- The arrays the launch leaves: the queries, keys and values of every head at every position of every sequence. -/
module

public import proofs.«01_k».proof.Proof.MlaHost
public import proofs.«01_k».proof.Proof.MlaPoint
public import proofs.«01_k».proof.Proof.MlaRef
public import proofs.«01_k».proof.Proof.Gen.Kernel4Ideal.Value

@[expose] public section

set_option maxRecDepth 16384

noncomputable section

namespace Cert.Kernel4Ideal.Block

open Cert.Kernel4Ideal Cert.Kernel4Ideal.Gen Idealize.ShloMosaic Idealize.ShloMosaic.TcCoe Idealize.SL.Sem

variable (m : (ℓ : Loc nD τ sig) → Buf (Elt Ideal) ℓ) (c : Dev nD) (t : Fin cfg0.N)

theorem idx : ∀ t : Fin grid0.N,
    win0_0.index t = ![(grid0.coords t 0).val, (grid0.coords t 1).val, 0] ∧ win0_1.index t = ![(grid0.coords t 0).val, 0, 0]
    ∧ win0_2.index t = ![0, 0] ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![(grid0.coords t 1).val, 0] ∧ win0_10.index t = ![(grid0.coords t 1).val, 0]
    ∧ win0_11.index t = ![0, (grid0.coords t 1).val] ∧ win0_12.index t = ![0, (grid0.coords t 1).val]
    ∧ win0_13.index t = ![(grid0.coords t 0).val, 0, 0, (grid0.coords t 1).val] ∧ win0_14.index t = ![(grid0.coords t 0).val, 0, (grid0.coords t 1).val, 0]
    ∧ win0_15.index t = ![(grid0.coords t 0).val, 0, 0, (grid0.coords t 1).val] := by
  decide +kernel

/-- The data of sequence `b`, read off the arguments. -/
def layer (b : Fin 8) : Mla.Data :=
  Cert.Reference4Ideal.Ref.data (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) b

theorem seq_lt : ∀ t : Fin grid0.N, (grid0.coords t 0).val < 8 := by decide +kernel

theorem tile_lt : ∀ t : Fin grid0.N, (grid0.coords t 1).val < 4 := by decide +kernel

/-- The sequence of a grid point. -/
def seq : Fin 8 := ⟨(grid0.coords t 0).val, seq_lt t⟩

/-! What the host makes of the gains and of the transposed matrices, at an index. -/

theorem gain_in (i : Fin 1) (k : Fin 1024) : V m c main_v51 (ix2 i k) = m ((c : Thread nD τ).loc main_arg2) (ix1 k) := by
  have e : V m c main_v51 = shapeCast S1x1024 ((m ((c : Thread nD τ).loc main_arg2)) : Vec Ideal S1024 .f32) shapeCasts_S1024_S1x1024 := rfl
  rw [e]
  pointwise

theorem gain_q (i : Fin 1) (k : Fin 512) : V m c main_v52 (ix2 i k) = m ((c : Thread nD τ).loc main_arg4) (ix1 k) := by
  have e : V m c main_v52 = shapeCast S1x512 ((m ((c : Thread nD τ).loc main_arg4)) : Vec Ideal S512 .f32) shapeCasts_S512_S1x512 := rfl
  rw [e]
  pointwise

theorem gain_kv (i : Fin 1) (k : Fin 256) : V m c main_v53 (ix2 i k) = m ((c : Thread nD τ).loc main_arg7) (ix1 k) := by
  have e : V m c main_v53 = shapeCast S1x256 ((m ((c : Thread nD τ).loc main_arg7)) : Vec Ideal S256 .f32) shapeCasts_S256_S1x256 := rfl
  rw [e]
  pointwise

theorem matrix_q (q : Fin 1536) (k : Fin 512) : V m c main_v14 (ix2 q k) = m ((c : Thread nD τ).loc main_arg5) (ix2 k q) := by
  have e : V m c main_v14 = truncf (F := Ideal) .bf16 (transpose S1536x512 [1, 0] ((m ((c : Thread nD τ).loc main_arg5)) : Vec Ideal S512x1536 .f32) transposes_S512x1536_S1536x512_1_0) bitsLt_bf16_f32 := rfl
  rw [e]
  pointwise

theorem matrix_v (q : Fin 1024) (k : Fin 256) : V m c main_v20 (ix2 q k) = m ((c : Thread nD τ).loc main_arg9) (ix2 k q) := by
  have e : V m c main_v20 = truncf (F := Ideal) .bf16 (transpose S1024x256 [1, 0] ((m ((c : Thread nD τ).loc main_arg9)) : Vec Ideal S256x1024 .f32) transposes_S256x1024_S1024x256_1_0) bitsLt_bf16_f32 := rfl
  rw [e]
  pointwise

/-! The blocks a point finds, by elements of the arguments and of what the host computes. -/

theorem blk0 (i : Fin 1) (r : Fin 512) (k : Fin 1024) (s : Fin 2048) (hs : s.val = 512 * (grid0.coords t 1).val + r) :
    iblk m c 0 t (ix3 i r k) = (layer m c (seq t)).x s k := by
  change _ = m ((c : Thread nD τ).loc main_arg0) (ix3 (seq t) s k)
  unfold seq
  blk_ext [iblk, V, idx t]

theorem blk1 (i : Fin 1) (r : Fin 2) (k : Fin 1024) : iblk m c 1 t (ix3 i r k) = (layer m c (seq t)).md r k := by
  change _ = m ((c : Thread nD τ).loc main_arg1) (ix3 (seq t) r k)
  unfold seq
  blk_ext [iblk, V, idx t]

theorem blk2 (i : Fin 1) (k : Fin 1024) : iblk m c 2 t (ix2 i k) = (layer m c (seq t)).g k := by
  refine Eq.trans ?_ (gain_in m c i k)
  blk_ext [iblk, idx t]

theorem blk3 (k : Fin 1024) (q : Fin 1024) :
    iblk m c 3 t (ix2 k q) = packedMatrix (m ((c : Thread nD τ).loc main_arg3)) (m ((c : Thread nD τ).loc main_arg6)) (ix2 k q) := by
  rw [← packed_matrix_eq m c]
  blk_ext [iblk, idx t]

theorem blk4 (i : Fin 1) (k : Fin 512) : iblk m c 4 t (ix2 i k) = (layer m c (seq t)).gq k := by
  refine Eq.trans ?_ (gain_q m c i k)
  blk_ext [iblk, idx t]

theorem blk5 (q : Fin 1536) (k : Fin 512) : iblk m c 5 t (ix2 q k) = (layer m c (seq t)).wuq k q := by
  refine Eq.trans ?_ (matrix_q m c q k)
  blk_ext [iblk, idx t]

theorem blk6 (i : Fin 1) (k : Fin 256) : iblk m c 6 t (ix2 i k) = (layer m c (seq t)).gkv k := by
  refine Eq.trans ?_ (gain_kv m c i k)
  blk_ext [iblk, idx t]

theorem blk7 (k : Fin 256) (q : Fin 2048) : iblk m c 7 t (ix2 k q) = keyMatrix (m ((c : Thread nD τ).loc main_arg8)) (ix2 k q) := by
  rw [← key_matrix_eq m c]
  blk_ext [iblk, idx t]

theorem blk8 (q : Fin 1024) (k : Fin 256) : iblk m c 8 t (ix2 q k) = (layer m c (seq t)).wuv k q := by
  refine Eq.trans ?_ (matrix_v m c q k)
  blk_ext [iblk, idx t]

section

variable (s : Fin 2048)

theorem blk9 (r : Fin 512) (q : Fin 128) (hs : s.val = 512 * (grid0.coords t 1).val + r) :
    iblk m c 9 t (ix2 r q) = laneRow ((layer m c (seq t)).cs s) q := by
  refine Eq.trans ?_ ((congrFun (cos_lanes_eq m c) (ix2 s q)).trans (table_at _ s q))
  blk_ext [iblk, idx t]

theorem blk10 (r : Fin 512) (q : Fin 128) (hs : s.val = 512 * (grid0.coords t 1).val + r) :
    iblk m c 10 t (ix2 r q) = laneRow ((layer m c (seq t)).sn s) q := by
  refine Eq.trans ?_ ((congrFun (sin_lanes_eq m c) (ix2 s q)).trans (table_at _ s q))
  blk_ext [iblk, idx t]

theorem cos_rows_at (q : Fin 32) : V m c main_v56 (ix2 q s) = (layer m c (seq t)).cs s q := by
  rw [cos_rows_eq m c]
  change _ = Cert.Reference4Ideal.Read.val_main_v28 (F := Ideal) (ix2 s q)
  pointwise

theorem blk11 (q : Fin 32) (r : Fin 512) (hs : s.val = 512 * (grid0.coords t 1).val + r) :
    iblk m c 11 t (ix2 q r) = (layer m c (seq t)).cs s q := by
  refine Eq.trans ?_ (cos_rows_at m c t s q)
  blk_ext [iblk, idx t]

theorem blk12 (q : Fin 32) (r : Fin 512) (hs : s.val = 512 * (grid0.coords t 1).val + r) :
    iblk m c 12 t (ix2 q r) = (layer m c (seq t)).sn s q * Mla.sgn q := by
  refine Eq.trans ?_ ((congrFun (sin_rows_eq m c) (ix2 q s)).trans (signed_at _ q s))
  blk_ext [iblk, idx t]

end

/-- A load from a buffer holding `X`. -/
theorem load_at {s : Shape} {e : EltTy} {M : Memref sig .tc .vmem s e} {h : M.IsWhole} {X : s.Idx → Elt Ideal e} {off size : Fin s.rank → ℕ}
    {inb : ∀ a, off a + size a ≤ s.size a} {x : (Rect.unit off size inb).shape.Idx} (i : s.Idx) (hi : ∀ a, (i a : ℕ) = off a + x a) :
    View.readAt (Elt Ideal) M.view (Rect.unit off size inb).toLoadRect (h.unread X) x = X i := by
  rw [View.readAt_eq_ld, h.read_unread]
  exact View.ld_unit_apply_of X off size inb x i hi

section

variable (a2 : Memref sig .tc .vmem S1x512x1024 .f32) (h2 : a2.IsWhole) (a3 : Memref sig .tc .vmem S1x2x1024 .f32) (h3 : a3.IsWhole) (a4 : Memref sig .tc .vmem S1x1024 .f32) (h4 : a4.IsWhole) (a5 : Memref sig .tc .vmem S1024x1024 .bf16) (h5 : a5.IsWhole) (a6 : Memref sig .tc .vmem S1x512 .f32) (h6 : a6.IsWhole) (a7 : Memref sig .tc .vmem S1536x512 .bf16) (h7 : a7.IsWhole) (a8 : Memref sig .tc .vmem S1x256 .f32) (h8 : a8.IsWhole) (a9 : Memref sig .tc .vmem S256x2048 .bf16) (h9 : a9.IsWhole) (a10 : Memref sig .tc .vmem S1024x256 .bf16) (h10 : a10.IsWhole) (a11 : Memref sig .tc .vmem S512x128 .f32) (h11 : a11.IsWhole) (a12 : Memref sig .tc .vmem S512x128 .f32) (h12 : a12.IsWhole) (a13 : Memref sig .tc .vmem S32x512 .f32) (h13 : a13.IsWhole) (a14 : Memref sig .tc .vmem S32x512 .f32) (h14 : a14.IsWhole)

set_option maxHeartbeats 4000000 in
/-- What a grid point loads from its buffers is the layer's data. -/
theorem reads_at : Reads (layer m c (seq t)) (grid0.coords t 1).val
    (View.readAt (Elt Ideal) a2.view (Rect.unit (s := S1x512x1024) ![0, 0, 0] S1x512x1024.size (by decide)).toLoadRect (h2.unread (iblk m c 0 t)))
    (View.readAt (Elt Ideal) a4.view (Rect.unit (s := S1x1024) ![0, 0] S1x1024.size (by decide)).toLoadRect (h4.unread (iblk m c 2 t)))
    (View.readAt (Elt Ideal) a3.view (Rect.unit (s := S1x2x1024) ![0, 1, 0] S1x1x1024.size (by decide)).toLoadRect (h3.unread (iblk m c 1 t)))
    (View.readAt (Elt Ideal) a3.view (Rect.unit (s := S1x2x1024) ![0, 0, 0] S1x1x1024.size (by decide)).toLoadRect (h3.unread (iblk m c 1 t)))
    (View.readAt (Elt Ideal) a5.view (Rect.unit (s := S1024x1024) ![0, 0] S1024x1024.size (by decide)).toLoadRect (h5.unread (iblk m c 3 t)))
    (View.readAt (Elt Ideal) a6.view (Rect.unit (s := S1x512) ![0, 0] S1x512.size (by decide)).toLoadRect (h6.unread (iblk m c 4 t)))
    (View.readAt (Elt Ideal) a7.view (Rect.unit (s := S1536x512) ![0, 0] S1536x512.size (by decide)).toLoadRect (h7.unread (iblk m c 5 t)))
    (View.readAt (Elt Ideal) a8.view (Rect.unit (s := S1x256) ![0, 0] S1x256.size (by decide)).toLoadRect (h8.unread (iblk m c 6 t)))
    (View.readAt (Elt Ideal) a9.view (Rect.unit (s := S256x2048) ![0, 0] S256x2048.size (by decide)).toLoadRect (h9.unread (iblk m c 7 t)))
    (View.readAt (Elt Ideal) a10.view (Rect.unit (s := S1024x256) ![0, 0] S1024x256.size (by decide)).toLoadRect (h10.unread (iblk m c 8 t)))
    (View.readAt (Elt Ideal) a11.view (Rect.unit (s := S512x128) ![0, 0] S512x128.size (by decide)).toLoadRect (h11.unread (iblk m c 9 t)))
    (View.readAt (Elt Ideal) a12.view (Rect.unit (s := S512x128) ![0, 0] S512x128.size (by decide)).toLoadRect (h12.unread (iblk m c 10 t)))
    (View.readAt (Elt Ideal) a13.view (Rect.unit (s := S32x512) ![0, 0] S32x512.size (by decide)).toLoadRect (h13.unread (iblk m c 11 t)))
    (View.readAt (Elt Ideal) a14.view (Rect.unit (s := S32x512) ![0, 0] S32x512.size (by decide)).toLoadRect (h14.unread (iblk m c 12 t))) := by
  constructor
  case lt => exact tile_lt t
  case x => intro r s hs k; exact (load_at (ix3 0 r k) (by intro a; fin_cases a <;> simp)).trans (blk0 m c t 0 r k s hs)
  case g => intro k; exact (load_at (ix2 0 k) (by intro a; fin_cases a <;> simp)).trans (blk2 m c t 0 k)
  case sc => intro k; exact (load_at (ix3 0 1 k) (by intro a; fin_cases a <;> simp)).trans (blk1 m c t 0 1 k)
  case sh => intro k; exact (load_at (ix3 0 0 k) (by intro a; fin_cases a <;> simp)).trans (blk1 m c t 0 0 k)
  case wdq => intro k q; exact (load_at (ix2 k ⟨q, by omega⟩) (by intro a; fin_cases a <;> simp)).trans ((blk3 m c t k ⟨q, by omega⟩).trans (packed_query _ _ k q (by omega)))
  case wkv => intro k q; exact (load_at (ix2 k ⟨512 + q, by omega⟩) (by intro a; fin_cases a <;> simp)).trans ((blk3 m c t k ⟨512 + q, by omega⟩).trans (packed_latent _ _ k q (by omega) (by omega)))
  case wpe =>
    intro k q
    exact (load_at (ix2 k ⟨768 + (64 + q), by omega⟩) (by intro a; fin_cases a <;> simp)).trans ((blk3 m c t k ⟨768 + (64 + q), by omega⟩).trans ((packed_pe _ _ k ⟨64 + q, by omega⟩ (by dsimp only; omega)).trans (laneRow_in _ q (by omega))))
  case wpe0 =>
    intro k q hq
    exact (load_at (ix2 k ⟨768 + q, by omega⟩) (by intro a; fin_cases a <;> simp)).trans ((blk3 m c t k ⟨768 + q, by omega⟩).trans ((packed_pe _ _ k q (by omega)).trans (laneRow_out _ q hq)))
  case wrot =>
    intro k q
    exact (load_at (ix2 k ⟨896 + (64 + q), by omega⟩) (by intro a; fin_cases a <;> simp)).trans ((blk3 m c t k ⟨896 + (64 + q), by omega⟩).trans ((packed_rot _ _ k ⟨64 + q, by omega⟩ (by dsimp only; omega)).trans (laneRow_in _ q (by omega))))
  case wrot0 =>
    intro k q hq
    exact (load_at (ix2 k ⟨896 + q, by omega⟩) (by intro a; fin_cases a <;> simp)).trans ((blk3 m c t k ⟨896 + q, by omega⟩).trans ((packed_rot _ _ k q (by omega)).trans (laneRow_out _ q hq)))
  case gq => intro k; exact (load_at (ix2 0 k) (by intro a; fin_cases a <;> simp)).trans (blk4 m c t 0 k)
  case wq => intro q k; exact (load_at (ix2 q k) (by intro a; fin_cases a <;> simp)).trans (blk5 m c t q k)
  case gkv => intro k; exact (load_at (ix2 0 k) (by intro a; fin_cases a <;> simp)).trans (blk6 m c t 0 k)
  case wuk => intro k h i; exact (load_at (ix2 k ⟨128 * h + i, by omega⟩) (by intro a; fin_cases a <;> simp)).trans ((blk7 m c t k ⟨128 * h + i, by omega⟩).trans (key_in _ k h i (by omega) (by omega)))
  case wuk0 => intro k h i hi; exact (load_at (ix2 k ⟨128 * h + i, by omega⟩) (by intro a; fin_cases a <;> simp)).trans ((blk7 m c t k ⟨128 * h + i, by omega⟩).trans (key_out _ k h i hi (by omega)))
  case wv => intro q k; exact (load_at (ix2 q k) (by intro a; fin_cases a <;> simp)).trans (blk8 m c t q k)
  case ck => intro r s hs q; exact (load_at (ix2 r ⟨64 + q, by omega⟩) (by intro a; fin_cases a <;> simp)).trans ((blk9 m c t s r ⟨64 + q, by omega⟩ hs).trans (laneRow_in _ q (by omega)))
  case sk => intro r s hs q; exact (load_at (ix2 r ⟨64 + q, by omega⟩) (by intro a; fin_cases a <;> simp)).trans ((blk10 m c t s r ⟨64 + q, by omega⟩ hs).trans (laneRow_in _ q (by omega)))
  case cq => intro r s hs q; exact (load_at (ix2 q r) (by intro a; fin_cases a <;> simp)).trans (blk11 m c t s q r hs)
  case sq => intro r s hs q; exact (load_at (ix2 q r) (by intro a; fin_cases a <;> simp)).trans (blk12 m c t s q r hs)

end

/-- The same of the buffers that the point has. -/
theorem buffers_at : Reads (layer m c (seq t)) (grid0.coords t 1).val
    (View.readAt (Elt Ideal) (ms0_0 t).view (Rect.unit (s := S1x512x1024) ![0, 0, 0] S1x512x1024.size (by decide)).toLoadRect ((hs0_0 t).unread (iblk m c 0 t)))
    (View.readAt (Elt Ideal) (ms0_2 t).view (Rect.unit (s := S1x1024) ![0, 0] S1x1024.size (by decide)).toLoadRect ((hs0_2 t).unread (iblk m c 2 t)))
    (View.readAt (Elt Ideal) (ms0_1 t).view (Rect.unit (s := S1x2x1024) ![0, 1, 0] S1x1x1024.size (by decide)).toLoadRect ((hs0_1 t).unread (iblk m c 1 t)))
    (View.readAt (Elt Ideal) (ms0_1 t).view (Rect.unit (s := S1x2x1024) ![0, 0, 0] S1x1x1024.size (by decide)).toLoadRect ((hs0_1 t).unread (iblk m c 1 t)))
    (View.readAt (Elt Ideal) (ms0_3 t).view (Rect.unit (s := S1024x1024) ![0, 0] S1024x1024.size (by decide)).toLoadRect ((hs0_3 t).unread (iblk m c 3 t)))
    (View.readAt (Elt Ideal) (ms0_4 t).view (Rect.unit (s := S1x512) ![0, 0] S1x512.size (by decide)).toLoadRect ((hs0_4 t).unread (iblk m c 4 t)))
    (View.readAt (Elt Ideal) (ms0_5 t).view (Rect.unit (s := S1536x512) ![0, 0] S1536x512.size (by decide)).toLoadRect ((hs0_5 t).unread (iblk m c 5 t)))
    (View.readAt (Elt Ideal) (ms0_6 t).view (Rect.unit (s := S1x256) ![0, 0] S1x256.size (by decide)).toLoadRect ((hs0_6 t).unread (iblk m c 6 t)))
    (View.readAt (Elt Ideal) (ms0_7 t).view (Rect.unit (s := S256x2048) ![0, 0] S256x2048.size (by decide)).toLoadRect ((hs0_7 t).unread (iblk m c 7 t)))
    (View.readAt (Elt Ideal) (ms0_8 t).view (Rect.unit (s := S1024x256) ![0, 0] S1024x256.size (by decide)).toLoadRect ((hs0_8 t).unread (iblk m c 8 t)))
    (View.readAt (Elt Ideal) (ms0_9 t).view (Rect.unit (s := S512x128) ![0, 0] S512x128.size (by decide)).toLoadRect ((hs0_9 t).unread (iblk m c 9 t)))
    (View.readAt (Elt Ideal) (ms0_10 t).view (Rect.unit (s := S512x128) ![0, 0] S512x128.size (by decide)).toLoadRect ((hs0_10 t).unread (iblk m c 10 t)))
    (View.readAt (Elt Ideal) (ms0_11 t).view (Rect.unit (s := S32x512) ![0, 0] S32x512.size (by decide)).toLoadRect ((hs0_11 t).unread (iblk m c 11 t)))
    (View.readAt (Elt Ideal) (ms0_12 t).view (Rect.unit (s := S32x512) ![0, 0] S32x512.size (by decide)).toLoadRect ((hs0_12 t).unread (iblk m c 12 t))) :=
  reads_at m c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)

/-- What a grid point leaves in the queries' block. -/
theorem q_at (y : S1x16x128x512.Idx) (s : Fin 2048) (h : s.val = 512 * (grid0.coords t 1).val + (y 3).val) :
    (outsAt0 m c t).1 y = Mla.qAt (layer m c (seq t)) (y 1) (y 2) s := by
  unfold outsAt0 out0_A_13
  dsimp only
  rw [View.read_writes_junk_eq_canon, stores_q]
  exact q_tile (buffers_at m c t) y s h

/-- What a grid point leaves in the keys' block. -/
theorem k_at (hd : ∀ b, (layer m c b).Finite) (y : S1x16x512x128.Idx) (s : Fin 2048) (h : s.val = 512 * (grid0.coords t 1).val + (y 2).val) :
    (outsAt0 m c t).2.1 y = Mla.kAt (layer m c (seq t)) (y 1) s (y 3) := by
  unfold outsAt0 out0_A_14
  dsimp only
  rw [View.read_writes_junk_eq_canon, stores_k]
  exact k_tile (buffers_at m c t) (hd _) y s h

/-- What a grid point leaves in the values' block. -/
theorem v_at (y : S1x16x64x512.Idx) (s : Fin 2048) (h : s.val = 512 * (grid0.coords t 1).val + (y 3).val) :
    (outsAt0 m c t).2.2 y = Mla.vAt (layer m c (seq t)) (y 1) (y 2) s := by
  unfold outsAt0 out0_A_15
  dsimp only
  rw [View.read_writes_junk_eq_canon, stores_v]
  exact v_tile (buffers_at m c t) y s h

/-- The queries as an array. -/
def qResult (u : S8x16x128x2048.Idx) : EReal := Mla.qAt (layer m c (u 0)) (u 1) (u 2) (u 3)

/-- The keys as an array. -/
def kResult (u : S8x16x2048x128.Idx) : EReal := Mla.kAt (layer m c (u 0)) (u 1) (u 2) (u 3)

/-- The values as an array. -/
def vResult (u : S8x16x64x2048.Idx) : EReal := Mla.vAt (layer m c (u 0)) (u 1) (u 2) (u 3)

/-- Where an element of a grid point's block of the queries lies in the array. -/
theorem emb_q (a : Fin 1) (h : Fin 16) (i : Fin 128) (r : Fin 512) (hr : 512 * (grid0.coords t 1).val + r < 2048) :
    ((cfg0.win 13).blk t).view.emb (ix4 a h i r) = ix4 (seq t) h i ⟨512 * (grid0.coords t 1).val + r, hr⟩ := by
  unfold seq
  blk_ext [idx t]

/-- Where an element of a grid point's block of the keys lies in the array. -/
theorem emb_k (a : Fin 1) (h : Fin 16) (r : Fin 512) (i : Fin 128) (hr : 512 * (grid0.coords t 1).val + r < 2048) :
    ((cfg0.win 14).blk t).view.emb (ix4 a h r i) = ix4 (seq t) h ⟨512 * (grid0.coords t 1).val + r, hr⟩ i := by
  unfold seq
  blk_ext [idx t]

/-- Where an element of a grid point's block of the values lies in the array. -/
theorem emb_v (a : Fin 1) (h : Fin 16) (i : Fin 64) (r : Fin 512) (hr : 512 * (grid0.coords t 1).val + r < 2048) :
    ((cfg0.win 15).blk t).view.emb (ix4 a h i r) = ix4 (seq t) h i ⟨512 * (grid0.coords t 1).val + r, hr⟩ := by
  unfold seq
  blk_ext [idx t]

theorem written_q (y : S1x16x128x512.Idx) : (dats m 0 c).after 13 t y = qResult m c (((cfg0.win 13).blk t).view.emb y) := by
  rw [after0_13]
  idx_vars y
  have hs := tile_lt t
  rw [emb_q t y0 y1 y2 y3 (by omega)]
  exact q_at m c t (ix4 y0 y1 y2 y3) ⟨512 * (grid0.coords t 1).val + y3, by omega⟩ rfl

theorem written_k (hd : ∀ b, (layer m c b).Finite) (y : S1x16x512x128.Idx) :
    (dats m 0 c).after 14 t y = kResult m c (((cfg0.win 14).blk t).view.emb y) := by
  rw [after0_14]
  idx_vars y
  have hs := tile_lt t
  rw [emb_k t y0 y1 y2 y3 (by omega)]
  exact k_at m c t hd (ix4 y0 y1 y2 y3) ⟨512 * (grid0.coords t 1).val + y2, by omega⟩ rfl

theorem written_v (y : S1x16x64x512.Idx) : (dats m 0 c).after 15 t y = vResult m c (((cfg0.win 15).blk t).view.emb y) := by
  rw [after0_15]
  idx_vars y
  have hs := tile_lt t
  rw [emb_v t y0 y1 y2 y3 (by omega)]
  exact v_at m c t (ix4 y0 y1 y2 y3) ⟨512 * (grid0.coords t 1).val + y3, by omega⟩ rfl

/-- The queries after the launch. -/
theorem q_eq : (dats m 0 c).arrAt 13 cfg0.N = qResult m c :=
  (dats m 0 c).arrAt_eq_of_covers 13 _ (by decide +kernel) fun t _ y => written_q m c t y

/-- The keys after the launch. -/
theorem k_eq (hd : ∀ b, (layer m c b).Finite) : (dats m 0 c).arrAt 14 cfg0.N = kResult m c :=
  (dats m 0 c).arrAt_eq_of_covers 14 _ (by decide +kernel) fun t _ y => written_k m c t hd y

/-- The values after the launch. -/
theorem v_eq : (dats m 0 c).arrAt 15 cfg0.N = vResult m c :=
  (dats m 0 c).arrAt_eq_of_covers 15 _ (by decide +kernel) fun t _ y => written_v m c t y

end Cert.Kernel4Ideal.Block

end
-- ==== Proof.MlaClaims.lean ====
/- The claims about the launch that projects latent attention's queries, keys and values: the frames, the idealization and
   the values. -/
module

public import proofs.«01_k».proof.Defs
public import proofs.«01_k».proof.Proof.AttnClaims
public import proofs.«01_k».proof.Proof.MlaArray
public import proofs.«01_k».proof.Proof.Gen.Kernel4
public import proofs.«01_k».proof.Proof.Gen.Kernel4.Frame
public import proofs.«01_k».proof.Proof.Gen.Kernel4Ideal
public import proofs.«01_k».proof.Proof.Gen.Pre_finite_turn
public import proofs.«01_k».proof.Proof.Gen.Reference4Ideal
public import proofs.«01_k».proof.Proof.Gen.Reference4Ideal.Run
public import Idealize.ShloMosaic.Lib.Quiescent
public import Idealize.ShloMosaic.Lib.ReduceAll

@[expose] public section

set_option maxRecDepth 16384

noncomputable section

namespace Cert.Proof.MlaClaims

open Idealize.ShloMosaic Idealize.ShloMosaic.TcCoe Idealize.SL.Sem

theorem frame_p : Cert.quiescent_Kernel4 := fun m ρ _ => Cert.Kernel4.Gen.frame m ρ

theorem frame_pi : Cert.quiescent_Kernel4Ideal := fun m ρ _ => Cert.Kernel4Ideal.Gen.frame m ρ

theorem frame_pi_finite : Cert.quiescent_Kernel4Ideal_pre_finite_turn := fun m ρ _ => Cert.Kernel4Ideal.Gen.frame m ρ

theorem frame_ri : Cert.quiescent_Reference4Ideal := fun m ρ _ =>
  (θ_run Cert.Reference4Ideal.defs _ _).mono (fun r h => ⟨fun c => (h c).2.2.2, Idealize.ShloMosaic.sem_eq_zero_of_no_sems (by decide) r.2⟩)
    (Cert.Reference4Ideal.Value.run (F := Ideal) m ρ)

theorem frame_ri_finite : Cert.quiescent_Reference4Ideal_pre_finite_turn := fun m ρ _ => frame_ri m ρ trivial

theorem preserves : Cert.preserves_Kernel4_Kernel4Ideal := trivial

/-- An extended real whose absolute value is less than infinity is a real number. -/
theorem isReal_of {x : EReal} (h : x ≠ ⊤ ∧ x ≠ ⊥) : Mla.IsReal x := ⟨_, (EReal.coe_toReal h.1 h.2).symm⟩

/-- The precondition says that the modulation, the input norm's gain and the columns of the rotary key are real numbers. -/
theorem data_finite (x0 x1 x2 x3 x4 x5 x6 x7 x8 x9) (h : Cert.Pre_finite_turn.fn (F := Ideal) x0 x1 x2 x3 x4 x5 x6 x7 x8 x9 = fun _ => 1#1) (b : Fin 8) :
    (Cert.Reference4Ideal.Ref.data x0 x1 x2 x3 x4 x5 x6 x7 x8 x9 b).Finite := by
  have e := congrFun h (fun a => a.elim0)
  simp only [Cert.Pre_finite_turn.fn] at e
  obtain ⟨e, e6⟩ := AttnClaims.andi_one e
  obtain ⟨e1, e2⟩ := AttnClaims.andi_one e
  haveI : Subsingleton Cert.Pre_finite_turn.S_.Idx := ⟨fun a b => funext fun d => d.elim0⟩
  refine ⟨fun i k => isReal_of (AttnClaims.abs_lt_inf (Host.reduce_andi_all _ _ _ _ _ e1 (ix3 b i k))),
    fun k => isReal_of (AttnClaims.abs_lt_inf (Host.reduce_andi_all _ _ _ _ _ e2 (ix1 k))),
    fun k q => isReal_of ?_⟩
  have h6 := AttnClaims.abs_lt_inf (Host.reduce_andi_all _ _ _ _ _ e6 (ix2 k q))
  refine Eq.mp (congrArg (fun x : EReal => x ≠ ⊤ ∧ x ≠ ⊥) ?_) h6
  pointwise [Cert.Reference4Ideal.Ref.data]

/-- At every index the launch's arrays and the reference's results are the layer's results there. -/
theorem algebraic : Cert.algebraic_Kernel4Ideal_Reference4Ideal_pre_finite_turn := by
  intro m ρ m' ρ' hpre hagree
  have hf : ∀ c b, (Cert.Kernel4Ideal.Block.layer m c b).Finite := fun c b => data_finite _ _ _ _ _ _ _ _ _ _ (hpre c) b
  refine ⟨fun c => Cert.Kernel4Ideal.Block.qResult m c, fun c => Cert.Kernel4Ideal.Block.kResult m c, fun c => Cert.Kernel4Ideal.Block.vResult m c,
    (θ_run Cert.Kernel4Ideal.defs _ _).mono
      (fun _ h c => ⟨(h c).1.trans (Cert.Kernel4Ideal.Block.q_eq m c), (h c).2.1.trans (Cert.Kernel4Ideal.Block.k_eq m c (hf c)),
        (h c).2.2.1.trans (Cert.Kernel4Ideal.Block.v_eq m c), (h c).2.2.2⟩)
      (Cert.Kernel4Ideal.Value.run_blocks (F := Ideal) m ρ), ?_⟩
  have hd : ∀ c : Dev Cert.Reference4Ideal.nD, ∀ b, Cert.Reference4Ideal.Ref.data (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) b = Cert.Kernel4Ideal.Block.layer m c b := by
    intro c b
    obtain ⟨e0, e1, e2, e3, e4, e5, e6, e7, e8, e9⟩ := hagree c
    rw [e0, e1, e2, e3, e4, e5, e6, e7, e8, e9]
    rfl
  refine (θ_run Cert.Reference4Ideal.defs _ _).mono (fun _ h c => ⟨(h c).1.trans ?_, (h c).2.1.trans ?_, (h c).2.2.1.trans ?_, (h c).2.2.2⟩)
    (Cert.Reference4Ideal.Value.run (F := Ideal) m' ρ')
  · refine (Cert.Reference4Ideal.Read.val_main_v129_eq (F := Ideal) _ _).trans ?_
    funext u
    idx_vars u
    exact (Cert.Reference4Ideal.Ref.v129_at _ _ _ _ _ _ _ _ _ _ u0 u1 u2 u3).trans (congrArg (fun d => Mla.qAt d u1 u2 u3) (hd c u0))
  · refine (Cert.Reference4Ideal.Read.val_main_v132_eq (F := Ideal) _ _).trans ?_
    funext u
    idx_vars u
    exact (Cert.Reference4Ideal.Ref.v132_at _ _ _ _ _ _ _ _ _ _ u0 u1 u2 u3).trans (congrArg (fun d => Mla.kAt d u1 u2 u3) (hd c u0))
  · refine (Cert.Reference4Ideal.Read.val_main_v134_eq (F := Ideal) _ _).trans ?_
    funext u
    idx_vars u
    exact (Cert.Reference4Ideal.Ref.v134_at _ _ _ _ _ _ _ _ _ _ u0 u1 u2 u3).trans (congrArg (fun d => Mla.vAt d u1 u2 u3) (hd c u0))

end Cert.Proof.MlaClaims

end
-- ==== Proof.lean ====
/- The claims of this certificate, put together from their modules. -/
module

public import proofs.«01_k».proof.Defs
public import proofs.«01_k».proof.Proof.AttnClaims
public import proofs.«01_k».proof.Proof.FfnClaims
public import proofs.«01_k».proof.Proof.HyClaims
public import proofs.«01_k».proof.Proof.MlaClaims
public import proofs.«01_k».proof.Proof.Gen.Pre_finite
public import proofs.«01_k».proof.Proof.Gen.Kernel
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal
public import proofs.«01_k».proof.Proof.Gen.Pre_finite_taps
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_turn
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite.Gen.facts, Cert.Pre_finite_taps.Gen.facts, Cert.Pre_finite_turn.Gen.facts,
    AttnClaims.frame_p, AttnClaims.frame_pi, AttnClaims.frame_pi_finite, AttnClaims.frame_ri, AttnClaims.frame_ri_finite,
    FfnClaims.frame_p, FfnClaims.frame_pi, FfnClaims.frame_ri,
    HyClaims.frame_p, HyClaims.frame_pi, HyClaims.frame_pi_finite, HyClaims.frame_ri, HyClaims.frame_ri_finite,
    MlaClaims.frame_p, MlaClaims.frame_pi, MlaClaims.frame_pi_finite, MlaClaims.frame_ri, MlaClaims.frame_ri_finite,
    AttnClaims.preserves, AttnClaims.algebraic, FfnClaims.preserves, FfnClaims.algebraic, HyClaims.preserves, HyClaims.algebraic,
    MlaClaims.preserves, MlaClaims.algebraic⟩

end Cert.Proof

end
